-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_bounded [hPre_gates_bounded : Cert.Pre_gates_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_gates_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_gates_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_gates_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_bounded [hPre_gates_bounded : Cert.Pre_gates_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_gates_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_gates_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Qkvr (m : (ℓ : Loc Cert.Qkvr.nD Cert.Qkvr.τ Cert.Qkvr.sig) → Buf (Elt Bits) ℓ) : Prop :=
  True

def Pre_QkvrIdeal (m : (ℓ : Loc Cert.QkvrIdeal.nD Cert.QkvrIdeal.τ Cert.QkvrIdeal.sig) → Buf (Elt Ideal) ℓ) : Prop :=
  True

def Pre_QkvrReferenceIdeal (m : (ℓ : Loc Cert.QkvrReferenceIdeal.nD Cert.QkvrReferenceIdeal.τ Cert.QkvrReferenceIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierReferenceIdeal (m : (ℓ : Loc Cert.FourierReferenceIdeal.nD Cert.FourierReferenceIdeal.τ Cert.FourierReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates_bounded [hKernelIdeal : Cert.KernelIdeal.Facts] [hPre_gates_bounded : Cert.Pre_gates_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates_bounded [hReferenceIdeal : Cert.ReferenceIdeal.Facts] [hPre_gates_bounded : Cert.Pre_gates_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Qkvr [hQkvr : Cert.Qkvr.Facts] : Prop :=
  ∀ (m : (ℓ : Loc Cert.Qkvr.nD Cert.Qkvr.τ Cert.Qkvr.sig) → Buf (Elt Bits) ℓ) (g : Dev Cert.Qkvr.nD → PrngReg), Pre_Qkvr m →
    θ_run (Cert.Qkvr.defs (F := Bits)) (onTc (τ := Cert.Qkvr.τ) (Cert.Qkvr.main (F := Bits))) ⟨m, fun _ => 0, g⟩ (fun r => (∀ c : Dev Cert.Qkvr.nD,
      r.2.mem ((c.tc : Thread Cert.Qkvr.nD Cert.Qkvr.τ).loc Cert.Qkvr.main_arg0) = m ((c.tc : Thread Cert.Qkvr.nD Cert.Qkvr.τ).loc Cert.Qkvr.main_arg0)
      ∧ r.2.mem ((c.tc : Thread Cert.Qkvr.nD Cert.Qkvr.τ).loc Cert.Qkvr.main_arg1) = m ((c.tc : Thread Cert.Qkvr.nD Cert.Qkvr.τ).loc Cert.Qkvr.main_arg1))
      ∧ r.2.sem = fun _ => 0)

def quiescent_QkvrIdeal [hQkvrIdeal : Cert.QkvrIdeal.Facts] : Prop :=
  ∀ (m : (ℓ : Loc Cert.QkvrIdeal.nD Cert.QkvrIdeal.τ Cert.QkvrIdeal.sig) → Buf (Elt Ideal) ℓ) (g : Dev Cert.QkvrIdeal.nD → PrngReg), Pre_QkvrIdeal m →
    θ_run (Cert.QkvrIdeal.defs (F := Ideal)) (onTc (τ := Cert.QkvrIdeal.τ) (Cert.QkvrIdeal.main (F := Ideal))) ⟨m, fun _ => 0, g⟩ (fun r => (∀ c : Dev Cert.QkvrIdeal.nD,
      r.2.mem ((c.tc : Thread Cert.QkvrIdeal.nD Cert.QkvrIdeal.τ).loc Cert.QkvrIdeal.main_arg0) = m ((c.tc : Thread Cert.QkvrIdeal.nD Cert.QkvrIdeal.τ).loc Cert.QkvrIdeal.main_arg0)
      ∧ r.2.mem ((c.tc : Thread Cert.QkvrIdeal.nD Cert.QkvrIdeal.τ).loc Cert.QkvrIdeal.main_arg1) = m ((c.tc : Thread Cert.QkvrIdeal.nD Cert.QkvrIdeal.τ).loc Cert.QkvrIdeal.main_arg1))
      ∧ r.2.sem = fun _ => 0)

def quiescent_QkvrReferenceIdeal [hQkvrReferenceIdeal : Cert.QkvrReferenceIdeal.Facts] : Prop :=
  ∀ (m : (ℓ : Loc Cert.QkvrReferenceIdeal.nD Cert.QkvrReferenceIdeal.τ Cert.QkvrReferenceIdeal.sig) → Buf (Elt Ideal) ℓ) (g : Dev Cert.QkvrReferenceIdeal.nD → PrngReg), Pre_QkvrReferenceIdeal m →
    θ_run (Cert.QkvrReferenceIdeal.defs (F := Ideal)) (onTc (τ := Cert.QkvrReferenceIdeal.τ) (Cert.QkvrReferenceIdeal.main (F := Ideal))) ⟨m, fun _ => 0, g⟩ (fun r => (∀ c : Dev Cert.QkvrReferenceIdeal.nD,
      r.2.mem ((c.tc : Thread Cert.QkvrReferenceIdeal.nD Cert.QkvrReferenceIdeal.τ).loc Cert.QkvrReferenceIdeal.main_arg0) = m ((c.tc : Thread Cert.QkvrReferenceIdeal.nD Cert.QkvrReferenceIdeal.τ).loc Cert.QkvrReferenceIdeal.main_arg0)
      ∧ r.2.mem ((c.tc : Thread Cert.QkvrReferenceIdeal.nD Cert.QkvrReferenceIdeal.τ).loc Cert.QkvrReferenceIdeal.main_arg1) = m ((c.tc : Thread Cert.QkvrReferenceIdeal.nD Cert.QkvrReferenceIdeal.τ).loc Cert.QkvrReferenceIdeal.main_arg1))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierReferenceIdeal [hFourierReferenceIdeal : Cert.FourierReferenceIdeal.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def preserves_Kernel_KernelIdeal : Prop :=
  True

def algebraic_KernelIdeal_ReferenceIdeal_pre_gates_bounded [hKernelIdeal : Cert.KernelIdeal.Facts] [hReferenceIdeal : Cert.ReferenceIdeal.Facts] [hPre_gates_bounded : Cert.Pre_gates_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Qkvr_QkvrIdeal : Prop :=
  True

def algebraic_QkvrIdeal_QkvrReferenceIdeal [hQkvrIdeal : Cert.QkvrIdeal.Facts] [hQkvrReferenceIdeal : Cert.QkvrReferenceIdeal.Facts] : Prop :=
  ∀ (m : (ℓ : Loc Cert.QkvrIdeal.nD Cert.QkvrIdeal.τ Cert.QkvrIdeal.sig) → Buf (Elt Ideal) ℓ) (g : Dev Cert.QkvrIdeal.nD → PrngReg)
    (m' : (ℓ : Loc Cert.QkvrReferenceIdeal.nD Cert.QkvrReferenceIdeal.τ Cert.QkvrReferenceIdeal.sig) → Buf (Elt Ideal) ℓ) (g' : Dev Cert.QkvrReferenceIdeal.nD → PrngReg), Pre_QkvrIdeal m →
    (∀ c : Dev Cert.QkvrIdeal.nD,
      m' ((c.tc : Thread Cert.QkvrReferenceIdeal.nD Cert.QkvrReferenceIdeal.τ).loc Cert.QkvrReferenceIdeal.main_arg0) = m ((c.tc : Thread Cert.QkvrIdeal.nD Cert.QkvrIdeal.τ).loc Cert.QkvrIdeal.main_arg0)
      ∧ m' ((c.tc : Thread Cert.QkvrReferenceIdeal.nD Cert.QkvrReferenceIdeal.τ).loc Cert.QkvrReferenceIdeal.main_arg1) = m ((c.tc : Thread Cert.QkvrIdeal.nD Cert.QkvrIdeal.τ).loc Cert.QkvrIdeal.main_arg1)) →
    ∃ (v0 : (c : Dev Cert.QkvrIdeal.nD) → Buf (Elt Ideal) ((c.tc : Thread Cert.QkvrIdeal.nD Cert.QkvrIdeal.τ).loc Cert.QkvrIdeal.main_v1)),
      θ_run (Cert.QkvrIdeal.defs (F := Ideal)) (onTc (τ := Cert.QkvrIdeal.τ) (Cert.QkvrIdeal.main (F := Ideal))) ⟨m, fun _ => 0, g⟩ (fun r => ∀ c : Dev Cert.QkvrIdeal.nD,
          r.2.mem ((c.tc : Thread Cert.QkvrIdeal.nD Cert.QkvrIdeal.τ).loc Cert.QkvrIdeal.main_v1) = v0 c
          ∧ r.2.mem ((c.tc : Thread Cert.QkvrIdeal.nD Cert.QkvrIdeal.τ).loc Cert.QkvrIdeal.main_arg0) = m ((c.tc : Thread Cert.QkvrIdeal.nD Cert.QkvrIdeal.τ).loc Cert.QkvrIdeal.main_arg0)
          ∧ r.2.mem ((c.tc : Thread Cert.QkvrIdeal.nD Cert.QkvrIdeal.τ).loc Cert.QkvrIdeal.main_arg1) = m ((c.tc : Thread Cert.QkvrIdeal.nD Cert.QkvrIdeal.τ).loc Cert.QkvrIdeal.main_arg1))
      ∧ θ_run (Cert.QkvrReferenceIdeal.defs (F := Ideal)) (onTc (τ := Cert.QkvrReferenceIdeal.τ) (Cert.QkvrReferenceIdeal.main (F := Ideal))) ⟨m', fun _ => 0, g'⟩ (fun r => ∀ c : Dev Cert.QkvrReferenceIdeal.nD,
          r.2.mem ((c.tc : Thread Cert.QkvrReferenceIdeal.nD Cert.QkvrReferenceIdeal.τ).loc Cert.QkvrReferenceIdeal.main_v5) = v0 c
          ∧ r.2.mem ((c.tc : Thread Cert.QkvrReferenceIdeal.nD Cert.QkvrReferenceIdeal.τ).loc Cert.QkvrReferenceIdeal.main_arg0) = m' ((c.tc : Thread Cert.QkvrReferenceIdeal.nD Cert.QkvrReferenceIdeal.τ).loc Cert.QkvrReferenceIdeal.main_arg0)
          ∧ r.2.mem ((c.tc : Thread Cert.QkvrReferenceIdeal.nD Cert.QkvrReferenceIdeal.τ).loc Cert.QkvrReferenceIdeal.main_arg1) = m' ((c.tc : Thread Cert.QkvrReferenceIdeal.nD Cert.QkvrReferenceIdeal.τ).loc Cert.QkvrReferenceIdeal.main_arg1))

def preserves_Fourier_FourierIdeal : Prop :=
  True

def algebraic_FourierIdeal_FourierReferenceIdeal [hFourierIdeal : Cert.FourierIdeal.Facts] [hFourierReferenceIdeal : Cert.FourierReferenceIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierReferenceIdeal.nD Cert.FourierReferenceIdeal.τ Cert.FourierReferenceIdeal.sig) → Buf (Elt Ideal) ℓ) (g' : Dev Cert.FourierReferenceIdeal.nD → PrngReg), Pre_FourierIdeal m →
    (∀ c : Dev Cert.FourierIdeal.nD,
      m' ((c.tc : Thread Cert.FourierReferenceIdeal.nD Cert.FourierReferenceIdeal.τ).loc Cert.FourierReferenceIdeal.main_arg0) = m ((c.tc : Thread Cert.FourierIdeal.nD Cert.FourierIdeal.τ).loc Cert.FourierIdeal.main_arg0)
      ∧ m' ((c.tc : Thread Cert.FourierReferenceIdeal.nD Cert.FourierReferenceIdeal.τ).loc Cert.FourierReferenceIdeal.main_arg1) = m ((c.tc : Thread Cert.FourierIdeal.nD Cert.FourierIdeal.τ).loc Cert.FourierIdeal.main_arg1)) →
    ∃ (v0 : (c : Dev Cert.FourierIdeal.nD) → Buf (Elt Ideal) ((c.tc : Thread Cert.FourierIdeal.nD Cert.FourierIdeal.τ).loc Cert.FourierIdeal.main_v1)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v1) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ θ_run (Cert.FourierReferenceIdeal.defs (F := Ideal)) (onTc (τ := Cert.FourierReferenceIdeal.τ) (Cert.FourierReferenceIdeal.main (F := Ideal))) ⟨m', fun _ => 0, g'⟩ (fun r => ∀ c : Dev Cert.FourierReferenceIdeal.nD,
          r.2.mem ((c.tc : Thread Cert.FourierReferenceIdeal.nD Cert.FourierReferenceIdeal.τ).loc Cert.FourierReferenceIdeal.main_v5) = v0 c
          ∧ r.2.mem ((c.tc : Thread Cert.FourierReferenceIdeal.nD Cert.FourierReferenceIdeal.τ).loc Cert.FourierReferenceIdeal.main_arg0) = m' ((c.tc : Thread Cert.FourierReferenceIdeal.nD Cert.FourierReferenceIdeal.τ).loc Cert.FourierReferenceIdeal.main_arg0)
          ∧ r.2.mem ((c.tc : Thread Cert.FourierReferenceIdeal.nD Cert.FourierReferenceIdeal.τ).loc Cert.FourierReferenceIdeal.main_arg1) = m' ((c.tc : Thread Cert.FourierReferenceIdeal.nD Cert.FourierReferenceIdeal.τ).loc Cert.FourierReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v26) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v57) = v0 c
          ∧ r.2.mem ((c.tc : Thread Cert.NormReferenceIdeal.nD Cert.NormReferenceIdeal.τ).loc Cert.NormReferenceIdeal.main_v59) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def Claim : Prop :=
  ∃ (hKernel : Cert.Kernel.Facts) (hKernelIdeal : Cert.KernelIdeal.Facts) (hReferenceIdeal : Cert.ReferenceIdeal.Facts) (hQkvr : Cert.Qkvr.Facts) (hQkvrIdeal : Cert.QkvrIdeal.Facts) (hQkvrReferenceIdeal : Cert.QkvrReferenceIdeal.Facts) (hFourier : Cert.Fourier.Facts) (hFourierIdeal : Cert.FourierIdeal.Facts) (hFourierReferenceIdeal : Cert.FourierReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hPre_gates_bounded : Cert.Pre_gates_bounded.Facts),
    quiescent_Kernel (hKernel := hKernel)
    ∧ quiescent_KernelIdeal (hKernelIdeal := hKernelIdeal)
    ∧ quiescent_KernelIdeal_pre_gates_bounded (hKernelIdeal := hKernelIdeal) (hPre_gates_bounded := hPre_gates_bounded)
    ∧ quiescent_ReferenceIdeal (hReferenceIdeal := hReferenceIdeal)
    ∧ quiescent_ReferenceIdeal_pre_gates_bounded (hReferenceIdeal := hReferenceIdeal) (hPre_gates_bounded := hPre_gates_bounded)
    ∧ quiescent_Qkvr (hQkvr := hQkvr)
    ∧ quiescent_QkvrIdeal (hQkvrIdeal := hQkvrIdeal)
    ∧ quiescent_QkvrReferenceIdeal (hQkvrReferenceIdeal := hQkvrReferenceIdeal)
    ∧ quiescent_Fourier (hFourier := hFourier)
    ∧ quiescent_FourierIdeal (hFourierIdeal := hFourierIdeal)
    ∧ quiescent_FourierReferenceIdeal (hFourierReferenceIdeal := hFourierReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_gates_bounded (hKernelIdeal := hKernelIdeal) (hReferenceIdeal := hReferenceIdeal) (hPre_gates_bounded := hPre_gates_bounded)
    ∧ preserves_Qkvr_QkvrIdeal
    ∧ algebraic_QkvrIdeal_QkvrReferenceIdeal (hQkvrIdeal := hQkvrIdeal) (hQkvrReferenceIdeal := hQkvrReferenceIdeal)
    ∧ preserves_Fourier_FourierIdeal
    ∧ algebraic_FourierIdeal_FourierReferenceIdeal (hFourierIdeal := hFourierIdeal) (hFourierReferenceIdeal := hFourierReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
-- ==== Pre_gates_bounded.lean ====
abbrev S6144x6144 : Shape := ⟨2, ![6144, 6144]⟩
abbrev S6144x128 : Shape := ⟨2, ![6144, 128]⟩
abbrev S16x1024 : Shape := ⟨2, ![16, 1024]⟩
abbrev S1024 : Shape := ⟨1, ![1024]⟩
abbrev S2048 : Shape := ⟨1, ![2048]⟩
abbrev S4096x4096 : Shape := ⟨2, ![4096, 4096]⟩
abbrev S4096x32 : Shape := ⟨2, ![4096, 32]⟩
abbrev S4096x16 : Shape := ⟨2, ![4096, 16]⟩
abbrev S4096x1024 : Shape := ⟨2, ![4096, 1024]⟩
abbrev S1x1024 : Shape := ⟨2, ![1, 1024]⟩
abbrev S_ : Shape := ⟨0, ![]⟩

class Facts : Prop where
  slices_S6144x6144_S4096x4096_0_0 : S6144x6144.Slices ![0, 0] S4096x4096
  bitsLt_bf16_f32 : FTy.bits .bf16 < FTy.bits .f32
  slices_S6144x128_S4096x32_0_0 : S6144x128.Slices ![0, 0] S4096x32
  slices_S4096x32_S4096x16_0_0 : S4096x32.Slices ![0, 0] S4096x16
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x32_S4096x16_0_16 : S4096x32.Slices ![0, 16] S4096x16
  bcast_S_S4096x4096 : S_.BroadcastsInDim S4096x4096 (![] : Fin 0 → Fin S4096x4096.rank)
  bcast_S_S4096x1024 : S_.BroadcastsInDim S4096x1024 (![] : Fin 0 → Fin S4096x1024.rank)
  dot_S4096x16_S16x1024_S4096x1024_1_0_0_1_n_n_wf : DotDims.WF S4096x16 S16x1024 S4096x1024 [1] [0] [0] [1] [] []

variable [Facts]

def dot_S4096x16_S16x1024_S4096x1024_1_0_0_1_n_n : DotDims S4096x16 S16x1024 S4096x1024 where
  lhsContracting := [1]
  rhsContracting := [0]
  lhsNonContracting := [0]
  rhsNonContracting := [1]
  lhsBatch := []
  rhsBatch := []
  wf := dot_S4096x16_S16x1024_S4096x1024_1_0_0_1_n_n_wf
def fn {F : FTy → Type} [FloatOps F] (main_arg0 : FVec F S6144x6144 .bf16) (main_arg1 : FVec F S6144x128 .bf16) (main_arg2 : FVec F S16x1024 .f32) (main_arg3 : FVec F S1024 .f32) (main_arg4 : FVec F S16x1024 .f32) (main_arg5 : FVec F S1024 .f32) (main_arg6 : FVec F S2048 .f32) : IVec S4096x4096 1 × IVec S4096x1024 1 × IVec S4096x1024 1 :=
  let main_v0 : FVec F S4096x4096 .bf16 := (extractStridedSlice S4096x4096 ![0, 0] · slices_S6144x6144_S4096x4096_0_0) main_arg0
  let main_v1 : FVec F S4096x4096 .f32 := (extf .f32 · bitsLt_bf16_f32) main_v0
  let main_v2 : FVec F S4096x32 .bf16 := (extractStridedSlice S4096x32 ![0, 0] · slices_S6144x128_S4096x32_0_0) main_arg1
  let main_v3 : FVec F S4096x32 .f32 := (extf .f32 · bitsLt_bf16_f32) main_v2
  let main_v4 : FVec F S4096x16 .f32 := (extractStridedSlice S4096x16 ![0, 0] · slices_S4096x32_S4096x16_0_0) main_v3
  let main_v5 : FVec F S4096x1024 .f32 := (fun l r => Host.dotGeneral dot_S4096x16_S16x1024_S4096x1024_1_0_0_1_n_n none l r) main_v4 main_arg2
  let main_v6 : FVec F S1x1024 .f32 := broadcastInDim S1x1024 ![1] bcast_S1024_S1x1024_1 main_arg3
  let main_v7 : FVec F S4096x1024 .f32 := broadcastInDim S4096x1024 ![0, 1] bcast_S1x1024_S4096x1024_0_1 main_v6
  let main_v8 : FVec F S4096x1024 .f32 := addf main_v5 main_v7
  let main_v9 : FVec F S4096x16 .f32 := (extractStridedSlice S4096x16 ![0, 16] · slices_S4096x32_S4096x16_0_16) main_v3
  let main_v10 : FVec F S4096x1024 .f32 := (fun l r => Host.dotGeneral dot_S4096x16_S16x1024_S4096x1024_1_0_0_1_n_n none l r) main_v9 main_arg4
  let main_v11 : FVec F S1x1024 .f32 := broadcastInDim S1x1024 ![1] bcast_S1024_S1x1024_1 main_arg5
  let main_v12 : FVec F S4096x1024 .f32 := broadcastInDim S4096x1024 ![0, 1] bcast_S1x1024_S4096x1024_0_1 main_v11
  let main_v13 : FVec F S4096x1024 .f32 := addf main_v10 main_v12
  let main_v14 : FVec F S4096x4096 .f32 := Host.absf main_v1
  let main_cst : FVec F S_ .f32 := constant S_ .f32 0x7F800000#32
  let main_v15 : FVec F S4096x4096 .f32 := broadcastInDim S4096x4096 ![] bcast_S_S4096x4096 main_cst
  let main_v16 : IVec S4096x4096 1 := cmpf .olt main_v14 main_v15
  let main_cst_0 : FVec F S_ .f32 := constant S_ .f32 0xC1600000#32
  let main_v17 : FVec F S4096x1024 .f32 := broadcastInDim S4096x1024 ![] bcast_S_S4096x1024 main_cst_0
  let main_v18 : IVec S4096x1024 1 := cmpf .oge main_v8 main_v17
  let main_cst_1 : FVec F S_ .f32 := constant S_ .f32 0xC1600000#32
  let main_v19 : FVec F S4096x1024 .f32 := broadcastInDim S4096x1024 ![] bcast_S_S4096x1024 main_cst_1
  let main_v20 : IVec S4096x1024 1 := cmpf .oge main_v13 main_v19
  (main_v16, main_v18, main_v20)
-- ==== Kernel.lean ====
abbrev S6144x6144 : Shape := ⟨2, ![6144, 6144]⟩
abbrev S6144x128 : Shape := ⟨2, ![6144, 128]⟩
abbrev S16x1024 : Shape := ⟨2, ![16, 1024]⟩
abbrev S1024 : Shape := ⟨1, ![1024]⟩
abbrev S2048 : Shape := ⟨1, ![2048]⟩
abbrev S_ : Shape := ⟨0, ![]⟩
abbrev S128x1024 : Shape := ⟨2, ![128, 1024]⟩
abbrev S1 : Shape := ⟨1, ![1]⟩
abbrev S1x1024 : Shape := ⟨2, ![1, 1024]⟩
abbrev S1x2048 : Shape := ⟨2, ![1, 2048]⟩
abbrev S4096x2048 : Shape := ⟨2, ![4096, 2048]⟩
abbrev S16x4x256x512 : Shape := ⟨4, ![16, 4, 256, 512]⟩
abbrev S256x1024 : Shape := ⟨2, ![256, 1024]⟩
abbrev S256x2048 : Shape := ⟨2, ![256, 2048]⟩
abbrev S256x128 : Shape := ⟨2, ![256, 128]⟩
abbrev S1x4x256x512 : Shape := ⟨4, ![1, 4, 256, 512]⟩
abbrev S2x256x1024 : Shape := ⟨3, ![2, 256, 1024]⟩
abbrev S2x256x2048 : Shape := ⟨3, ![2, 256, 2048]⟩
abbrev S2x4x512x256 : Shape := ⟨4, ![2, 4, 512, 256]⟩
abbrev S128x128 : Shape := ⟨2, ![128, 128]⟩
abbrev S1x128x1024 : Shape := ⟨3, ![1, 128, 1024]⟩
abbrev S128x256 : Shape := ⟨2, ![128, 256]⟩
abbrev S128x512 : Shape := ⟨2, ![128, 512]⟩
abbrev S1x128x256 : Shape := ⟨3, ![1, 128, 256]⟩
abbrev S1x256 : Shape := ⟨2, ![1, 256]⟩
abbrev S512x256 : Shape := ⟨2, ![512, 256]⟩
abbrev S1x128x512 : Shape := ⟨3, ![1, 128, 512]⟩
abbrev S1x1x512x256 : Shape := ⟨4, ![1, 1, 512, 256]⟩
abbrev S128 : Shape := ⟨1, ![128]⟩
abbrev S128x1 : Shape := ⟨2, ![128, 1]⟩
abbrev S1x512 : Shape := ⟨2, ![1, 512]⟩
abbrev S256x512 : Shape := ⟨2, ![256, 512]⟩
abbrev S1x1x256x512 : Shape := ⟨4, ![1, 1, 256, 512]⟩

abbrev nBuf : Space → Nat
  | .hbm => 25
  | .vmem => 24
  | .smem => 0
  | _ => 0

abbrev bufTy : (tb : Table) → Fin (tcTables nBuf tb) → BufTy
  | .hbm, ⟨0, _⟩ => ⟨S6144x6144, .bf16⟩
  | .hbm, ⟨1, _⟩ => ⟨S6144x128, .bf16⟩
  | .hbm, ⟨2, _⟩ => ⟨S16x1024, .f32⟩
  | .hbm, ⟨3, _⟩ => ⟨S1024, .f32⟩
  | .hbm, ⟨4, _⟩ => ⟨S16x1024, .f32⟩
  | .hbm, ⟨5, _⟩ => ⟨S1024, .f32⟩
  | .hbm, ⟨6, _⟩ => ⟨S2048, .f32⟩
  | .hbm, ⟨7, _⟩ => ⟨S_, .bf16⟩
  | .hbm, ⟨8, _⟩ => ⟨S128x1024, .bf16⟩
  | .hbm, ⟨9, _⟩ => ⟨S16x1024, .bf16⟩
  | .hbm, ⟨10, _⟩ => ⟨S_, .i32⟩
  | .hbm, ⟨11, _⟩ => ⟨S1, .i32⟩
  | .hbm, ⟨12, _⟩ => ⟨S128x1024, .bf16⟩
  | .hbm, ⟨13, _⟩ => ⟨S_, .bf16⟩
  | .hbm, ⟨14, _⟩ => ⟨S128x1024, .bf16⟩
  | .hbm, ⟨15, _⟩ => ⟨S16x1024, .bf16⟩
  | .hbm, ⟨16, _⟩ => ⟨S_, .i32⟩
  | .hbm, ⟨17, _⟩ => ⟨S1, .i32⟩
  | .hbm, ⟨18, _⟩ => ⟨S128x1024, .bf16⟩
  | .hbm, ⟨19, _⟩ => ⟨S1x1024, .f32⟩
  | .hbm, ⟨20, _⟩ => ⟨S1x1024, .f32⟩
  | .hbm, ⟨21, _⟩ => ⟨S1x2048, .f32⟩
  | .hbm, ⟨22, _⟩ => ⟨S4096x2048, .bf16⟩
  | .hbm, ⟨23, _⟩ => ⟨S16x4x256x512, .f32⟩
  | .hbm, ⟨24, _⟩ => ⟨S16x4x256x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .bf16⟩
  | .local _ .vmem, ⟨9, _⟩ => ⟨S256x128, .bf16⟩
  | .local _ .vmem, ⟨10, _⟩ => ⟨S128x1024, .bf16⟩
  | .local _ .vmem, ⟨11, _⟩ => ⟨S1x1024, .f32⟩
  | .local _ .vmem, ⟨12, _⟩ => ⟨S128x1024, .bf16⟩
  | .local _ .vmem, ⟨13, _⟩ => ⟨S1x1024, .f32⟩
  | .local _ .vmem, ⟨14, _⟩ => ⟨S1x2048, .f32⟩
  | .local _ .vmem, ⟨15, _⟩ => ⟨S256x2048, .bf16⟩
  | .local _ .vmem, ⟨16, _⟩ => ⟨S256x2048, .bf16⟩
  | .local _ .vmem, ⟨17, _⟩ => ⟨S1x4x256x512, .f32⟩
  | .local _ .vmem, ⟨18, _⟩ => ⟨S1x4x256x512, .f32⟩
  | .local _ .vmem, ⟨19, _⟩ => ⟨S1x4x256x512, .f32⟩
  | .local _ .vmem, ⟨20, _⟩ => ⟨S1x4x256x512, .f32⟩
  | .local _ .vmem, ⟨21, _⟩ => ⟨S2x256x1024, .f32⟩
  | .local _ .vmem, ⟨22, _⟩ => ⟨S2x256x2048, .f32⟩
  | .local _ .vmem, ⟨23, _⟩ => ⟨S2x4x512x256, .f32⟩
  | _, _ => ⟨S6144x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 1], ![false, false]⟩

def k0_mult1 : BitVec 32 :=
  let c0_i32 : BitVec 32 := 0#32
  let c128_i32 : BitVec 32 := 128#32
  let v4 : BitVec 32 := Scalar.muli c0_i32 c128_i32
  v4
def k0_off1 (c0_i32 : BitVec 32) : Fin 2 → Nat :=
  let c128_i32 : BitVec 32 := 128#32
  let v4 : BitVec 32 := Scalar.muli c0_i32 c128_i32
  let v5 : BitVec 32 := v4
  let v6 : Index := Scalar.indexCast v5
  let c0 : Index := 0#32
  ![v6.toNat, 0]
def k0_off2 (c0_i32 : BitVec 32) : Fin 3 → Nat :=
  let c0_10 : Index := 0#32
  let c128_i32 : BitVec 32 := 128#32
  let v4 : BitVec 32 := Scalar.muli c0_i32 c128_i32
  let v5 : BitVec 32 := v4
  let v37 : Index := Scalar.indexCast v5
  let c0_11 : Index := 0#32
  ![0, v37.toNat, 0]
def k0_off3 (c0_i32 : BitVec 32) : Fin 3 → Nat :=
  let c1 : Index := 1#32
  let c128_i32 : BitVec 32 := 128#32
  let v4 : BitVec 32 := Scalar.muli c0_i32 c128_i32
  let v5 : BitVec 32 := v4
  let v70 : Index := Scalar.indexCast v5
  let c0_23 : Index := 0#32
  ![1, v70.toNat, 0]
def k0_mult2 : BitVec 32 :=
  let c1_i32 : BitVec 32 := 1#32
  let c128_i32_24 : BitVec 32 := 128#32
  let v74 : BitVec 32 := Scalar.muli c1_i32 c128_i32_24
  v74
@[reducible] def k0_t1_loop : Scf.Loop 32 :=
  let c0_i32_452 : BitVec 32 := 0#32
  let c2_i32_453 : BitVec 32 := 2#32
  let v912 : BitVec 32 := Scalar.addi c0_i32_452 c2_i32_453
  let c1_i32_454 : BitVec 32 := 1#32
  ⟨c0_i32_452, v912, c1_i32_454⟩
def k0_mult3 (k0_t1 : Fin k0_t1_loop.trips) : BitVec 32 :=
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  v961
def k0_off4 (k0_t1 : Fin k0_t1_loop.trips) : Fin 3 → Nat :=
  let c0_521 : Index := 0#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v963 : Index := Scalar.indexCast v962
  let c0_522 : Index := 0#32
  ![0, v963.toNat, 0]
def k0_off5 (k0_t1 : Fin k0_t1_loop.trips) : Fin 3 → Nat :=
  let c1_523 : Index := 1#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v966 : Index := Scalar.indexCast v962
  let c0_524 : Index := 0#32
  ![1, v966.toNat, 0]
def k0_off6 (k0_t1 : Fin k0_t1_loop.trips) : Fin 2 → Nat :=
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v984 : Index := Scalar.indexCast v962
  let c0_530 : Index := 0#32
  ![v984.toNat, 0]
def k0_off7 (k0_t1 : Fin k0_t1_loop.trips) : Fin 3 → Nat :=
  let c0_532 : Index := 0#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v993 : Index := Scalar.indexCast v962
  let c512_533 : Index := 512#32
  ![0, v993.toNat, 512]
def k0_off8 (k0_t1 : Fin k0_t1_loop.trips) : Fin 3 → Nat :=
  let c1_534 : Index := 1#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v996 : Index := Scalar.indexCast v962
  let c512_535 : Index := 512#32
  ![1, v996.toNat, 512]
def k0_off9 (k0_t1 : Fin k0_t1_loop.trips) : Fin 2 → Nat :=
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1014 : Index := Scalar.indexCast v962
  let c512_541 : Index := 512#32
  ![v1014.toNat, 512]
def k0_off10 (k0_t1 : Fin k0_t1_loop.trips) : Fin 3 → Nat :=
  let c0_543 : Index := 0#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1023 : Index := Scalar.indexCast v962
  let c1024_544 : Index := 1024#32
  ![0, v1023.toNat, 1024]
def k0_off11 (k0_t1 : Fin k0_t1_loop.trips) : Fin 3 → Nat :=
  let c1_545 : Index := 1#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1026 : Index := Scalar.indexCast v962
  let c1024_546 : Index := 1024#32
  ![1, v1026.toNat, 1024]
def k0_off12 (k0_t1 : Fin k0_t1_loop.trips) : Fin 2 → Nat :=
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1044 : Index := Scalar.indexCast v962
  let c1024_552 : Index := 1024#32
  ![v1044.toNat, 1024]
def k0_off13 (k0_t1 : Fin k0_t1_loop.trips) : Fin 3 → Nat :=
  let c0_554 : Index := 0#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1053 : Index := Scalar.indexCast v962
  let c1536_555 : Index := 1536#32
  ![0, v1053.toNat, 1536]
def k0_off14 (k0_t1 : Fin k0_t1_loop.trips) : Fin 3 → Nat :=
  let c1_556 : Index := 1#32
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1056 : Index := Scalar.indexCast v962
  let c1536_557 : Index := 1536#32
  ![1, v1056.toNat, 1536]
def k0_off15 (k0_t1 : Fin k0_t1_loop.trips) : Fin 2 → Nat :=
  let c0_i32_452 : BitVec 32 := 0#32
  let c1_i32_454 : BitVec 32 := 1#32
  let arg18 : BitVec 32 := Scf.iv c0_i32_452 c1_i32_454 k0_t1
  let c128_i32_520 : BitVec 32 := 128#32
  let v961 : BitVec 32 := Scalar.muli arg18 c128_i32_520
  let v962 : BitVec 32 := v961
  let v1074 : Index := Scalar.indexCast v962
  let c1536_563 : Index := 1536#32
  ![v1074.toNat, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.addi c2_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S6144x6144 : Shape := ⟨2, ![6144, 6144]⟩
abbrev S6144x128 : Shape := ⟨2, ![6144, 128]⟩
abbrev S16x1024 : Shape := ⟨2, ![16, 1024]⟩
abbrev S1024 : Shape := ⟨1, ![1024]⟩
abbrev S2048 : Shape := ⟨1, ![2048]⟩
abbrev S4096x4096 : Shape := ⟨2, ![4096, 4096]⟩
abbrev S16x256x4096 : Shape := ⟨3, ![16, 256, 4096]⟩
abbrev S16x256x1024 : Shape := ⟨3, ![16, 256, 1024]⟩
abbrev S16x256x2048 : Shape := ⟨3, ![16, 256, 2048]⟩
abbrev S4096x128 : Shape := ⟨2, ![4096, 128]⟩
abbrev S16x256x128 : Shape := ⟨3, ![16, 256, 128]⟩
abbrev S16x256x16 : Shape := ⟨3, ![16, 256, 16]⟩
abbrev S16x256x4x256 : Shape := ⟨4, ![16, 256, 4, 256]⟩
abbrev S_ : Shape := ⟨0, ![]⟩
abbrev S16x256x4x512 : Shape := ⟨4, ![16, 256, 4, 512]⟩
abbrev S1x1x1024 : Shape := ⟨3, ![1, 1, 1024]⟩
abbrev S32x256x1024 : Shape := ⟨3, ![32, 256, 1024]⟩
abbrev S32x256x4x256 : Shape := ⟨4, ![32, 256, 4, 256]⟩
abbrev S32x4x256x512 : Shape := ⟨4, ![32, 4, 256, 512]⟩
abbrev S32x256x4x512 : Shape := ⟨4, ![32, 256, 4, 512]⟩
abbrev S32x8x32x4x256 : Shape := ⟨5, ![32, 8, 32, 4, 256]⟩
abbrev S8x32x4x32x256 : Shape := ⟨5, ![8, 32, 4, 32, 256]⟩
abbrev S32x8x32x4x512 : Shape := ⟨5, ![32, 8, 32, 4, 512]⟩
abbrev S8x32x4x32x512 : Shape := ⟨5, ![8, 32, 4, 32, 512]⟩
abbrev S32x32 : Shape := ⟨2, ![32, 32]⟩
abbrev S1x32x4x32x256 : Shape := ⟨5, ![1, 32, 4, 32, 256]⟩
abbrev S32x4x32x256 : Shape := ⟨4, ![32, 4, 32, 256]⟩
abbrev S1x32x4x32x512 : Shape := ⟨5, ![1, 32, 4, 32, 512]⟩
abbrev S32x4x32x512 : Shape := ⟨4, ![32, 4, 32, 512]⟩
abbrev S32x4x32x1x256 : Shape := ⟨5, ![32, 4, 32, 1, 256]⟩
abbrev S32x4x1x32x256 : Shape := ⟨5, ![32, 4, 1, 32, 256]⟩
abbrev S32x4x32x32x256 : Shape := ⟨5, ![32, 4, 32, 32, 256]⟩
abbrev S1x1x32x32x1 : Shape := ⟨5, ![1, 1, 32, 32, 1]⟩
abbrev S32x4x32x32 : Shape := ⟨4, ![32, 4, 32, 32]⟩
abbrev S32x4x1x256 : Shape := ⟨4, ![32, 4, 1, 256]⟩
abbrev S32x4x256 : Shape := ⟨3, ![32, 4, 256]⟩
abbrev S32x4x256x1 : Shape := ⟨4, ![32, 4, 256, 1]⟩
abbrev S16x256x4 : Shape := ⟨3, ![16, 256, 4]⟩
abbrev S16x256x4x1 : Shape := ⟨4, ![16, 256, 4, 1]⟩
abbrev S4x512 : Shape := ⟨2, ![4, 512]⟩
abbrev S1x1x4x512 : Shape := ⟨4, ![1, 1, 4, 512]⟩
abbrev S4096x2048 : Shape := ⟨2, ![4096, 2048]⟩
abbrev S16x4x256x512 : Shape := ⟨4, ![16, 4, 256, 512]⟩

abbrev nBuf : Space → Nat
  | .hbm => 211
  | .vmem => 0
  | .smem => 0
  | _ => 0

abbrev hbmTy0_0 (i : Nat) : BufTy := match i % 128 with
  | 0 => ⟨S6144x6144, .bf16⟩
  | 1 => ⟨S6144x128, .bf16⟩
  | 2 => ⟨S16x1024, .f32⟩
  | 3 => ⟨S1024, .f32⟩
  | 4 => ⟨S16x1024, .f32⟩
  | 5 => ⟨S1024, .f32⟩
  | 6 => ⟨S2048, .f32⟩
  | 7 => ⟨S4096x4096, .bf16⟩
  | 8 => ⟨S4096x4096, .f32⟩
  | 9 => ⟨S16x256x4096, .f32⟩
  | 10 => ⟨S16x256x1024, .f32⟩
  | 11 => ⟨S16x256x1024, .f32⟩
  | 12 => ⟨S16x256x2048, .f32⟩
  | 13 => ⟨S4096x128, .bf16⟩
  | 14 => ⟨S4096x128, .f32⟩
  | 15 => ⟨S16x256x128, .f32⟩
  | 16 => ⟨S16x256x16, .f32⟩
  | 17 => ⟨S16x256x16, .f32⟩
  | 18 => ⟨S16x256x4x256, .f32⟩
  | 19 => ⟨S_, .f32⟩
  | 20 => ⟨S16x256x4x256, .f32⟩
  | 21 => ⟨S16x256x4x256, .f32⟩
  | 22 => ⟨S16x256x4x256, .f32⟩
  | 23 => ⟨S16x256x4x512, .f32⟩
  | 24 => ⟨S16x256x1024, .f32⟩
  | 25 => ⟨S1x1x1024, .f32⟩
  | 26 => ⟨S16x256x1024, .f32⟩
  | 27 => ⟨S16x256x1024, .f32⟩
  | 28 => ⟨S16x256x1024, .f32⟩
  | 29 => ⟨S1x1x1024, .f32⟩
  | 30 => ⟨S16x256x1024, .f32⟩
  | 31 => ⟨S16x256x1024, .f32⟩
  | 32 => ⟨S16x256x1024, .f32⟩
  | 33 => ⟨S32x256x1024, .f32⟩
  | 34 => ⟨S32x256x1024, .f32⟩
  | 35 => ⟨S_, .f32⟩
  | 36 => ⟨S32x256x1024, .f32⟩
  | 37 => ⟨S32x256x1024, .f32⟩
  | 38 => ⟨S32x256x1024, .f32⟩
  | 39 => ⟨S32x256x1024, .f32⟩
  | 40 => ⟨S32x256x1024, .i1⟩
  | 41 => ⟨S32x256x1024, .f32⟩
  | 42 => ⟨S32x256x1024, .f32⟩
  | 43 => ⟨S32x256x1024, .f32⟩
  | 44 => ⟨S32x256x1024, .f32⟩
  | 45 => ⟨S32x256x1024, .f32⟩
  | 46 => ⟨S32x256x1024, .f32⟩
  | 47 => ⟨S32x256x1024, .f32⟩
  | 48 => ⟨S32x256x1024, .f32⟩
  | 49 => ⟨S32x256x1024, .f32⟩
  | 50 => ⟨S_, .f32⟩
  | 51 => ⟨S32x256x1024, .f32⟩
  | 52 => ⟨S32x256x1024, .f32⟩
  | 53 => ⟨S32x256x4x256, .f32⟩
  | 54 => ⟨S_, .f32⟩
  | 55 => ⟨S32x4x256x512, .f32⟩
  | 56 => ⟨S16x256x4x256, .f32⟩
  | 57 => ⟨S32x256x4x256, .f32⟩
  | 58 => ⟨S16x256x4x256, .f32⟩
  | 59 => ⟨S32x256x4x256, .f32⟩
  | 60 => ⟨S16x256x4x512, .f32⟩
  | 61 => ⟨S32x256x4x512, .f32⟩
  | 62 => ⟨S32x8x32x4x256, .f32⟩
  | 63 => ⟨S8x32x4x32x256, .f32⟩
  | 64 => ⟨S32x8x32x4x256, .f32⟩
  | 65 => ⟨S8x32x4x32x256, .f32⟩
  | 66 => ⟨S32x8x32x4x512, .f32⟩
  | 67 => ⟨S8x32x4x32x512, .f32⟩
  | 68 => ⟨S32x8x32x4x256, .f32⟩
  | 69 => ⟨S8x32x4x32x256, .f32⟩
  | 70 => ⟨S_, .f32⟩
  | 71 => ⟨S_, .f32⟩
  | 72 => ⟨S8x32x4x32x256, .f32⟩
  | 73 => ⟨S_, .i1⟩
  | 74 => ⟨S32x32, .i1⟩
  | 75 => ⟨S32x32, .i32⟩
  | 76 => ⟨S_, .i32⟩
  | 77 => ⟨S32x32, .i32⟩
  | 78 => ⟨S32x32, .i32⟩
  | 79 => ⟨S32x32, .i32⟩
  | 80 => ⟨S32x32, .i1⟩
  | 81 => ⟨S_, .i1⟩
  | 82 => ⟨S32x32, .i1⟩
  | 83 => ⟨S32x32, .i1⟩
  | 84 => ⟨S_, .f32⟩
  | 85 => ⟨S8x32x4x32x512, .f32⟩
  | 86 => ⟨S_, .i32⟩
  | 87 => ⟨S8x32x4x32x256, .f32⟩
  | 88 => ⟨S8x32x4x32x256, .f32⟩
  | 89 => ⟨S8x32x4x32x512, .f32⟩
  | 90 => ⟨S8x32x4x32x256, .f32⟩
  | 91 => ⟨S32x32, .i1⟩
  | 92 => ⟨S_, .i32⟩
  | 93 => ⟨S32x4x256x512, .f32⟩
  | 94 => ⟨S8x32x4x32x512, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x32x4x32x256, .f32⟩
  | 102 => ⟨S32x4x32x256, .f32⟩
  | 103 => ⟨S_, .i32⟩
  | 104 => ⟨S_, .i32⟩
  | 105 => ⟨S_, .i32⟩
  | 106 => ⟨S_, .i32⟩
  | 107 => ⟨S1x32x4x32x256, .f32⟩
  | 108 => ⟨S32x4x32x256, .f32⟩
  | 109 => ⟨S_, .i32⟩
  | 110 => ⟨S_, .i32⟩
  | 111 => ⟨S_, .i32⟩
  | 112 => ⟨S_, .i32⟩
  | 113 => ⟨S1x32x4x32x512, .f32⟩
  | 114 => ⟨S32x4x32x512, .f32⟩
  | 115 => ⟨S_, .i32⟩
  | 116 => ⟨S_, .i32⟩
  | 117 => ⟨S_, .i32⟩
  | 118 => ⟨S_, .i32⟩
  | 119 => ⟨S1x32x4x32x256, .f32⟩
  | 120 => ⟨S32x4x32x256, .f32⟩
  | 121 => ⟨S32x4x32x256, .f32⟩
  | 122 => ⟨S32x4x32x256, .f32⟩
  | 123 => ⟨S32x4x32x512, .f32⟩
  | 124 => ⟨S32x4x32x1x256, .f32⟩
  | 125 => ⟨S32x4x1x32x256, .f32⟩
  | 126 => ⟨S32x4x32x32x256, .f32⟩
  | 127 => ⟨S32x4x32x32x256, .f32⟩
  | _ => ⟨S6144x6144, .bf16⟩

abbrev hbmTy0_1 (i : Nat) : BufTy := match i % 128 with
  | 0 => ⟨S32x4x32x32x256, .f32⟩
  | 1 => ⟨S1x1x32x32x1, .i1⟩
  | 2 => ⟨S_, .f32⟩
  | 3 => ⟨S32x4x32x32x256, .f32⟩
  | 4 => ⟨S32x4x32x32x256, .f32⟩
  | 5 => ⟨S32x4x32x32x256, .f32⟩
  | 6 => ⟨S_, .f32⟩
  | 7 => ⟨S_, .f32⟩
  | 8 => ⟨S32x4x32x32x256, .i1⟩
  | 9 => ⟨S32x4x32x32x256, .f32⟩
  | 10 => ⟨S32x4x32x32x256, .f32⟩
  | 11 => ⟨S32x4x32x1x256, .f32⟩
  | 12 => ⟨S32x4x1x32x256, .f32⟩
  | 13 => ⟨S32x4x32x32x256, .f32⟩
  | 14 => ⟨S32x4x32x32x256, .f32⟩
  | 15 => ⟨S32x4x32x32x256, .f32⟩
  | 16 => ⟨S32x4x32x32x256, .f32⟩
  | 17 => ⟨S_, .f32⟩
  | 18 => ⟨S32x4x32x32, .f32⟩
  | 19 => ⟨S32x4x32x512, .f32⟩
  | 20 => ⟨S32x4x1x256, .f32⟩
  | 21 => ⟨S32x4x256, .f32⟩
  | 22 => ⟨S32x4x256, .f32⟩
  | 23 => ⟨S32x4x256x1, .f32⟩
  | 24 => ⟨S32x4x256x512, .f32⟩
  | 25 => ⟨S32x4x256x512, .f32⟩
  | 26 => ⟨S32x4x1x256, .f32⟩
  | 27 => ⟨S32x4x32x256, .f32⟩
  | 28 => ⟨S32x4x32x256, .f32⟩
  | 29 => ⟨S32x4x32x256, .f32⟩
  | 30 => ⟨S32x4x32x256, .f32⟩
  | 31 => ⟨S32x4x256x512, .f32⟩
  | 32 => ⟨S32x4x256x512, .f32⟩
  | 33 => ⟨S32x4x32x512, .f32⟩
  | 34 => ⟨S1x32x4x32x512, .f32⟩
  | 35 => ⟨S_, .i32⟩
  | 36 => ⟨S_, .i32⟩
  | 37 => ⟨S_, .i32⟩
  | 38 => ⟨S_, .i32⟩
  | 39 => ⟨S8x32x4x32x512, .f32⟩
  | 40 => ⟨S_, .i32⟩
  | 41 => ⟨S_, .i32⟩
  | 42 => ⟨S32x8x32x4x512, .f32⟩
  | 43 => ⟨S32x256x4x512, .f32⟩
  | 44 => ⟨S16x256x4x512, .f32⟩
  | 45 => ⟨S16x256x4x512, .f32⟩
  | 46 => ⟨S16x256x4x512, .f32⟩
  | 47 => ⟨S16x256x4x512, .f32⟩
  | 48 => ⟨S16x256x4x512, .f32⟩
  | 49 => ⟨S_, .f32⟩
  | 50 => ⟨S16x256x4, .f32⟩
  | 51 => ⟨S16x256x4x1, .f32⟩
  | 52 => ⟨S_, .f32⟩
  | 53 => ⟨S16x256x4x1, .f32⟩
  | 54 => ⟨S16x256x4x1, .f32⟩
  | 55 => ⟨S_, .f32⟩
  | 56 => ⟨S16x256x4x1, .f32⟩
  | 57 => ⟨S16x256x4x1, .f32⟩
  | 58 => ⟨S16x256x4x1, .f32⟩
  | 59 => ⟨S16x256x4x512, .f32⟩
  | 60 => ⟨S16x256x4x512, .f32⟩
  | 61 => ⟨S4x512, .f32⟩
  | 62 => ⟨S1x1x4x512, .f32⟩
  | 63 => ⟨S16x256x4x512, .f32⟩
  | 64 => ⟨S16x256x4x512, .f32⟩
  | 65 => ⟨S4096x2048, .bf16⟩
  | 66 => ⟨S4096x2048, .f32⟩
  | 67 => ⟨S16x256x2048, .f32⟩
  | 68 => ⟨S16x256x2048, .f32⟩
  | 69 => ⟨S16x256x2048, .f32⟩
  | 70 => ⟨S16x256x2048, .f32⟩
  | 71 => ⟨S_, .f32⟩
  | 72 => ⟨S16x256x2048, .f32⟩
  | 73 => ⟨S16x256x2048, .f32⟩
  | 74 => ⟨S_, .f32⟩
  | 75 => ⟨S16x256x2048, .f32⟩
  | 76 => ⟨S16x256x2048, .f32⟩
  | 77 => ⟨S16x256x2048, .f32⟩
  | 78 => ⟨S16x256x2048, .f32⟩
  | 79 => ⟨S4096x2048, .f32⟩
  | 80 => ⟨S4096x2048, .bf16⟩
  | 81 => ⟨S16x4x256x512, .f32⟩
  | 82 => ⟨S16x4x256x512, .f32⟩
  | _ => ⟨S6144x6144, .bf16⟩

abbrev hbmTy (i : Nat) : BufTy := match i / 128 with
  | 0 => hbmTy0_0 i
  | 1 => hbmTy0_1 i
  | _ => ⟨S6144x6144, .bf16⟩

abbrev bufTy : (tb : Table) → Fin (tcTables nBuf tb) → BufTy
  | .hbm, ⟨i, _⟩ => hbmTy i
  | _, _ => ⟨S6144x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v27 : Ref sig .tc := ⟨.hbm, 48, rfl⟩
abbrev main_v28 : Ref sig .tc := ⟨.hbm, 49, rfl⟩
abbrev main_cst_0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call5_call0_cst : Ref sig .tc := ⟨.hbm, 70, rfl⟩
abbrev main_call5_call0_v0 : Ref sig .tc := ⟨.hbm, 71, rfl⟩
abbrev main_v47 : Ref sig .tc := ⟨.hbm, 72, rfl⟩
abbrev main_c : Ref sig .tc := ⟨.hbm, 73, rfl⟩
abbrev main_v48 : Ref sig .tc := ⟨.hbm, 74, rfl⟩
abbrev main_call6_v0 : Ref sig .tc := ⟨.hbm, 75, rfl⟩
abbrev main_call6_c : Ref sig .tc := ⟨.hbm, 76, rfl⟩
abbrev main_call6_v1 : Ref sig .tc := ⟨.hbm, 77, rfl⟩
abbrev main_call6_v2 : Ref sig .tc := ⟨.hbm, 78, rfl⟩
abbrev main_call6_v3 : Ref sig .tc := ⟨.hbm, 79, rfl⟩
abbrev main_call6_v4 : Ref sig .tc := ⟨.hbm, 80, rfl⟩
abbrev main_call6_c_0 : Ref sig .tc := ⟨.hbm, 81, rfl⟩
abbrev main_call6_v5 : Ref sig .tc := ⟨.hbm, 82, rfl⟩
abbrev main_v49 : Ref sig .tc := ⟨.hbm, 83, rfl⟩
abbrev main_cst_2 : Ref sig .tc := ⟨.hbm, 84, rfl⟩
abbrev main_v50 : Ref sig .tc := ⟨.hbm, 85, rfl⟩
abbrev main_c_3 : Ref sig .tc := ⟨.hbm, 86, rfl⟩
abbrev main_v51_0 : Ref sig .tc := ⟨.hbm, 87, rfl⟩
abbrev main_v51_1 : Ref sig .tc := ⟨.hbm, 88, rfl⟩
abbrev main_v51_2 : Ref sig .tc := ⟨.hbm, 89, rfl⟩
abbrev main_v51_3 : Ref sig .tc := ⟨.hbm, 90, rfl⟩
abbrev main_v51_4 : Ref sig .tc := ⟨.hbm, 91, rfl⟩
abbrev main_v51_5 : Ref sig .tc := ⟨.hbm, 92, rfl⟩
abbrev main_v51_6 : Ref sig .tc := ⟨.hbm, 93, rfl⟩
abbrev main_v51_7 : Ref sig .tc := ⟨.hbm, 94, rfl⟩
abbrev main_while0c_c_14 : Ref sig .tc := ⟨.hbm, 95, rfl⟩
abbrev main_while0c_v82 : Ref sig .tc := ⟨.hbm, 96, rfl⟩
abbrev main_while0b_call7_c : Ref sig .tc := ⟨.hbm, 97, rfl⟩
abbrev main_while0b_call7_c_0 : Ref sig .tc := ⟨.hbm, 98, rfl⟩
abbrev main_while0b_call7_c_1 : Ref sig .tc := ⟨.hbm, 99, rfl⟩
abbrev main_while0b_call7_c_2 : Ref sig .tc := ⟨.hbm, 100, rfl⟩
abbrev main_while0b_call7_v0 : Ref sig .tc := ⟨.hbm, 101, rfl⟩
abbrev main_while0b_v82 : Ref sig .tc := ⟨.hbm, 102, rfl⟩
abbrev main_while0b_call8_c : Ref sig .tc := ⟨.hbm, 103, rfl⟩
abbrev main_while0b_call8_c_0 : Ref sig .tc := ⟨.hbm, 104, rfl⟩
abbrev main_while0b_call8_c_1 : Ref sig .tc := ⟨.hbm, 105, rfl⟩
abbrev main_while0b_call8_c_2 : Ref sig .tc := ⟨.hbm, 106, rfl⟩
abbrev main_while0b_call8_v0 : Ref sig .tc := ⟨.hbm, 107, rfl⟩
abbrev main_while0b_v83 : Ref sig .tc := ⟨.hbm, 108, rfl⟩
abbrev main_while0b_call9_c : Ref sig .tc := ⟨.hbm, 109, rfl⟩
abbrev main_while0b_call9_c_0 : Ref sig .tc := ⟨.hbm, 110, rfl⟩
abbrev main_while0b_call9_c_1 : Ref sig .tc := ⟨.hbm, 111, rfl⟩
abbrev main_while0b_call9_c_2 : Ref sig .tc := ⟨.hbm, 112, rfl⟩
abbrev main_while0b_call9_v0 : Ref sig .tc := ⟨.hbm, 113, rfl⟩
abbrev main_while0b_v84 : Ref sig .tc := ⟨.hbm, 114, rfl⟩
abbrev main_while0b_call10_c : Ref sig .tc := ⟨.hbm, 115, rfl⟩
abbrev main_while0b_call10_c_0 : Ref sig .tc := ⟨.hbm, 116, rfl⟩
abbrev main_while0b_call10_c_1 : Ref sig .tc := ⟨.hbm, 117, rfl⟩
abbrev main_while0b_call10_c_2 : Ref sig .tc := ⟨.hbm, 118, rfl⟩
abbrev main_while0b_call10_v0 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_cst_14 : Ref sig .tc := ⟨.hbm, 130, rfl⟩
abbrev main_while0b_v95 : Ref sig .tc := ⟨.hbm, 131, rfl⟩
abbrev main_while0b_v96 : Ref sig .tc := ⟨.hbm, 132, rfl⟩
abbrev main_while0b_v97 : Ref sig .tc := ⟨.hbm, 133, rfl⟩
abbrev main_while0b_cst_15 : Ref sig .tc := ⟨.hbm, 134, rfl⟩
abbrev main_while0b_call11_v0 : Ref sig .tc := ⟨.hbm, 135, rfl⟩
abbrev main_while0b_call11_v1 : Ref sig .tc := ⟨.hbm, 136, rfl⟩
abbrev main_while0b_call11_v2 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_cst_16 : Ref sig .tc := ⟨.hbm, 145, rfl⟩
abbrev main_while0b_v105 : Ref sig .tc := ⟨.hbm, 146, rfl⟩
abbrev main_while0b_v106 : Ref sig .tc := ⟨.hbm, 147, rfl⟩
abbrev main_while0b_v107 : Ref sig .tc := ⟨.hbm, 148, rfl⟩
abbrev main_while0b_v108 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_v114 : Ref sig .tc := ⟨.hbm, 155, rfl⟩
abbrev main_while0b_v115 : Ref sig .tc := ⟨.hbm, 156, rfl⟩
abbrev main_while0b_v116 : Ref sig .tc := ⟨.hbm, 157, rfl⟩
abbrev main_while0b_v117 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_call12_v0 : Ref sig .tc := ⟨.hbm, 162, rfl⟩
abbrev main_while0b_call12_c : Ref sig .tc := ⟨.hbm, 163, rfl⟩
abbrev main_while0b_call12_c_0 : Ref sig .tc := ⟨.hbm, 164, rfl⟩
abbrev main_while0b_call12_c_1 : Ref sig .tc := ⟨.hbm, 165, rfl⟩
abbrev main_while0b_call12_c_2 : Ref sig .tc := ⟨.hbm, 166, rfl⟩
abbrev main_while0b_v121 : Ref sig .tc := ⟨.hbm, 167, rfl⟩
abbrev main_while0b_c_17 : Ref sig .tc := ⟨.hbm, 168, rfl⟩
abbrev main_while0b_v122 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_cst_4 : Ref sig .tc := ⟨.hbm, 177, rfl⟩
abbrev main_v59 : Ref sig .tc := ⟨.hbm, 178, rfl⟩
abbrev main_v60 : Ref sig .tc := ⟨.hbm, 179, rfl⟩
abbrev main_cst_5 : Ref sig .tc := ⟨.hbm, 180, rfl⟩
abbrev main_v61 : Ref sig .tc := ⟨.hbm, 181, rfl⟩
abbrev main_v62 : Ref sig .tc := ⟨.hbm, 182, rfl⟩
abbrev main_cst_6 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_call14_v0 : Ref sig .tc := ⟨.hbm, 197, rfl⟩
abbrev main_call14_v1 : Ref sig .tc := ⟨.hbm, 198, rfl⟩
abbrev main_call14_cst : Ref sig .tc := ⟨.hbm, 199, rfl⟩
abbrev main_call14_v2 : Ref sig .tc := ⟨.hbm, 200, rfl⟩
abbrev main_call14_v3 : Ref sig .tc := ⟨.hbm, 201, rfl⟩
abbrev main_call14_cst_0 : Ref sig .tc := ⟨.hbm, 202, rfl⟩
abbrev main_call14_v4 : Ref sig .tc := ⟨.hbm, 203, rfl⟩
abbrev main_call14_v5 : Ref sig .tc := ⟨.hbm, 204, rfl⟩
abbrev main_v76 : Ref sig .tc := ⟨.hbm, 205, rfl⟩
abbrev main_v77 : Ref sig .tc := ⟨.hbm, 206, rfl⟩
abbrev main_v78 : Ref sig .tc := ⟨.hbm, 207, rfl⟩
abbrev main_v79 : Ref sig .tc := ⟨.hbm, 208, rfl⟩
abbrev main_v80 : Ref sig .tc := ⟨.hbm, 209, rfl⟩
abbrev main_v81 : Ref sig .tc := ⟨.hbm, 210, rfl⟩

abbrev nD : Nat := 1
abbrev τ : Topo := Topo.v7x

variable {F : FTy → Type} [FloatOps F]

abbrev main_while0_count : Scf.Loop 32 := ⟨0#32, 8#32, 1#32⟩
-- ==== Qkvr.lean ====
abbrev S6144x4096 : Shape := ⟨2, ![6144, 4096]⟩
abbrev S4096x8224 : Shape := ⟨2, ![4096, 8224]⟩
abbrev S8224x4096 : Shape := ⟨2, ![8224, 4096]⟩
abbrev S6144x6144 : Shape := ⟨2, ![6144, 6144]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S4096x8224, .f32⟩
  | .hbm, ⟨2, _⟩ => ⟨S8224x4096, .f32⟩
  | .hbm, ⟨3, _⟩ => ⟨S6144x6144, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvrReferenceIdeal.lean ====
abbrev S6144x4096 : Shape := ⟨2, ![6144, 4096]⟩
abbrev S4096x8224 : Shape := ⟨2, ![4096, 8224]⟩
abbrev S6144x8224 : Shape := ⟨2, ![6144, 8224]⟩
abbrev S6144x6144 : Shape := ⟨2, ![6144, 6144]⟩
abbrev S6144x32 : Shape := ⟨2, ![6144, 32]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4096x8224, .f32⟩
  | .hbm, ⟨2, _⟩ => ⟨S6144x4096, .f32⟩
  | .hbm, ⟨3, _⟩ => ⟨S6144x8224, .f32⟩
  | .hbm, ⟨4, _⟩ => ⟨S6144x6144, .f32⟩
  | .hbm, ⟨5, _⟩ => ⟨S6144x32, .f32⟩
  | .hbm, ⟨6, _⟩ => ⟨S6144x2048, .f32⟩
  | .hbm, ⟨7, _⟩ => ⟨S6144x6144, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Fourier.lean ====
abbrev S6144x4096 : Shape := ⟨2, ![6144, 4096]⟩
abbrev S4096x8224 : Shape := ⟨2, ![4096, 8224]⟩
abbrev S8224x4096 : Shape := ⟨2, ![8224, 4096]⟩
abbrev S6144x2048 : Shape := ⟨2, ![6144, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S4096x8224, .f32⟩
  | .hbm, ⟨2, _⟩ => ⟨S8224x4096, .f32⟩
  | .hbm, ⟨3, _⟩ => ⟨S6144x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def k0_mult1 (i : grid0.Coords) : BitVec 32 :=
  let c6176_i32 : BitVec 32 := 6176#32
  let arg1 : BitVec 32 := BitVec.ofNat 32 (i 1).val
  let c512_i32 : BitVec 32 := 512#32
  let v0 : BitVec 32 := Scalar.muli arg1 c512_i32
  let v1 : BitVec 32 := Scalar.addi c6176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6176_i32 : BitVec 32 := 6176#32
  let v1 : BitVec 32 := Scalar.addi c6176_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FourierReferenceIdeal.lean ====
abbrev S6144x4096 : Shape := ⟨2, ![6144, 4096]⟩
abbrev S4096x8224 : Shape := ⟨2, ![4096, 8224]⟩
abbrev S6144x8224 : Shape := ⟨2, ![6144, 8224]⟩
abbrev S6144x6144 : Shape := ⟨2, ![6144, 6144]⟩
abbrev S6144x32 : Shape := ⟨2, ![6144, 32]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4096x8224, .f32⟩
  | .hbm, ⟨2, _⟩ => ⟨S6144x4096, .f32⟩
  | .hbm, ⟨3, _⟩ => ⟨S6144x8224, .f32⟩
  | .hbm, ⟨4, _⟩ => ⟨S6144x6144, .f32⟩
  | .hbm, ⟨5, _⟩ => ⟨S6144x32, .f32⟩
  | .hbm, ⟨6, _⟩ => ⟨S6144x2048, .f32⟩
  | .hbm, ⟨7, _⟩ => ⟨S6144x2048, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S4096x4096 : Shape := ⟨2, ![4096, 4096]⟩
abbrev S2048x4096 : Shape := ⟨2, ![2048, 4096]⟩
abbrev S1024x4096 : Shape := ⟨2, ![1024, 4096]⟩
abbrev S3x8x4096 : Shape := ⟨3, ![3, 8, 4096]⟩
abbrev S6144x4096 : Shape := ⟨2, ![6144, 4096]⟩
abbrev S2048x512 : Shape := ⟨2, ![2048, 512]⟩
abbrev S1024x2048 : Shape := ⟨2, ![1024, 2048]⟩
abbrev S1024x512 : Shape := ⟨2, ![1024, 512]⟩
abbrev S1x8x512 : Shape := ⟨3, ![1, 8, 512]⟩
abbrev S1x1x512 : Shape := ⟨3, ![1, 1, 512]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .hbm, ⟨4, _⟩ => ⟨S4096x4096, .f32⟩
  | .hbm, ⟨5, _⟩ => ⟨S4096x4096, .f32⟩
  | .hbm, ⟨6, _⟩ => ⟨S2048x4096, .f32⟩
  | .hbm, ⟨7, _⟩ => ⟨S1024x4096, .f32⟩
  | .hbm, ⟨8, _⟩ => ⟨S3x8x4096, .f32⟩
  | .hbm, ⟨9, _⟩ => ⟨S6144x4096, .f32⟩
  | .local _ .vmem, ⟨0, _⟩ => ⟨S2048x512, .f32⟩
  | .local _ .vmem, ⟨1, _⟩ => ⟨S2048x512, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x8x512, .f32⟩
  | .local _ .vmem, ⟨15, _⟩ => ⟨S1x8x512, .f32⟩
  | .local _ .vmem, ⟨16, _⟩ => ⟨S1024x512, .f32⟩
  | .local _ .vmem, ⟨17, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg0 : BitVec 32 := BitVec.ofNat 32 (i 0).val
  let c4_i32 : BitVec 32 := 4#32
  let v2 : BitVec 1 := Scalar.cmpi .slt arg0 c4_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 32 := Scalar.subi arg0 c4_i32
  let c0_i32 : BitVec 32 := 0#32
  let v2 : BitVec 32 := Scalar.maxsi v1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 32 := Scalar.subi arg0 c4_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 32 := Scalar.subi arg0 c4_i32
  let c0_i32 : BitVec 32 := 0#32
  let v2 : BitVec 32 := Scalar.maxsi v1 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 32 := Scalar.subi arg0 c4_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 32 := Scalar.subi arg0 c4_i32
  let c0_i32 : BitVec 32 := 0#32
  let v2 : BitVec 32 := Scalar.maxsi v1 c0_i32
  let c0_i32_0 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 32 := Scalar.subi arg0 c4_i32
  let c0_i32 : BitVec 32 := 0#32
  let v2 : BitVec 32 := Scalar.maxsi v1 c0_i32
  let c0_i32_0 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  ![v21.toNat, c0_i32_8.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutReferenceIdeal.lean ====
abbrev S4096x2048 : Shape := ⟨2, ![4096, 2048]⟩
abbrev S2048x2048 : Shape := ⟨2, ![2048, 2048]⟩
abbrev S4096x4096 : Shape := ⟨2, ![4096, 4096]⟩
abbrev S2048x4096 : Shape := ⟨2, ![2048, 4096]⟩
abbrev S1024x4096 : Shape := ⟨2, ![1024, 4096]⟩
abbrev S3x8x4096 : Shape := ⟨3, ![3, 8, 4096]⟩
abbrev S3x1x4096 : Shape := ⟨3, ![3, 1, 4096]⟩
abbrev S3x4096 : Shape := ⟨2, ![3, 4096]⟩
abbrev S1x4096 : Shape := ⟨2, ![1, 4096]⟩
abbrev S4096 : Shape := ⟨1, ![4096]⟩
abbrev S2x1024x4096 : Shape := ⟨3, ![2, 1024, 4096]⟩
abbrev S1x1024x4096 : Shape := ⟨3, ![1, 1024, 4096]⟩
abbrev S2x1024x2048 : Shape := ⟨3, ![2, 1024, 2048]⟩
abbrev S2x4096 : Shape := ⟨2, ![2, 4096]⟩
abbrev S2x1x4096 : Shape := ⟨3, ![2, 1, 4096]⟩
abbrev S6144x4096 : Shape := ⟨2, ![6144, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .hbm, ⟨4, _⟩ => ⟨S4096x4096, .f32⟩
  | .hbm, ⟨5, _⟩ => ⟨S4096x4096, .f32⟩
  | .hbm, ⟨6, _⟩ => ⟨S2048x4096, .f32⟩
  | .hbm, ⟨7, _⟩ => ⟨S1024x4096, .f32⟩
  | .hbm, ⟨8, _⟩ => ⟨S3x8x4096, .f32⟩
  | .hbm, ⟨9, _⟩ => ⟨S3x1x4096, .f32⟩
  | .hbm, ⟨10, _⟩ => ⟨S3x4096, .f32⟩
  | .hbm, ⟨11, _⟩ => ⟨S1x4096, .f32⟩
  | .hbm, ⟨12, _⟩ => ⟨S4096, .f32⟩
  | .hbm, ⟨13, _⟩ => ⟨S4096x4096, .bf16⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S2x1024x4096, .f32⟩
  | .hbm, ⟨21, _⟩ => ⟨S1x1024x4096, .f32⟩
  | .hbm, ⟨22, _⟩ => ⟨S2x1024x4096, .f32⟩
  | .hbm, ⟨23, _⟩ => ⟨S2x1024x4096, .f32⟩
  | .hbm, ⟨24, _⟩ => ⟨S2x1024x2048, .bf16⟩
  | .hbm, ⟨25, _⟩ => ⟨S2x1024x2048, .bf16⟩
  | .hbm, ⟨26, _⟩ => ⟨S2x4096, .f32⟩
  | .hbm, ⟨27, _⟩ => ⟨S2x1x4096, .f32⟩
  | .hbm, ⟨28, _⟩ => ⟨S2x1024x4096, .bf16⟩
  | .hbm, ⟨29, _⟩ => ⟨S2x1024x4096, .f32⟩
  | .hbm, ⟨30, _⟩ => ⟨S2x1024x4096, .f32⟩
  | .hbm, ⟨31, _⟩ => ⟨S2x1024x4096, .f32⟩
  | .hbm, ⟨32, _⟩ => ⟨S2x1024x4096, .f32⟩
  | .hbm, ⟨33, _⟩ => ⟨S2x1024x4096, .f32⟩
  | .hbm, ⟨34, _⟩ => ⟨S2048x4096, .f32⟩
  | .hbm, ⟨35, _⟩ => ⟨S6144x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Norm.lean ====
abbrev S6144x4096 : Shape := ⟨2, ![6144, 4096]⟩
abbrev S4096 : Shape := ⟨1, ![4096]⟩
abbrev S3x8x4096 : Shape := ⟨3, ![3, 8, 4096]⟩
abbrev S4096x2048 : Shape := ⟨2, ![4096, 2048]⟩
abbrev S1x4096 : Shape := ⟨2, ![1, 4096]⟩
abbrev S6144x2048 : Shape := ⟨2, ![6144, 2048]⟩
abbrev S512x4096 : Shape := ⟨2, ![512, 4096]⟩
abbrev S1x8x4096 : Shape := ⟨3, ![1, 8, 4096]⟩
abbrev S512x2048 : Shape := ⟨2, ![512, 2048]⟩
abbrev S1x1x4096 : Shape := ⟨3, ![1, 1, 4096]⟩
abbrev S8x4096 : Shape := ⟨2, ![8, 4096]⟩
abbrev S8 : Shape := ⟨1, ![8]⟩
abbrev S8x1 : Shape := ⟨2, ![8, 1]⟩

abbrev nBuf : Space → Nat
  | .hbm => 8
  | .vmem => 10
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S3x8x4096, .f32⟩
  | .hbm, ⟨3, _⟩ => ⟨S4096x2048, .f32⟩
  | .hbm, ⟨4, _⟩ => ⟨S4096x2048, .bf16⟩
  | .hbm, ⟨5, _⟩ => ⟨S1x4096, .f32⟩
  | .hbm, ⟨6, _⟩ => ⟨S6144x4096, .bf16⟩
  | .hbm, ⟨7, _⟩ => ⟨S6144x2048, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x8x4096, .f32⟩
  | .local _ .vmem, ⟨4, _⟩ => ⟨S1x8x4096, .f32⟩
  | .local _ .vmem, ⟨5, _⟩ => ⟨S4096x2048, .bf16⟩
  | .local _ .vmem, ⟨6, _⟩ => ⟨S512x4096, .bf16⟩
  | .local _ .vmem, ⟨7, _⟩ => ⟨S512x4096, .bf16⟩
  | .local _ .vmem, ⟨8, _⟩ => ⟨S512x2048, .bf16⟩
  | .local _ .vmem, ⟨9, _⟩ => ⟨S512x2048, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v17 : BitVec 32 := Scalar.muli arg7 c8_i32
  v17
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v17 : BitVec 32 := Scalar.muli arg7 c8_i32
  let v18 : BitVec 32 := v17
  let v19 : Index := Scalar.indexCast v18
  let c0_13 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormReferenceIdeal.lean ====
abbrev S6144x4096 : Shape := ⟨2, ![6144, 4096]⟩
abbrev S4096 : Shape := ⟨1, ![4096]⟩
abbrev S3x8x4096 : Shape := ⟨3, ![3, 8, 4096]⟩
abbrev S4096x2048 : Shape := ⟨2, ![4096, 2048]⟩
abbrev S3x1x4096 : Shape := ⟨3, ![3, 1, 4096]⟩
abbrev S3x4096 : Shape := ⟨2, ![3, 4096]⟩
abbrev S2048x4096 : Shape := ⟨2, ![2048, 4096]⟩
abbrev S2x1024x4096 : Shape := ⟨3, ![2, 1024, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩
abbrev S2x4096 : Shape := ⟨2, ![2, 4096]⟩
abbrev S2x1x4096 : Shape := ⟨3, ![2, 1, 4096]⟩
abbrev S2x1024 : Shape := ⟨2, ![2, 1024]⟩
abbrev S2x1024x1 : Shape := ⟨3, ![2, 1024, 1]⟩
abbrev S1x1x4096 : Shape := ⟨3, ![1, 1, 4096]⟩
abbrev S6144x2048 : Shape := ⟨2, ![6144, 2048]⟩

abbrev nBuf : Space → Nat
  | .hbm => 72
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S4096, .f32⟩
  | .hbm, ⟨2, _⟩ => ⟨S3x8x4096, .f32⟩
  | .hbm, ⟨3, _⟩ => ⟨S4096x2048, .f32⟩
  | .hbm, ⟨4, _⟩ => ⟨S3x1x4096, .f32⟩
  | .hbm, ⟨5, _⟩ => ⟨S3x4096, .f32⟩
  | .hbm, ⟨6, _⟩ => ⟨S3x1x4096, .f32⟩
  | .hbm, ⟨7, _⟩ => ⟨S3x4096, .f32⟩
  | .hbm, ⟨8, _⟩ => ⟨S2048x4096, .f32⟩
  | .hbm, ⟨9, _⟩ => ⟨S2x1024x4096, .f32⟩
  | .hbm, ⟨10, _⟩ => ⟨S4096x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S2x4096, .f32⟩
  | .hbm, ⟨41, _⟩ => ⟨S2x1x4096, .f32⟩
  | .hbm, ⟨42, _⟩ => ⟨S2x4096, .f32⟩
  | .hbm, ⟨43, _⟩ => ⟨S2x1x4096, .f32⟩
  | .hbm, ⟨44, _⟩ => ⟨S2x1024x4096, .f32⟩
  | .hbm, ⟨45, _⟩ => ⟨S_, .f32⟩
  | .hbm, ⟨46, _⟩ => ⟨S2x1024, .f32⟩
  | .hbm, ⟨47, _⟩ => ⟨S2x1024x1, .f32⟩
  | .hbm, ⟨48, _⟩ => ⟨S_, .f32⟩
  | .hbm, ⟨49, _⟩ => ⟨S2x1024x1, .f32⟩
  | .hbm, ⟨50, _⟩ => ⟨S2x1024x1, .f32⟩
  | .hbm, ⟨51, _⟩ => ⟨S_, .f32⟩
  | .hbm, ⟨52, _⟩ => ⟨S2x1024x1, .f32⟩
  | .hbm, ⟨53, _⟩ => ⟨S2x1024x1, .f32⟩
  | .hbm, ⟨54, _⟩ => ⟨S2x1024x1, .f32⟩
  | .hbm, ⟨55, _⟩ => ⟨S2x1024x4096, .f32⟩
  | .hbm, ⟨56, _⟩ => ⟨S2x1024x4096, .f32⟩
  | .hbm, ⟨57, _⟩ => ⟨S1x1x4096, .f32⟩
  | .hbm, ⟨58, _⟩ => ⟨S2x1024x4096, .f32⟩
  | .hbm, ⟨59, _⟩ => ⟨S2x1024x4096, .f32⟩
  | .hbm, ⟨60, _⟩ => ⟨S_, .f32⟩
  | .hbm, ⟨61, _⟩ => ⟨S2x1x4096, .f32⟩
  | .hbm, ⟨62, _⟩ => ⟨S2x1x4096, .f32⟩
  | .hbm, ⟨63, _⟩ => ⟨S2x1024x4096, .f32⟩
  | .hbm, ⟨64, _⟩ => ⟨S2x1024x4096, .f32⟩
  | .hbm, ⟨65, _⟩ => ⟨S2x1024x4096, .f32⟩
  | .hbm, ⟨66, _⟩ => ⟨S2x1024x4096, .f32⟩
  | .hbm, ⟨67, _⟩ => ⟨S2048x4096, .f32⟩
  | .hbm, ⟨68, _⟩ => ⟨S6144x4096, .f32⟩
  | .hbm, ⟨69, _⟩ => ⟨S6144x4096, .bf16⟩
  | .hbm, ⟨70, _⟩ => ⟨S6144x2048, .f32⟩
  | .hbm, ⟨71, _⟩ => ⟨S6144x2048, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Proof.Recurrence.lean ====
module

public import Mathlib.Analysis.SpecialFunctions.Log.Basic
public import Mathlib.Algebra.BigOperators.Fin
public import Mathlib.Algebra.BigOperators.Ring.Finset

/-!
  GATED LINEAR ATTENTION AS A RECURRENCE, over the reals.

  A head holds a matrix state `S`. At each time it is scaled by the gate `exp (la n d)` of each key channel `d` and the
  outer product of the key and the value of that time is added; the output of the time is the query applied to the new
  state. A program computes the same a chunk of `N` times at a time: with `cum la t0 n d` the sum of the first `n`
  log-gates of the chunk that starts at `t0`, the output is a part read from the state at the chunk's start and a
  masked attention inside the chunk. The two theorems here (`state_chunk`, `out_chunk`) say so for any chunk, and
  `state_chunk_fin`, `out_chunk_fin` say it with the chunk's rows in any order `τ` (a backward pass stores its rows in
  the opposite order of its times).
-/

@[expose] public section

open Finset

namespace Cert.Gla

variable {δ : Type} [Fintype δ]

/-- The state after `n` times. -/
noncomputable def state (la k : ℕ → δ → ℝ) (v : ℕ → ℝ) : ℕ → δ → ℝ
  | 0, _ => 0
  | n + 1, d => Real.exp (la n d) * state la k v n d + k n d * v n

/-- The output of time `n`: the query on the state that has taken in the time's own key and value. -/
noncomputable def out (la q k : ℕ → δ → ℝ) (v : ℕ → ℝ) (n : ℕ) : ℝ := ∑ d, q n d * state la k v (n + 1) d

/-- The sum of the first `n` log-gates from time `t0` on. -/
noncomputable def cum (la : ℕ → δ → ℝ) (t0 n : ℕ) (d : δ) : ℝ := ∑ j ∈ range n, la (t0 + j) d

theorem cum_succ (la : ℕ → δ → ℝ) (t0 n : ℕ) (d : δ) : cum la t0 (n + 1) d = cum la t0 n d + la (t0 + n) d :=
  sum_range_succ _ _

/-- The state `n` times into a chunk: the chunk's first state decayed, and every key and value since, decayed. -/
theorem state_chunk (la k : ℕ → δ → ℝ) (v : ℕ → ℝ) (t0 n : ℕ) (d : δ) :
    state la k v (t0 + n) d = Real.exp (cum la t0 n d) * state la k v t0 d
      + ∑ j ∈ range n, v (t0 + j) * (k (t0 + j) d * Real.exp (cum la t0 n d - cum la t0 (j + 1) d)) := by
  induction n with
  | zero => simp [cum]
  | succ n ih =>
    have hs : state la k v (t0 + (n + 1)) d
        = Real.exp (la (t0 + n) d) * state la k v (t0 + n) d + k (t0 + n) d * v (t0 + n) := rfl
    rw [hs, ih, sum_range_succ, cum_succ, mul_add, Finset.mul_sum, add_assoc]
    congr 1
    · rw [← mul_assoc, ← Real.exp_add, add_comm]
    · congr 1
      · refine sum_congr rfl fun j _ => ?_
        rw [show cum la t0 n d + la (t0 + n) d - cum la t0 (j + 1) d
          = la (t0 + n) d + (cum la t0 n d - cum la t0 (j + 1) d) by ring, Real.exp_add]
        ring
      · simp [mul_comm]

/-- The output of the chunk's `i`-th time. -/
theorem out_chunk (la q k : ℕ → δ → ℝ) (v : ℕ → ℝ) (t0 i : ℕ) :
    out la q k v (t0 + i) = (∑ j ∈ range (i + 1),
        (∑ d, q (t0 + i) d * k (t0 + j) d * Real.exp (cum la t0 (i + 1) d - cum la t0 (j + 1) d)) * v (t0 + j))
      + ∑ d, q (t0 + i) d * Real.exp (cum la t0 (i + 1) d) * state la k v t0 d := by
  have h : ∀ d, q (t0 + i) d * state la k v (t0 + i + 1) d
      = (∑ j ∈ range (i + 1), q (t0 + i) d * k (t0 + j) d
          * Real.exp (cum la t0 (i + 1) d - cum la t0 (j + 1) d) * v (t0 + j))
        + q (t0 + i) d * Real.exp (cum la t0 (i + 1) d) * state la k v t0 d := fun d => by
    rw [add_assoc t0 i 1, state_chunk, mul_add, Finset.mul_sum, add_comm]
    congr 1
    · refine sum_congr rfl fun j _ => ?_
      ring
    · ring
  unfold out
  rw [sum_congr rfl fun d _ => h d, sum_add_distrib, sum_comm]
  simp only [sum_mul]

variable {N : ℕ}

/-- A sum over the chunk's rows, whatever their order, is the sum over the chunk's times. -/
theorem sum_rows (τ : Fin N ≃ Fin N) (f : ℕ → ℝ) : ∑ j : Fin N, f (τ j) = ∑ j ∈ range N, f j := by
  rw [Equiv.sum_comp τ fun j : Fin N => f j, Fin.sum_univ_eq_sum_range]

/-- `state_chunk` at a chunk's end, the rows in any order. -/
theorem state_chunk_fin (τ : Fin N ≃ Fin N) (la k : ℕ → δ → ℝ) (v : ℕ → ℝ) (t0 : ℕ) (d : δ) :
    state la k v (t0 + N) d
      = (∑ j : Fin N, v (t0 + τ j) * (k (t0 + τ j) d * Real.exp (cum la t0 N d - cum la t0 (τ j + 1) d)))
        + state la k v t0 d * Real.exp (cum la t0 N d) := by
  rw [sum_rows τ fun j => v (t0 + j) * (k (t0 + j) d * Real.exp (cum la t0 N d - cum la t0 (j + 1) d)),
    state_chunk, add_comm, mul_comm (Real.exp _)]

/-- `out_chunk`, the rows in any order and the later rows masked to zero. -/
theorem out_chunk_fin (τ : Fin N ≃ Fin N) (la q k : ℕ → δ → ℝ) (v : ℕ → ℝ) (t0 : ℕ) (i : Fin N) :
    out la q k v (t0 + τ i)
      = (∑ j : Fin N, (if τ j ≤ τ i then
          ∑ d, q (t0 + τ i) d * k (t0 + τ j) d * Real.exp (cum la t0 (τ i + 1) d - cum la t0 (τ j + 1) d) else 0)
            * v (t0 + τ j))
        + ∑ d, q (t0 + τ i) d * Real.exp (cum la t0 (τ i + 1) d) * state la k v t0 d := by
  rw [out_chunk]
  congr 1
  have h : ∀ j : Fin N, (τ j ≤ τ i) = ((τ j : ℕ) ≤ (τ i : ℕ)) := fun j => rfl
  simp only [h]
  rw [sum_rows τ fun j => (if j ≤ (τ i : ℕ) then
      ∑ d, q (t0 + τ i) d * k (t0 + j) d * Real.exp (cum la t0 (τ i + 1) d - cum la t0 (j + 1) d) else 0) * v (t0 + j)]
  have hsub : range ((τ i : ℕ) + 1) ⊆ range N := by
    intro j hj; simp only [Finset.mem_range] at hj ⊢; exact lt_of_lt_of_le hj (τ i).isLt
  rw [← sum_subset hsub]
  · refine sum_congr rfl fun j hj => ?_
    rw [if_pos (by simpa [Nat.lt_succ_iff] using hj)]
  · intro j _ hj
    rw [if_neg (by simpa [Nat.lt_succ_iff] using hj), zero_mul]

/-- The sums of log-gates of two rows of one chunk differ by at most the number of rows between them times the
    largest gate. -/
theorem cum_sub_le (la : ℕ → δ → ℝ) (c : ℝ) (hla : ∀ n d, la n d ≤ 0 ∧ -c ≤ la n d) (t0 m n : ℕ) (d : δ) (h : m ≤ n) :
    cum la t0 n d - cum la t0 m d ≤ 0 ∧ cum la t0 m d - cum la t0 n d ≤ (n - m : ℕ) * c := by
  obtain ⟨r, rfl⟩ := Nat.exists_eq_add_of_le h
  induction r with
  | zero => simp
  | succ r ih =>
    have := ih (by omega)
    have h1 := hla (t0 + (m + r)) d
    rw [← add_assoc, cum_succ]
    simp only [Nat.add_sub_cancel_left, add_assoc] at this ⊢
    push_cast
    constructor <;> nlinarith [this.1, this.2, h1.1, h1.2]

/-- Where no log-gate is positive, the sums fall. -/
theorem cum_nonpos (la : ℕ → δ → ℝ) (hla : ∀ n d, la n d ≤ 0) (t0 n m : ℕ) (d : δ) (h : m ≤ n) :
    cum la t0 n d - cum la t0 m d ≤ 0 := by
  obtain ⟨r, rfl⟩ := Nat.exists_eq_add_of_le h
  induction r with
  | zero => simp
  | succ r ih =>
    have := ih (by omega)
    have h1 := hla (t0 + (m + r)) d
    rw [← add_assoc, cum_succ]
    linarith

end Cert.Gla
-- ==== Proof.Scalars.lean ====
module

public import Idealize.ShloMosaic.Lib.Pointwise

/-!
  SCALAR FACTS: the constants the two programs print, sums of real numbers read among the extended reals, and the
  log-gate. The log-gate of a logit `x` is `log (sigmoid x) / 16`; one program computes it as
  `min x 0 - log (1 + exp (-|x|))`, the other as minus the softplus of `-x`. Both are the real number `gate x`.
-/

@[expose] public section

noncomputable section

namespace Cert.Gla

open Idealize.ShloMosaic

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem coe_min (x y : ℝ) : ((min x y : ℝ) : EReal) = min (x : EReal) (y : EReal) :=
  EReal.coe_strictMono.monotone.map_min

theorem coe_max (x y : ℝ) : ((max x y : ℝ) : EReal) = max (x : EReal) (y : EReal) :=
  EReal.coe_strictMono.monotone.map_max

theorem lit_sixteenth : Ideal.ofBits .f32 1031798784#32 = ((1 / 16 : ℝ) : EReal) := by
  simp [Ideal.ofBits, Ideal.ieee, -EReal.coe_mul]; norm_num

theorem lit_sixty : Ideal.ofBits .f32 1114636288#32 = ((60 : ℝ) : EReal) := by
  simp [Ideal.ofBits, Ideal.ieee, -EReal.coe_mul]; norm_num

theorem lit_sixteen : Ideal.ofBits .f32 1098907648#32 = ((16 : ℝ) : EReal) := by
  simp [Ideal.ofBits, Ideal.ieee, -EReal.coe_mul]; norm_num

theorem lit_neg_fourteen : Ideal.ofBits .f32 3244294144#32 = ((-14 : ℝ) : EReal) := by
  simp [Ideal.ofBits, Ideal.ieee, -EReal.coe_mul]; norm_num

theorem lit_inf : Ideal.ofBits .f32 2139095040#32 = ⊤ := by
  simp [Ideal.ofBits, Ideal.ieee]

/-- `log (sigmoid x) / 16`, at `x = ⊤` its limit 0. -/
def gate (x : EReal) : ℝ := if x = ⊤ then 0 else -Real.log (1 + Real.exp (-x.toReal)) * (1 / 16)

theorem gate_le (x : EReal) : gate x ≤ 0 := by
  unfold gate; split_ifs
  · exact le_rfl
  · have : 0 ≤ Real.log (1 + Real.exp (-x.toReal)) := Real.log_nonneg (by linarith [Real.exp_pos (-x.toReal)])
    linarith

/-- At a logit of at least -14 the log-gate is at least -0.9. -/
theorem neg_le_gate (x : EReal) (hx : ((-14 : ℝ) : EReal) ≤ x) : -(9 / 10) ≤ gate x := by
  unfold gate; split_ifs with h
  · norm_num
  · induction x with
    | bot => simp at hx
    | top => simp at h
    | coe r =>
      have hr : -14 ≤ r := EReal.coe_le_coe_iff.mp hx
      simp only [EReal.toReal_coe]
      have h1 : Real.exp (-r) ≤ Real.exp 14 := Real.exp_le_exp.mpr (by linarith)
      have h2 : (15 : ℝ) ≤ Real.exp 14 := by have := Real.add_one_le_exp (14 : ℝ); linarith
      have h3 : (7 / 5 : ℝ) ≤ Real.exp (2 / 5) := by have := Real.add_one_le_exp (2 / 5 : ℝ); linarith
      have h4 : Real.exp (72 / 5) = Real.exp 14 * Real.exp (2 / 5) := by rw [← Real.exp_add]; norm_num
      have h5 : 1 + Real.exp (-r) ≤ Real.exp (72 / 5) := by rw [h4]; nlinarith
      have h6 : Real.log (1 + Real.exp (-r)) ≤ 72 / 5 := by
        rw [← Real.log_exp (72 / 5)]
        exact Real.log_le_log (by linarith [Real.exp_pos (-r)]) h5
      linarith

theorem log_sigmoid (r : ℝ) : min r 0 - Real.log (1 + Real.exp (-|r|)) = -Real.log (1 + Real.exp (-r)) := by
  rcases le_total 0 r with h | h
  · rw [min_eq_right h, abs_of_nonneg h, zero_sub]
  · rw [min_eq_left h, abs_of_nonpos h, neg_neg]
    have h1 : 1 + Real.exp (-r) = Real.exp (-r) * (1 + Real.exp r) := by
      rw [mul_add, ← Real.exp_add]; simp [add_comm]
    rw [h1, Real.log_mul (Real.exp_pos _).ne' (by linarith [Real.exp_pos r]), Real.log_exp]
    ring

theorem log_one_add_exp (r : ℝ) : Ideal.log (1 + Ideal.exp (r : EReal)) = ((Real.log (1 + Real.exp r) : ℝ) : EReal) := by
  rw [Ideal.exp_coe, ← EReal.coe_one, ← EReal.coe_add, Ideal.log_coe, if_neg (by linarith [Real.exp_pos r])]

theorem log_one : Ideal.log 1 = 0 := by
  rw [← EReal.coe_one, Ideal.log_coe, if_neg (by norm_num)]; simp

/-- The log-gate as the kernel computes it. -/
theorem gate_min (x : EReal) (hx : x ≠ ⊥) :
    (min x 0 - Ideal.log (1 + Ideal.exp (0 - max x (-x)))) * ((1 / 16 : ℝ) : EReal) = (gate x : EReal) := by
  induction x with
  | bot => simp at hx
  | top => simp [gate, log_one]
  | coe r =>
    have h : (0 : EReal) - max (r : EReal) (-(r : EReal)) = ((-|r| : ℝ) : EReal) := by
      rw [← EReal.coe_neg, ← coe_max, zero_sub, ← EReal.coe_neg, abs_eq_max_neg]
    rw [h, log_one_add_exp, ← EReal.coe_zero, ← coe_min, ← EReal.coe_sub, ← EReal.coe_mul, log_sigmoid]
    simp [gate]

/-- The log-gate as minus a softplus. -/
theorem gate_softplus (x : EReal) (hx : x ≠ ⊥) :
    Ideal.div (-(max (-x) 0 + Ideal.log (1 + Ideal.exp (-(max (-x) (- -x)))))) ((16 : ℝ) : EReal) = (gate x : EReal) := by
  rw [Ideal.div_coe (by norm_num)]
  induction x with
  | bot => simp at hx
  | top => simp [gate, log_one]
  | coe r =>
    have h : -(max (-(r : EReal)) (- -(r : EReal))) = ((-|r| : ℝ) : EReal) := by
      rw [neg_neg, ← EReal.coe_neg, ← coe_max, ← EReal.coe_neg, abs_eq_max_neg, max_comm]
    rw [h, log_one_add_exp, ← EReal.coe_zero, ← EReal.coe_neg, ← coe_max, ← EReal.coe_add, ← EReal.coe_neg, ← EReal.coe_mul]
    have h2 : -(max (-r) 0 + Real.log (1 + Real.exp (-|r|))) = -Real.log (1 + Real.exp (-r)) := by
      rw [← log_sigmoid, ← neg_zero, max_neg_neg]; simp; ring
    rw [h2]; simp [gate]

end Cert.Gla
-- ==== Proof.KernelOps.lean ====
module

public import proofs.«01_k».proof.Proof.Gen.KernelIdeal.Value
public import Idealize.ShloMosaic.Lib.Pointwise
public import proofs.«01_k».proof.Proof.Recurrence
public import proofs.«01_k».proof.Proof.Scalars

@[expose] public section
/-!
# The kernel's arithmetic

What the values that the kernel's body computes are, element by element: the masks, the decays, one chunk's outputs and one
chunk's new state.
-/

set_option maxRecDepth 16384

noncomputable section

namespace Cert.KernelIdeal.Hand

open Cert.KernelIdeal Cert.KernelIdeal.Gen Cert.Gla Idealize.ShloMosaic

/-- An array of extended reals. -/
abbrev Arr (S : Shape) (φ : FTy) := FVec Ideal S φ

/-- The outputs of a pass' first chunk, which starts from the zero state. -/
def accOne (M : IVec S128x128 1) (q k : Arr S128x256 .bf16) (v : Arr S128x512 .bf16) (b : Arr S1x128x256 .f32) :
    Arr S1x128x512 .f32 :=
  k0_pay23 M (k0_pay17 k) v (k0_pay21 q b) (k0_pay22 b)

/-- The outputs of a pass' second chunk, which starts from the state `s`. -/
def accTwo (M : IVec S128x128 1) (q k : Arr S128x256 .bf16) (v : Arr S128x512 .bf16) (b : Arr S1x128x256 .f32)
    (s : Arr S1x1x512x256 .f32) : Arr S1x128x512 .f32 :=
  k0_pay74 M (k0_pay66 q) (k0_pay67 k) v (k0_pay68 b) (k0_pay71 q b) (k0_pay72 b) s

/-- The state after a pass' first chunk. -/
def stOne (k : Arr S128x256 .bf16) (v : Arr S128x512 .bf16) (b : Arr S1x128x256 .f32) (bt : Arr S1x256 .f32) :
    Arr S1x1x512x256 .f32 :=
  k0_pay24 (k0_pay17 k) v (k0_pay18 b) bt

/-- The state after a pass' second chunk, from the state `s`. -/
def stTwo (k : Arr S128x256 .bf16) (v : Arr S128x512 .bf16) (b : Arr S1x128x256 .f32) (bt : Arr S1x256 .f32)
    (s : Arr S1x1x512x256 .f32) : Arr S1x1x512x256 .f32 :=
  k0_pay75 (k0_pay67 k) v (k0_pay68 b) bt s

/-- The running sums of the log decays within a chunk. -/
def decay (M : IVec S128x128 1) (g : Arr S128x128 .bf16) (w : Arr S128x1024 .bf16) (bias : Arr S1x1024 .f32) :
    Arr S1x128x1024 .f32 := k0_pay10 M g w bias

variable (M : IVec S128x128 1) (q k : Arr S128x256 .bf16) (v : Arr S128x512 .bf16) (b : Arr S1x128x256 .f32)
  (bt : Arr S1x256 .f32) (s : Arr S1x1x512x256 .f32)

/-- The mask of a pass whose rows' times are `τ`: row `i` sees row `j` when `j`'s time is not later. -/
def IsMask (M : IVec S128x128 1) (τ : Fin 128 ≃ Fin 128) : Prop :=
  ∀ i j, M (ix2 i j) = if τ j ≤ τ i then 1#1 else 0#1

/-- A row number as a 32-bit word is that number. -/
theorem toInt_row : ∀ n : Fin 128, (BitVec.ofNat 32 n).toInt = (n.val : ℤ) := by decide

/-- The forward pass' mask: column at most row. -/
theorem isMask_fwd : IsMask k0_pay7 (Equiv.refl _) := by
  intro i j
  unfold_payloads
  pointwise
  simp only [IntOp.cmpi, BitVec.sle, toInt_row, Equiv.refl_apply, Fin.le_def, Nat.cast_le]
  split_ifs with h <;> simp [h]

/-- The backward pass' mask: column at least row, and rows run against time. -/
theorem isMask_bwd : IsMask k0_pay8 Fin.revPerm := by
  intro i j
  unfold_payloads
  pointwise
  simp only [IntOp.cmpi, BitVec.sle, toInt_row, Fin.revPerm_apply, Fin.rev_le_rev, Nat.cast_le, ← Fin.le_def]
  split_ifs with h <;> simp [h]

section Chunk

variable (la qn kn : ℕ → Fin 256 → ℝ) (vn : ℕ → ℝ) (t0 : ℕ) (τ : Fin 128 ≃ Fin 128) (e : Fin 512)
variable (hla : ∀ n d, la n d ≤ 0 ∧ -(9 / 10) ≤ la n d)
variable (hM : IsMask M τ)
variable (hq : ∀ i d, q (ix2 i d) * ((1 / 16 : ℝ) : EReal) = (qn (t0 + τ i) d : EReal))
variable (hk : ∀ i d, k (ix2 i d) = (kn (t0 + τ i) d : EReal))
variable (hv : ∀ i, v (ix2 i e) = (vn (t0 + τ i) : EReal))
variable (hb : ∀ i d, b (ix3 0 i d) = (cum la t0 (τ i + 1) d : EReal))
variable (hbt : ∀ d, bt (ix2 0 d) = (cum la t0 128 d : EReal))
variable (hs : ∀ d, s (ix4 0 0 e d) = (state la kn vn t0 d : EReal))

include hla in
/-- Two rows of a chunk on either side of its middle row are at most 64 gates apart: the clamps are idle. -/
theorem clamp (x y : ℕ) (d : Fin 256) (h : x ≤ y + 64) (h' : y ≤ x + 64) : min (cum la t0 x d - cum la t0 y d) 60 = cum la t0 x d - cum la t0 y d := by
  apply min_eq_left
  rcases le_total x y with hxy | hxy
  · have := (cum_sub_le la (9 / 10) hla t0 x y d hxy).2
    have h2 : ((y - x : ℕ) : ℝ) ≤ 64 := by exact_mod_cast (by omega : y - x ≤ 64)
    nlinarith
  · have := (cum_sub_le la (9 / 10) hla t0 y x d hxy).1
    linarith

include hla hM hq hk hv hb in
/-- The masked attention inside a chunk, as both passes' first chunks compute it. -/
theorem inner_eq (τmid : ∀ i, (τ i : ℕ) ≤ τ 64 + 64 ∧ (τ 64 : ℕ) ≤ τ i + 64) (i : Fin 128) :
    accOne M q k v b (ix3 0 i e) = ((∑ j : Fin 128, (if τ j ≤ τ i then
          ∑ d, qn (t0 + τ i) d * kn (t0 + τ j) d * Real.exp (cum la t0 (τ i + 1) d - cum la t0 (τ j + 1) d) else 0)
            * vn (t0 + τ j) : ℝ) : EReal) := by
  have hR : accOne M q k v b (ix3 0 i e) = ∑ j : Fin 128, Scalar.select (M (ix2 i j)) ((∑ d : Fin 256,
      q (ix2 i d) * ((1 / 16 : ℝ) : EReal) * Ideal.exp (min (b (ix3 0 i d) - b (ix3 0 64 d)) ((60 : ℝ) : EReal)) *
        (k (ix2 j d) * Ideal.exp (min (b (ix3 0 64 d) - b (ix3 0 j d)) ((60 : ℝ) : EReal)))) * v (ix2 j e)) 0 := by
    unfold accOne
    unfold_payloads
    pointwise
    simp only [lit_sixteenth, lit_sixty]
  rw [hR, coe_sum]
  refine Finset.sum_congr rfl fun j _ => ?_
  rw [hM, Scalar.select]
  by_cases hj : τ j ≤ τ i
  · rw [if_pos hj, if_pos (show (1#1 : BitVec 1) = 1 from rfl), if_pos hj, hv, EReal.coe_mul, coe_sum]
    congr 1
    refine Finset.sum_congr rfl fun d _ => ?_
    rw [hq, hk, hb, hb, hb, ← EReal.coe_sub, ← EReal.coe_sub, ← coe_min, ← coe_min,
      clamp la t0 hla _ _ _ (by have := τmid i; omega) (by have := τmid i; omega),
      clamp la t0 hla _ _ _ (by have := τmid j; omega) (by have := τmid j; omega), Ideal.exp_coe, Ideal.exp_coe,
      ← EReal.coe_mul, ← EReal.coe_mul, ← EReal.coe_mul]
    congr 1
    rw [show cum la t0 (τ i + 1) d - cum la t0 (τ j + 1) d = (cum la t0 (τ i + 1) d - cum la t0 (τ 64 + 1) d)
      + (cum la t0 (τ 64 + 1) d - cum la t0 (τ j + 1) d) by ring, Real.exp_add]
    ring
  · rw [if_neg hj, if_neg (by decide), if_neg hj]
    simp

include hla hM hq hk hv hb in
/-- A first chunk's output. -/
theorem accOne_eq (τmid : ∀ i, (τ i : ℕ) ≤ τ 64 + 64 ∧ (τ 64 : ℕ) ≤ τ i + 64) (h0 : t0 = 0) (i : Fin 128) :
    accOne M q k v b (ix3 0 i e) = (out la qn kn vn (t0 + τ i) : EReal) := by
  rw [inner_eq M q k v b la qn kn vn t0 τ e hla hM hq hk hv hb τmid, out_chunk_fin τ]
  subst h0
  simp [state]

include hla hM hq hk hv hb hs in
/-- A later chunk's output: the attention inside it and the query on the state it starts from. -/
theorem accTwo_eq (τmid : ∀ i, (τ i : ℕ) ≤ τ 64 + 64 ∧ (τ 64 : ℕ) ≤ τ i + 64) (i : Fin 128) :
    accTwo M q k v b s (ix3 0 i e) = (out la qn kn vn (t0 + τ i) : EReal) := by
  have hR : accTwo M q k v b s (ix3 0 i e) = accOne M q k v b (ix3 0 i e)
      + ∑ d : Fin 256, q (ix2 i d) * ((1 / 16 : ℝ) : EReal) * Ideal.exp (b (ix3 0 i d)) * s (ix4 0 0 e d) := by
    unfold accTwo accOne
    unfold_payloads
    pointwise
    simp only [lit_sixteenth, lit_sixty]
  rw [hR, inner_eq M q k v b la qn kn vn t0 τ e hla hM hq hk hv hb τmid, out_chunk_fin τ, EReal.coe_add]
  congr 1
  rw [coe_sum]
  refine Finset.sum_congr rfl fun d _ => ?_
  rw [hq, hb, hs, Ideal.exp_coe, ← EReal.coe_mul, ← EReal.coe_mul]

include hk hv hb hbt in
theorem stOne_eq (h0 : t0 = 0) (d : Fin 256) :
    stOne k v b bt (ix4 0 0 e d) = (state la kn vn (t0 + 128) d : EReal) := by
  have hR : stOne k v b bt (ix4 0 0 e d) = ∑ j : Fin 128, v (ix2 j e) * (k (ix2 j d) * Ideal.exp (bt (ix2 0 d) - b (ix3 0 j d))) := by
    unfold stOne
    unfold_payloads
    pointwise
  rw [hR, state_chunk_fin τ, EReal.coe_add, coe_sum]
  have hz : ((state la kn vn t0 d * Real.exp (cum la t0 128 d) : ℝ) : EReal) = 0 := by subst h0; simp [state]
  rw [hz, add_zero]
  refine Finset.sum_congr rfl fun j _ => ?_
  rw [hv, hk, hb, hbt, ← EReal.coe_sub, Ideal.exp_coe, ← EReal.coe_mul, ← EReal.coe_mul]

include hk hv hb hbt hs in
theorem stTwo_eq (d : Fin 256) :
    stTwo k v b bt s (ix4 0 0 e d) = (state la kn vn (t0 + 128) d : EReal) := by
  have hR : stTwo k v b bt s (ix4 0 0 e d)
      = ∑ j : Fin 128, v (ix2 j e) * (k (ix2 j d) * Ideal.exp (bt (ix2 0 d) - b (ix3 0 j d)))
        + s (ix4 0 0 e d) * Ideal.exp (bt (ix2 0 d)) := by
    unfold stTwo
    unfold_payloads
    pointwise
  rw [hR, state_chunk_fin τ, EReal.coe_add, coe_sum]
  congr 1
  · refine Finset.sum_congr rfl fun j _ => ?_
    rw [hv, hk, hb, hbt, ← EReal.coe_sub, Ideal.exp_coe, ← EReal.coe_mul, ← EReal.coe_mul]
  · rw [hs, hbt, Ideal.exp_coe, ← EReal.coe_mul]

end Chunk

/-- The running sums of a chunk's log-gates, from its gates' low-rank rows `g`, the padded gate weight and the bias. -/
theorem decay_eq (τ : Fin 128 ≃ Fin 128) (hM : IsMask M τ) (la : ℕ → ℝ) (t0 : ℕ)
    (g : Arr S128x128 .bf16) (w : Arr S128x1024 .bf16) (bias : Arr S1x1024 .f32) (c : Fin 1024)
    (hx : ∀ i : Fin 128, (∑ r : Fin 128, g (ix2 i r) * w (ix2 r c)) + bias (ix2 0 c) ≠ ⊥
      ∧ gate ((∑ r : Fin 128, g (ix2 i r) * w (ix2 r c)) + bias (ix2 0 c)) = la (t0 + τ i)) (i : Fin 128) :
    decay M g w bias (ix3 0 i c) = ((∑ j ∈ Finset.range (τ i + 1), la (t0 + j) : ℝ) : EReal) := by
  have hR : decay M g w bias (ix3 0 i c) = ∑ j : Fin 128, (((M (ix2 i j)).setWidth 32).toInt : ℝ) * (la (t0 + τ j) : EReal) +
     ∑ j : Fin 128, (((M (ix2 i j)).setWidth 32).toInt : ℝ) * ((la (t0 + τ j) : EReal) - (la (t0 + τ j) : EReal)) := by
    have hg : ∀ i : Fin 128, (min ((∑ r : Fin 128, g (ix2 i r) * w (ix2 r c)) + bias (ix2 0 c)) 0
        - Ideal.log (1 + Ideal.exp (0 - max ((∑ r : Fin 128, g (ix2 i r) * w (ix2 r c)) + bias (ix2 0 c))
            (-((∑ r : Fin 128, g (ix2 i r) * w (ix2 r c)) + bias (ix2 0 c)))))) * ((1 / 16 : ℝ) : EReal) = (la (t0 + τ i) : EReal) :=
      fun i => by rw [gate_min _ (hx i).1, (hx i).2]
    simp only [← hg]
    unfold decay
    unfold_payloads
    pointwise
    simp only [lit_sixteenth]
    rfl
  rw [hR]
  have h0 : ∀ j : Fin 128, ((la (t0 + τ j) : EReal) - (la (t0 + τ j) : EReal)) = 0 := fun j => by
    rw [← EReal.coe_sub, sub_self, EReal.coe_zero]
  simp only [h0, mul_zero, Finset.sum_const_zero, add_zero]
  have h1 : ∀ j : Fin 128, ((((M (ix2 i j)).setWidth 32).toInt : ℝ) : EReal) * (la (t0 + τ j) : EReal)
      = (((if (τ j : ℕ) ≤ (τ i : ℕ) then la (t0 + τ j) else 0 : ℝ)) : EReal) := fun j => by
    rw [hM]
    have : (τ j ≤ τ i) = ((τ j : ℕ) ≤ (τ i : ℕ)) := rfl
    by_cases h : (τ j : ℕ) ≤ (τ i : ℕ)
    · rw [if_pos (this ▸ h), if_pos h]; simp
    · rw [if_neg (this ▸ h), if_neg h]; simp
  rw [Finset.sum_congr rfl fun j _ => h1 j, ← coe_sum, sum_rows τ fun j => if j ≤ (τ i : ℕ) then la (t0 + j) else 0,
    ← Finset.sum_filter]
  congr 2
  ext j
  simp only [Finset.mem_filter, Finset.mem_range]
  have := (τ i).isLt
  omega

theorem decay_1 (g : Arr S128x128 .bf16) (w : Arr S128x1024 .bf16) (bias : Arr S1x1024 .f32) :
  k0_pay9 g w bias = decay k0_pay7 g w bias := rfl
theorem decay_2 (g : Arr S128x128 .bf16) (w : Arr S128x1024 .bf16) (bias : Arr S1x1024 .f32) :
  k0_pay12 k0_pay7 (k0_pay11 g w) bias = decay k0_pay7 g w bias := rfl
theorem decay_3 (g : Arr S128x128 .bf16) (w : Arr S128x1024 .bf16) (bias : Arr S1x1024 .f32) :
  k0_pay16 k0_pay8 (k0_pay14 g w bias) (k0_pay15 g w bias) = decay k0_pay8 g w bias := rfl

end Cert.KernelIdeal.Hand
-- ==== Proof.Block.lean ====
module
public import proofs.«01_k».proof.Proof.KernelOps
public import Idealize.ShloMosaic.Lib.Pipeline.ValueKit.Tiles
@[expose] public section
/-!
# What the kernel computes for one batch element

A grid point holds one batch element: its 256 rows, four heads. The rows are read in two chunks of 128, forward and
backward in time. Here the blocks a grid point reads are tied to real data (`Data`, in time order), and each of the
kernel's buffers is shown to hold the recurrence's values on these.
-/
set_option maxRecDepth 16384
noncomputable section
namespace Cert.KernelIdeal.Hand
open Cert.KernelIdeal Cert.KernelIdeal.Gen Cert.Gla Idealize.ShloMosaic

/-- One batch element's gates, queries, keys and values, per direction and head, in the direction's time order. -/
structure Data where
  /-- log gates -/
  la : Fin 2 → Fin 4 → ℕ → Fin 256 → ℝ
  /-- scaled queries -/
  q : Fin 2 → Fin 4 → ℕ → Fin 256 → ℝ
  /-- keys -/
  k : Fin 2 → Fin 4 → ℕ → Fin 256 → ℝ
  /-- values -/
  v : Fin 2 → Fin 4 → ℕ → Fin 512 → ℝ

/-- The recurrence's state before step `n`. -/
def Data.st (D : Data) (dir : Fin 2) (h : Fin 4) (e : Fin 512) (n : ℕ) (d : Fin 256) : ℝ :=
  state (D.la dir h) (D.k dir h) (fun n => D.v dir h n e) n d

/-- The recurrence's output at step `n`. -/
def Data.o (D : Data) (dir : Fin 2) (h : Fin 4) (e : Fin 512) (n : ℕ) : ℝ :=
  out (D.la dir h) (D.q dir h) (D.k dir h) (fun n => D.v dir h n e) n

/-- The row that a direction meets at time `n`. -/
def rowAt (dir : Fin 2) (n : ℕ) : Fin 256 :=
  match dir with
  | 0 => ⟨min n 255, by omega⟩
  | 1 => ⟨255 - n, by omega⟩

/-- The time at which a direction meets row `r`. -/
def timeAt (dir : Fin 2) (r : ℕ) : ℕ :=
  match dir with
  | 0 => r
  | 1 => 255 - r

/-- The half of the rows that a direction meets in its step `s`. -/
def half : Fin 2 → Fin 2 → Fin 2
  | 0, 0 => 0
  | 0, 1 => 1
  | 1, 0 => 1
  | 1, 1 => 0

/-- Time inside a chunk, by row. -/
def tau : Fin 2 → (Fin 128 ≃ Fin 128)
  | 0 => Equiv.refl _
  | 1 => Fin.revPerm

/-- The causal mask of a direction. -/
def mask : Fin 2 → IVec S128x128 1
  | 0 => k0_pay7
  | 1 => k0_pay8

theorem mask_is (dir : Fin 2) : IsMask (mask dir) (tau dir) := by
  match dir with
  | 0 => exact isMask_fwd
  | 1 => exact isMask_bwd

theorem tau_mid (dir : Fin 2) (i : Fin 128) : (tau dir i : ℕ) ≤ tau dir 64 + 64 ∧ (tau dir 64 : ℕ) ≤ tau dir i + 64 := by
  match dir with
  | 0 => simp only [tau, Equiv.refl_apply]; omega
  | 1 => simp only [tau, Fin.revPerm_apply, Fin.val_rev]; omega

theorem time_half (dir s : Fin 2) (i : Fin 128) : timeAt dir (128 * (half dir s) + i) = 128 * s + tau dir i := by
  fin_cases dir <;> fin_cases s <;> simp [timeAt, half, tau, Fin.val_rev] <;> omega

theorem row_half (dir s : Fin 2) (i : Fin 128) : (rowAt dir (128 * s + tau dir i) : ℕ) = 128 * (half dir s) + i := by
  fin_cases dir <;> fin_cases s <;> simp [rowAt, half, tau, Fin.val_rev] <;> omega

/-- Column `d` of head `h` among the 1024 key columns. -/
def colK (h : Fin 4) (d : Fin 256) : Fin 1024 := ⟨256 * h + d, by omega⟩
/-- Column `e` of head `h` among the 2048 value columns. -/
def colV (h : Fin 4) (e : Fin 512) : Fin 2048 := ⟨512 * h + e, by omega⟩

/-- The buffers of a grid point and the input blocks in them. -/
structure Ctx where
  c : Dev nD
  arg2 : Memref sig Kind.tc Space.vmem S256x1024 EltTy.bf16
  h2 : arg2.IsWhole
  arg3 : Memref sig Kind.tc Space.vmem S256x1024 EltTy.bf16
  h3 : arg3.IsWhole
  arg4 : Memref sig Kind.tc Space.vmem S256x2048 EltTy.bf16
  h4 : arg4.IsWhole
  arg6 : Memref sig Kind.tc Space.vmem S256x128 EltTy.bf16
  h6 : arg6.IsWhole
  arg7 : Memref sig Kind.tc Space.vmem S128x1024 EltTy.bf16
  h7 : arg7.IsWhole
  arg8 : Memref sig Kind.tc Space.vmem S1x1024 EltTy.f32
  h8 : arg8.IsWhole
  arg9 : Memref sig Kind.tc Space.vmem S128x1024 EltTy.bf16
  h9 : arg9.IsWhole
  arg10 : Memref sig Kind.tc Space.vmem S1x1024 EltTy.f32
  h10 : arg10.IsWhole
  arg15 : Memref sig Kind.tc Space.vmem S2x256x1024 EltTy.f32
  arg17 : Memref sig Kind.tc Space.vmem S2x4x512x256 EltTy.f32
  x0 : Arr S256x1024 .bf16
  x1 : Arr S256x1024 .bf16
  x2 : Arr S256x2048 .bf16
  x4 : Arr S256x128 .bf16
  x5 : Arr S128x1024 .bf16
  x6 : Arr S1x1024 .f32
  x7 : Arr S128x1024 .bf16
  x8 : Arr S1x1024 .f32

namespace Ctx
variable (C : Ctx)

/-- The padded gate weight of a direction. -/
def w : Fin 2 → Arr S128x1024 .bf16
  | 0 => C.x5
  | 1 => C.x7
/-- The gate bias of a direction. -/
def bias : Fin 2 → Arr S1x1024 .f32
  | 0 => C.x6
  | 1 => C.x8

/-- The gate logit of row `r`, column `c`. -/
def logit (dir : Fin 2) (r : Fin 256) (c : Fin 1024) : EReal :=
  (∑ s : Fin 128, C.x4 (ix2 r s) * C.w dir (ix2 s c)) + C.bias dir (ix2 0 c)

/-- The input blocks hold the data `D`, and its log gates lie between −9/10 and 0. -/
structure Reads (D : Data) : Prop where
  q : ∀ dir h n d, C.x0 (ix2 (rowAt dir n) (colK h d)) * ((1 / 16 : ℝ) : EReal) = (D.q dir h n d : EReal)
  k : ∀ dir h n d, C.x1 (ix2 (rowAt dir n) (colK h d)) = (D.k dir h n d : EReal)
  v : ∀ dir h n e, C.x2 (ix2 (rowAt dir n) (colV h e)) = (D.v dir h n e : EReal)
  la : ∀ dir h n d, C.logit dir (rowAt dir n) (colK h d) ≠ ⊥ ∧ gate (C.logit dir (rowAt dir n) (colK h d)) = D.la dir h n d
  bound : ∀ dir h n d, D.la dir h n d ≤ 0 ∧ -(9 / 10) ≤ D.la dir h n d

/-- A half of the query rows of one head. -/
def qL (a : Fin 2) (h : Fin 4) : Arr S128x256 .bf16 :=
  View.readAt (Elt Ideal) C.arg2.view (Rect.unit (s := S256x1024) ![128 * (a : ℕ), 256 * (h : ℕ)] S128x256.size
    (by intro x; fin_cases x <;> simp <;> omega)).toLoadRect (C.h2.unread C.x0)
/-- A half of the key rows of one head. -/
def kL (a : Fin 2) (h : Fin 4) : Arr S128x256 .bf16 :=
  View.readAt (Elt Ideal) C.arg3.view (Rect.unit (s := S256x1024) ![128 * (a : ℕ), 256 * (h : ℕ)] S128x256.size
    (by intro x; fin_cases x <;> simp <;> omega)).toLoadRect (C.h3.unread C.x1)
/-- A half of the value rows of one head. -/
def vL (a : Fin 2) (h : Fin 4) : Arr S128x512 .bf16 :=
  View.readAt (Elt Ideal) C.arg4.view (Rect.unit (s := S256x2048) ![128 * (a : ℕ), 512 * (h : ℕ)] S128x512.size
    (by intro x; fin_cases x <;> simp <;> omega)).toLoadRect (C.h4.unread C.x2)
/-- A half of the gate rows. -/
def gL (a : Fin 2) : Arr S128x128 .bf16 :=
  View.readAt (Elt Ideal) C.arg6.view (Rect.unit (s := S256x128) ![128 * (a : ℕ), 0] S128x128.size
    (by intro x; fin_cases x <;> simp <;> omega)).toLoadRect (C.h6.unread C.x4)
/-- The whole gate weight, as loaded. -/
def wL : Fin 2 → Arr S128x1024 .bf16
  | 0 => View.readAt (Elt Ideal) C.arg7.view (Rect.unit ![0, 0] S128x1024.size (by decide)).toLoadRect (C.h7.unread C.x5)
  | 1 => View.readAt (Elt Ideal) C.arg9.view (Rect.unit ![0, 0] S128x1024.size (by decide)).toLoadRect (C.h9.unread C.x7)
/-- The whole gate bias, as loaded. -/
def biasL : Fin 2 → Arr S1x1024 .f32
  | 0 => View.readAt (Elt Ideal) C.arg8.view (Rect.unit ![0, 0] S1x1024.size (by decide)).toLoadRect (C.h8.unread C.x6)
  | 1 => View.readAt (Elt Ideal) C.arg10.view (Rect.unit ![0, 0] S1x1024.size (by decide)).toLoadRect (C.h10.unread C.x8)

/-- The pieces stored to the buffer of cumulated gates. -/
def gates : List (View.Piece (Elt Ideal) S2x256x1024 EltTy.f32) :=
  kernelRun0_A.sl.HS0_4 C.c C.arg6 C.h6 C.arg7 C.h7 C.arg8 C.h8 C.arg9 C.h9 C.arg10 C.h10 C.x4 C.x5 C.x6 C.x7 C.x8

/-- A half of the cumulated gates of one direction and head, as loaded. -/
def bL (dir : Fin 2) (a : Fin 2) (h : Fin 4) : Arr S1x128x256 .f32 :=
  C.arg15.view.readCov C.gates (Rect.unit (s := S2x256x1024) ![(dir : ℕ), 128 * (a : ℕ), 256 * (h : ℕ)] S1x128x256.size
    (by intro x; fin_cases x <;> simp <;> omega)).toLoadRect

/-- The cumulated gates' last row in time, as sliced. -/
def btL : Fin 2 → Arr S1x128x256 .f32 → Arr S1x256 .f32
  | 0, b => k0_pay19 b
  | 1, b => k0_pay28 b

/-- Row `i` of a half. -/
def row (a : Fin 2) (i : Fin 128) : Fin 256 := ⟨128 * a + i, by omega⟩

theorem row_eq (dir s i) : row (half dir s) i = rowAt dir (128 * s + tau dir i) := Fin.ext (row_half dir s i).symm

theorem qL_apply (a h i d) : C.qL a h (ix2 i d) = C.x0 (ix2 (row a i) (colK h d)) := by
  unfold qL
  rw [View.readAt_eq_ld, Memref.IsWhole.read_unread]
  exact View.ld_unit_apply_of _ _ _ _ _ _ (by intro x; fin_cases x <;> rfl)

theorem kL_apply (a h i d) : C.kL a h (ix2 i d) = C.x1 (ix2 (row a i) (colK h d)) := by
  unfold kL
  rw [View.readAt_eq_ld, Memref.IsWhole.read_unread]
  exact View.ld_unit_apply_of _ _ _ _ _ _ (by intro x; fin_cases x <;> rfl)

theorem vL_apply (a h i e) : C.vL a h (ix2 i e) = C.x2 (ix2 (row a i) (colV h e)) := by
  unfold vL
  rw [View.readAt_eq_ld, Memref.IsWhole.read_unread]
  exact View.ld_unit_apply_of _ _ _ _ _ _ (by intro x; fin_cases x <;> rfl)

theorem gL_apply (a i s) : C.gL a (ix2 i s) = C.x4 (ix2 (row a i) s) := by
  unfold gL
  rw [View.readAt_eq_ld, Memref.IsWhole.read_unread]
  exact View.ld_unit_apply_of _ _ _ _ _ _ (by intro x; fin_cases x <;> simp [row])

theorem wL_apply (dir s c) : C.wL dir (ix2 s c) = C.w dir (ix2 s c) := by
  match dir with
  | 0 | 1 =>
    unfold wL
    dsimp only
    rw [View.readAt_eq_ld, Memref.IsWhole.read_unread]
    exact View.ld_unit_apply_of _ _ _ _ _ _ (by intro x; fin_cases x <;> simp)

theorem biasL_apply (dir c) : C.biasL dir (ix2 0 c) = C.bias dir (ix2 0 c) := by
  match dir with
  | 0 | 1 =>
    unfold biasL
    dsimp only
    rw [View.readAt_eq_ld, Memref.IsWhole.read_unread]
    exact View.ld_unit_apply_of _ _ _ _ _ _ (by intro x; fin_cases x <;> simp)

variable {C} {D : Data} (hR : C.Reads D)
include hR

/-- A half's cumulated gates, at the row's time in its chunk. -/
theorem decay_cell (dir s h : Fin _) (i d) : decay (mask dir) (C.gL (half dir s)) (C.wL dir) (C.biasL dir) (ix3 0 i (colK h d))
    = (cum (D.la dir h) (128 * s) (tau dir i + 1) d : EReal) := by
  unfold cum
  refine decay_eq (mask dir) (tau dir) (mask_is dir) (fun n => D.la dir h n d) (128 * s) _ _ _ _ (fun j => ?_) i
  have e : (∑ r : Fin 128, C.gL (half dir s) (ix2 j r) * C.wL dir (ix2 r (colK h d))) + C.biasL dir (ix2 0 (colK h d))
      = C.logit dir (rowAt dir (128 * s + tau dir j)) (colK h d) := by
    unfold logit
    simp only [gL_apply, wL_apply, biasL_apply, row_eq]
  rw [e]
  exact hR.la dir h _ d

theorem gates_canon (dir s : Fin 2) (h : Fin 4) (i : Fin 128) (d : Fin 256) (y : S2x256x1024.Idx) (y0 : (y 0 : ℕ) = dir)
    (y1 : (y 1 : ℕ) = 128 * (half dir s) + i) (y2 : (y 2 : ℕ) = 256 * h + d) :
    View.canon C.gates y = (cum (D.la dir h) (128 * s) (tau dir i + 1) d : EReal) := by
  rw [← decay_cell hR]
  have fit : ∀ (x : S1x128x1024.Idx), (x 1 : ℕ) = i → (x 2 : ℕ) = 256 * h + d → x = ix3 0 i (colK h d) := by
    intro x h1 h2
    rw [eq_ix3 x]
    congr 1
    · exact Subsingleton.elim (α := Fin 1) _ _
    · exact Fin.ext h1
    · exact Fin.ext h2
  unfold gates kernelRun0_A.sl.HS0_4
  fin_cases dir <;> fin_cases s <;> simp only [half, Fin.zero_eta, Fin.mk_one, Fin.val_zero, Fin.val_one] at y0 y1 ⊢ <;>
    canon_tiles x hx
  all_goals first
    | (exfalso; omega)
    | (rw [fit x (by omega) (by omega)]; rfl)

/-- A half's cumulated gates as loaded back. -/
theorem bL_apply (dir s h i d) : C.bL dir (half dir s) h (ix3 0 i d)
    = (cum (D.la dir h) (128 * s) (tau dir i + 1) d : EReal) := by
  unfold bL
  rw [View.readCov_eq_canon']
  exact gates_canon hR dir s h i d _ (by simp [Rect.idx_unit_val]) (by simp [Rect.idx_unit_val]) (by simp [Rect.idx_unit_val])

theorem btL_apply (dir s h d) : btL dir (C.bL dir (half dir s) h) (ix2 0 d)
    = (cum (D.la dir h) (128 * s) 128 d : EReal) := by
  have e : btL dir (C.bL dir (half dir s) h) (ix2 0 d) = C.bL dir (half dir s) h (ix3 0 ((tau dir).symm 127) d) := by
    match dir with
    | 0 | 1 =>
      unfold btL
      dsimp only
      unfold_payloads
      pointwise
      rfl
  rw [e, bL_apply hR, Equiv.apply_symm_apply]
  rfl

end Ctx
end Cert.KernelIdeal.Hand
-- ==== Proof.Chunks.lean ====
module
public import proofs.«01_k».proof.Proof.Block
@[expose] public section
/-!
# The chunks of one batch element

Each of the sixteen chunk computations — direction, step, head — yields the recurrence's outputs for its rows and the
state after it. The buffers of outputs and of states then hold these values.
-/
set_option maxRecDepth 65536
set_option maxHeartbeats 1000000
noncomputable section
namespace Cert.KernelIdeal.Hand
open Cert.KernelIdeal Cert.KernelIdeal.Gen Cert.Gla Idealize.ShloMosaic

namespace Ctx
variable (C : Ctx) (D : Data)

/-- What the buffer of outputs holds at `y`: direction `y 0`, row `y 1`, head and column from `y 2`. -/
def oAt (y : S2x256x2048.Idx) : EReal :=
  (D.o (y 0) ⟨(y 2 : ℕ) / 512, by have : (y 2 : ℕ) < 2048 := (y 2).isLt; omega⟩
    ⟨(y 2 : ℕ) % 512, Nat.mod_lt _ (by norm_num)⟩ (timeAt (y 0) (y 1)) : EReal)

/-- What the buffer of states holds at `y` when the first `k` of its eight states are final: direction `y 0`, head
`y 1`, value column `y 2`, key column `y 3`. -/
def stAt (k : ℕ) (y : S2x4x512x256.Idx) : EReal :=
  (D.st (y 0) (y 1) (y 2) (if 2 * (y 1 : ℕ) + (y 0 : ℕ) < k then 256 else 128) (y 3) : EReal)

theorem oAt_eq (dir s : Fin 2) (h : Fin 4) (x : S1x128x512.Idx) (y : S2x256x2048.Idx) (y0 : (y 0 : ℕ) = dir)
    (y1 : (y 1 : ℕ) = 128 * (half dir s) + x 1) (y2 : (y 2 : ℕ) = 512 * h + x 2) :
    oAt D y = (D.o dir h (x 2) (128 * s + tau dir (x 1)) : EReal) := by
  have hx : (x 2 : ℕ) < 512 := (x 2).isLt
  have e0 : y 0 = dir := Fin.ext y0
  unfold oAt
  rw [e0, y1]
  congr 2
  · exact Fin.ext (by simp only [y2]; omega)
  · exact Fin.ext (by simp only [y2]; omega)
  · exact time_half dir s (x 1)

theorem eq_tile (x : S1x128x512.Idx) : x = ix3 0 (x 1) (x 2) := by
  conv_lhs => rw [eq_ix3 x]
  congr 1
  exact Subsingleton.elim (α := Fin 1) _ _

theorem eq_stTile (x : S1x1x512x256.Idx) : x = ix4 0 0 (x 2) (x 3) := by
  conv_lhs => rw [eq_ix4 x]
  congr 1
  · exact Subsingleton.elim (α := Fin 1) _ _
  · exact Subsingleton.elim (α := Fin 1) _ _

/-- A state as loaded back from the stores `L`. -/
def sL (L : List (View.Piece (Elt Ideal) S2x4x512x256 EltTy.f32)) (dir : Fin 2) (h : Fin 4) : Arr S1x1x512x256 .f32 :=
  C.arg17.view.readCov L (Rect.unit (s := S2x4x512x256) ![(dir : ℕ), (h : ℕ), 0, 0] S1x1x512x256.size
    (by intro x; fin_cases x <;> simp <;> omega)).toLoadRect

theorem sL_apply (L k) (hL : ∀ y, View.canon L y = stAt D k y) (dir h e d) : C.sL L dir h (ix4 0 0 e d)
    = (D.st dir h e (if 2 * (h : ℕ) + (dir : ℕ) < k then 256 else 128) d : EReal) := by
  unfold sL
  rw [View.readCov_eq_canon']
  refine (hL _).trans ?_
  unfold stAt
  congr 2
  all_goals first
    | exact Fin.ext (by simp [Rect.idx_unit_val])
    | simp [Rect.idx_unit_val]

variable {C} {D} (hR : C.Reads D)
include hR

theorem qL_time (dir s h i d) : C.qL (half dir s) h (ix2 i d) * ((1 / 16 : ℝ) : EReal)
    = (D.q dir h (128 * s + tau dir i) d : EReal) := by rw [qL_apply, row_eq, hR.q]
theorem kL_time (dir s h i d) : C.kL (half dir s) h (ix2 i d) = (D.k dir h (128 * s + tau dir i) d : EReal) := by
  rw [kL_apply, row_eq, hR.k]
theorem vL_time (dir s h i e) : C.vL (half dir s) h (ix2 i e) = (D.v dir h (128 * s + tau dir i) e : EReal) := by
  rw [vL_apply, row_eq, hR.v]

/-- The first chunk's outputs. -/
theorem accOne_cell (dir : Fin 2) (h : Fin 4) (x : S1x128x512.Idx) (y : S2x256x2048.Idx) (y0 : (y 0 : ℕ) = dir)
    (y1 : (y 1 : ℕ) = 128 * (half dir 0) + x 1) (y2 : (y 2 : ℕ) = 512 * h + x 2) :
    accOne (mask dir) (C.qL (half dir 0) h) (C.kL (half dir 0) h) (C.vL (half dir 0) h) (C.bL dir (half dir 0) h) x = oAt D y := by
  rw [oAt_eq D dir 0 h x y y0 y1 y2, eq_tile x]
  refine accOne_eq _ _ _ _ _ (D.la dir h) (D.q dir h) (D.k dir h) (fun n => D.v dir h n (x 2)) (128 * (0 : Fin 2)) (tau dir) (x 2)
    (hR.bound dir h) (mask_is dir) ?_ ?_ ?_ ?_ (tau_mid dir) (by simp) (x 1)
  · intro i d; exact qL_time hR dir 0 h i d
  · intro i d; exact kL_time hR dir 0 h i d
  · intro i; exact vL_time hR dir 0 h i _
  · intro i d; exact bL_apply hR dir 0 h i d

/-- The second chunk's outputs. -/
theorem accTwo_cell (L) (k : ℕ) (hL : ∀ y, View.canon L y = stAt D k y) (dir : Fin 2) (h : Fin 4) (hk : k = 2 * (h : ℕ) + (dir : ℕ))
    (x : S1x128x512.Idx) (y : S2x256x2048.Idx) (y0 : (y 0 : ℕ) = dir)
    (y1 : (y 1 : ℕ) = 128 * (half dir 1) + x 1) (y2 : (y 2 : ℕ) = 512 * h + x 2) :
    accTwo (mask dir) (C.qL (half dir 1) h) (C.kL (half dir 1) h) (C.vL (half dir 1) h) (C.bL dir (half dir 1) h) (C.sL L dir h) x
      = oAt D y := by
  rw [oAt_eq D dir 1 h x y y0 y1 y2, eq_tile x]
  refine accTwo_eq _ _ _ _ _ _ (D.la dir h) (D.q dir h) (D.k dir h) (fun n => D.v dir h n (x 2)) (128 * (1 : Fin 2)) (tau dir) (x 2)
    (hR.bound dir h) (mask_is dir) ?_ ?_ ?_ ?_ ?_ (tau_mid dir) (x 1)
  · intro i d; exact qL_time hR dir 1 h i d
  · intro i d; exact kL_time hR dir 1 h i d
  · intro i; exact vL_time hR dir 1 h i _
  · intro i d; exact bL_apply hR dir 1 h i d
  · intro d; exact (sL_apply C D L k hL dir h _ d).trans (by
      rw [if_neg (by omega)]
      exact congrArg (fun n => ((D.st dir h (x 2) n d : ℝ) : EReal)) (by rfl : 128 = 128 * ((1 : Fin 2) : ℕ)))

/-- The state after the first chunk. -/
theorem stOne_cell (dir : Fin 2) (h : Fin 4) (x : S1x1x512x256.Idx) (y : S2x4x512x256.Idx) (y0 : (y 0 : ℕ) = dir)
    (y1 : (y 1 : ℕ) = h) (y2 : (y 2 : ℕ) = x 2) (y3 : (y 3 : ℕ) = x 3) :
    stOne (C.kL (half dir 0) h) (C.vL (half dir 0) h) (C.bL dir (half dir 0) h) (btL dir (C.bL dir (half dir 0) h)) x = stAt D 0 y := by
  have e : stAt D 0 y = (D.st dir h (x 2) 128 (x 3) : EReal) := by
    unfold stAt
    rw [if_neg (by omega), show y 0 = dir from Fin.ext y0, show y 1 = h from Fin.ext y1, show y 2 = x 2 from Fin.ext y2,
      show y 3 = x 3 from Fin.ext y3]
  rw [e, eq_stTile x]
  refine (stOne_eq _ _ _ _ (D.la dir h) (D.k dir h) (fun n => D.v dir h n (x 2)) (128 * (0 : Fin 2)) (tau dir) (x 2)
    ?_ ?_ ?_ ?_ (by simp) (x 3)).trans
      (congrArg (fun n => ((D.st dir h (x 2) n (x 3) : ℝ) : EReal)) (by rfl : 128 * ((0 : Fin 2) : ℕ) + 128 = 128))
  · intro i d; exact kL_time hR dir 0 h i d
  · intro i; exact vL_time hR dir 0 h i _
  · intro i d; exact bL_apply hR dir 0 h i d
  · intro d; exact btL_apply hR dir 0 h d

/-- One more final state: the store of the second chunk's state over the states before it. -/
theorem stTwo_cons (L) (k : ℕ) (hL : ∀ y, View.canon L y = stAt D k y) (dir : Fin 2) (h : Fin 4) (hk : k = 2 * (h : ℕ) + (dir : ℕ))
    (inb) (y : S2x4x512x256.Idx) : View.canon (⟨Rect.unit (s := S2x4x512x256) ![(dir : ℕ), (h : ℕ), 0, 0] S1x1x512x256.size inb,
      stTwo (C.kL (half dir 1) h) (C.vL (half dir 1) h) (C.bL dir (half dir 1) h) (btL dir (C.bL dir (half dir 1) h)) (C.sL L dir h)⟩ :: L) y
      = stAt D (k + 1) y := by
  set r := Rect.unit (s := S2x4x512x256) ![(dir : ℕ), (h : ℕ), 0, 0] S1x1x512x256.size inb with hr
  by_cases hy : y ∈ r.set
  · obtain ⟨x, rfl⟩ : ∃ x, r.emb x = y := r.exists_idx_of_mem hy
    rw [View.canon_cons_emb]
    have hx0 : (x 0 : ℕ) < 1 := (x 0).isLt
    have hx1 : (x 1 : ℕ) < 1 := (x 1).isLt
    have c0 : (r.emb x 0 : ℕ) = dir := (Rect.idx_unit_val _ _ _ x 0).trans (by simp; omega)
    have c1 : (r.emb x 1 : ℕ) = h := (Rect.idx_unit_val _ _ _ x 1).trans (by simp; omega)
    have c2 : (r.emb x 2 : ℕ) = x 2 := (Rect.idx_unit_val _ _ _ x 2).trans (by simp)
    have c3 : (r.emb x 3 : ℕ) = x 3 := (Rect.idx_unit_val _ _ _ x 3).trans (by simp)
    have e : stAt D (k + 1) (r.emb x) = (D.st dir h (x 2) 256 (x 3) : EReal) := by
      unfold stAt
      rw [if_pos (by omega), show r.emb x 0 = dir from Fin.ext c0, show r.emb x 1 = h from Fin.ext c1,
        show r.emb x 2 = x 2 from Fin.ext c2, show r.emb x 3 = x 3 from Fin.ext c3]
    rw [e, eq_stTile x]
    refine (stTwo_eq _ _ _ _ _ (D.la dir h) (D.k dir h) (fun n => D.v dir h n (x 2)) (128 * (1 : Fin 2)) (tau dir) (x 2)
      ?_ ?_ ?_ ?_ ?_ (x 3)).trans
      (congrArg (fun n => ((D.st dir h (x 2) n (x 3) : ℝ) : EReal)) (by rfl : 128 * ((1 : Fin 2) : ℕ) + 128 = 256))
    · intro i d; exact kL_time hR dir 1 h i d
    · intro i; exact vL_time hR dir 1 h i _
    · intro i d; exact bL_apply hR dir 1 h i d
    · intro d; exact btL_apply hR dir 1 h d
    · intro d; exact (sL_apply C D L k hL dir h _ d).trans (by
      rw [if_neg (by omega)]
      exact congrArg (fun n => ((D.st dir h (x 2) n d : ℝ) : EReal)) (by rfl : 128 = 128 * ((1 : Fin 2) : ℕ)))
  · rw [View.canon_cons_of_not_mem _ _ hy, hL]
    unfold stAt
    have : ¬ (2 * (y 1 : ℕ) + (y 0 : ℕ) = k) := by
      intro hc
      apply hy
      have h0 : (y 0 : ℕ) < 2 := (y 0).isLt
      have h1 : (y 1 : ℕ) < 4 := (y 1).isLt
      have h2 : (y 2 : ℕ) < 512 := (y 2).isLt
      have h3 : (y 3 : ℕ) < 256 := (y 3).isLt
      rw [hr, Rect.mem_set_unit]
      intro a
      fin_cases a <;> simp <;> omega
    congr 3
    exact propext (by omega)

end Ctx
end Cert.KernelIdeal.Hand
-- ==== Proof.Stores.lean ====
module
public import proofs.«01_k».proof.Proof.Chunks
@[expose] public section
/-!
# The stores of one batch element

The buffers of outputs and of states, piece by piece: every store is one of the chunk computations.
-/
set_option maxRecDepth 65536
set_option maxHeartbeats 1000000
noncomputable section
namespace Cert.KernelIdeal.Hand
open Cert.KernelIdeal Cert.KernelIdeal.Gen Cert.Gla Idealize.ShloMosaic

namespace Ctx
variable (C : Ctx)

/-- The stores to the buffer of states: the first `8 + k` of them. -/
def states : Fin 9 → List (View.Piece (Elt Ideal) S2x4x512x256 EltTy.f32)
  | 0 => kernelRun0_A.sl.HS2_8 C.c C.arg3 C.h3 C.arg4 C.h4 C.arg6 C.h6 C.arg7 C.h7 C.arg8 C.h8 C.arg9 C.h9 C.arg10 C.h10 C.arg15 C.x1 C.x2 C.x4 C.x5 C.x6 C.x7 C.x8
  | 1 => kernelRun0_A.sl.HS2_9 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 2 => kernelRun0_A.sl.HS2_10 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 3 => kernelRun0_A.sl.HS2_11 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 4 => kernelRun0_A.sl.HS2_12 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 5 => kernelRun0_A.sl.HS2_13 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 6 => kernelRun0_A.sl.HS2_14 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 7 => kernelRun0_A.sl.HS2_15 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8
  | 8 => kernelRun0_A.sl.HS2_16 C.c C.arg3 C.h3 C.arg4 C.h4 C.arg6 C.h6 C.arg7 C.h7 C.arg8 C.h8 C.arg9 C.h9 C.arg10 C.h10 C.arg15 C.arg17 C.x1 C.x2 C.x4 C.x5 C.x6 C.x7 C.x8

/-- The stores to the buffer of outputs. -/
def outs : List (View.Piece (Elt Ideal) S2x256x2048 EltTy.f32) :=
  kernelRun0_A.sl.HS1_16 C.c C.arg2 C.h2 C.arg3 C.h3 C.arg4 C.h4 C.arg6 C.h6 C.arg7 C.h7 C.arg8 C.h8 C.arg9 C.h9 C.arg10 C.h10
    C.arg15 C.arg17 C.x0 C.x1 C.x2 C.x4 C.x5 C.x6 C.x7 C.x8

variable {C} {D : Data} (hR : C.Reads D)
include hR

/-- After the first chunks every state is the one at time 128. -/
theorem states_first (y : S2x4x512x256.Idx) : View.canon (C.states 0) y = stAt D 0 y := by
  unfold states
  dsimp only
  unfold kernelRun0_A.sl.HS2_8
  canon_tiles x hx
  · exact stOne_cell hR 1 3 x y (by simp; omega) (by simp; omega) (by omega) (by omega)
  · exact stOne_cell hR 0 3 x y (by simp; omega) (by simp; omega) (by omega) (by omega)
  · exact stOne_cell hR 1 2 x y (by simp; omega) (by simp; omega) (by omega) (by omega)
  · exact stOne_cell hR 0 2 x y (by simp; omega) (by simp; omega) (by omega) (by omega)
  · exact stOne_cell hR 1 1 x y (by simp; omega) (by simp; omega) (by omega) (by omega)
  · exact stOne_cell hR 0 1 x y (by simp; omega) (by simp; omega) (by omega) (by omega)
  · exact stOne_cell hR 1 0 x y (by simp; omega) (by simp; omega) (by omega) (by omega)
  · exact stOne_cell hR 0 0 x y (by simp; omega) (by simp; omega) (by omega) (by omega)
theorem states_1 (y : S2x4x512x256.Idx) : View.canon (C.states 1) y = stAt D 1 y :=
  stTwo_cons hR (C.states 0) 0 (states_first hR) 0 0 rfl _ y
theorem states_2 (y : S2x4x512x256.Idx) : View.canon (C.states 2) y = stAt D 2 y :=
  stTwo_cons hR (C.states 1) 1 (states_1 hR) 1 0 rfl _ y
theorem states_3 (y : S2x4x512x256.Idx) : View.canon (C.states 3) y = stAt D 3 y :=
  stTwo_cons hR (C.states 2) 2 (states_2 hR) 0 1 rfl _ y
theorem states_4 (y : S2x4x512x256.Idx) : View.canon (C.states 4) y = stAt D 4 y :=
  stTwo_cons hR (C.states 3) 3 (states_3 hR) 1 1 rfl _ y
theorem states_5 (y : S2x4x512x256.Idx) : View.canon (C.states 5) y = stAt D 5 y :=
  stTwo_cons hR (C.states 4) 4 (states_4 hR) 0 2 rfl _ y
theorem states_6 (y : S2x4x512x256.Idx) : View.canon (C.states 6) y = stAt D 6 y :=
  stTwo_cons hR (C.states 5) 5 (states_5 hR) 1 2 rfl _ y
theorem states_7 (y : S2x4x512x256.Idx) : View.canon (C.states 7) y = stAt D 7 y :=
  stTwo_cons hR (C.states 6) 6 (states_6 hR) 0 3 rfl _ y
theorem states_8 (y : S2x4x512x256.Idx) : View.canon (C.states 8) y = stAt D 8 y :=
  stTwo_cons hR (C.states 7) 7 (states_7 hR) 1 3 rfl _ y

/-- Every row of every head, in both directions, holds the recurrence's output. -/
theorem outs_canon (y : S2x256x2048.Idx) : View.canon C.outs y = oAt D y := by
  unfold outs kernelRun0_A.sl.HS1_16
  canon_tiles x hx
  · exact accTwo_cell hR (C.states 7) 7 (states_7 hR) 1 3 rfl x y (by simp; omega) (by simp [half]; omega) (by simp; omega)
  · exact accTwo_cell hR (C.states 6) 6 (states_6 hR) 0 3 rfl x y (by simp; omega) (by simp [half]; omega) (by simp; omega)
  · exact accTwo_cell hR (C.states 5) 5 (states_5 hR) 1 2 rfl x y (by simp; omega) (by simp [half]; omega) (by simp; omega)
  · exact accTwo_cell hR (C.states 4) 4 (states_4 hR) 0 2 rfl x y (by simp; omega) (by simp [half]; omega) (by simp; omega)
  · exact accTwo_cell hR (C.states 3) 3 (states_3 hR) 1 1 rfl x y (by simp; omega) (by simp [half]; omega) (by simp; omega)
  · exact accTwo_cell hR (C.states 2) 2 (states_2 hR) 0 1 rfl x y (by simp; omega) (by simp [half]; omega) (by simp; omega)
  · exact accTwo_cell hR (C.states 1) 1 (states_1 hR) 1 0 rfl x y (by simp; omega) (by simp [half]; omega) (by simp; omega)
  · exact accTwo_cell hR (C.states 0) 0 (states_first hR) 0 0 rfl x y (by simp; omega) (by simp [half]; omega) (by simp; omega)
  · exact accOne_cell hR 1 3 x y (by simp; omega) (by simp [half]; omega) (by simp; omega)
  · exact accOne_cell hR 0 3 x y (by simp; omega) (by simp [half]; omega) (by simp; omega)
  · exact accOne_cell hR 1 2 x y (by simp; omega) (by simp [half]; omega) (by simp; omega)
  · exact accOne_cell hR 0 2 x y (by simp; omega) (by simp [half]; omega) (by simp; omega)
  · exact accOne_cell hR 1 1 x y (by simp; omega) (by simp [half]; omega) (by simp; omega)
  · exact accOne_cell hR 0 1 x y (by simp; omega) (by simp [half]; omega) (by simp; omega)
  · exact accOne_cell hR 1 0 x y (by simp; omega) (by simp [half]; omega) (by simp; omega)
  · exact accOne_cell hR 0 0 x y (by simp; omega) (by simp [half]; omega) (by simp; omega)

end Ctx
end Cert.KernelIdeal.Hand
-- ==== Proof.Outputs.lean ====
module
public import proofs.«01_k».proof.Proof.Stores
public import proofs.«01_k».proof.Proof.Gen.KernelIdeal.Value
@[expose] public section
/-!
# The three blocks that a grid point writes

Both directions' last states, and the outputs: summed, normalized by their mean square, scaled and gated.
-/
set_option maxRecDepth 65536
set_option maxHeartbeats 1000000
noncomputable section
namespace Cert.Gla
open Idealize.ShloMosaic

/-- One output: the two directions' sum, over the root of the row's mean square, times gain and gate. -/
def tail (a b : Fin 512 → EReal) (e : Fin 512) (g r : EReal) : EReal :=
  (a e + b e) * Ideal.rsqrt (Ideal.div (∑ x, (a x + b x) * (a x + b x)) (Ideal.ofBits FTy.f32 1140850688#32)
    + Ideal.ofBits FTy.f32 897988541#32) * g * (r * Ideal.logistic r)

end Cert.Gla
namespace Cert.KernelIdeal.Hand
open Cert.KernelIdeal Cert.KernelIdeal.Gen Cert.Gla Idealize.ShloMosaic

/-- The output gate of one head on a half of the rows. -/
def gateOp (a b : Arr S1x128x512 .f32) (g : Arr S1x512 .f32) (r : Arr S128x512 .bf16) : Arr S128x512 .bf16 := k0_pay2 a b g r

theorem gateOp_apply (a b g r) (i : Fin 128) (e : Fin 512) : gateOp a b g r (ix2 i e)
    = tail (fun x => a (ix3 0 i x)) (fun x => b (ix3 0 i x)) e (g (ix2 0 e)) (r (ix2 i e)) := by
  unfold gateOp tail
  unfold_payloads
  pointwise

/-- A stored state: the transpose of the state kept. -/
def turn (s : Arr S1x1x512x256 .f32) : Arr S1x1x256x512 .f32 := k0_pay141 s

theorem turn_apply (s) (d : Fin 256) (e : Fin 512) : turn s (ix4 0 0 d e) = s (ix4 0 0 e d) := by
  unfold turn
  unfold_payloads
  pointwise

theorem eq_turned (x : S1x1x256x512.Idx) : x = ix4 0 0 (x 2) (x 3) := by
  conv_lhs => rw [eq_ix4 x]
  congr 1
  · exact Subsingleton.elim (α := Fin 1) _ _
  · exact Subsingleton.elim (α := Fin 1) _ _

namespace Ctx
variable (C : Ctx) (A16 : Memref sig .tc .vmem S2x256x2048 .f32)
  (A5 : Memref sig .tc .vmem S256x2048 .bf16) (H5 : A5.IsWhole) (x3 : Arr S256x2048 .bf16)
  (A11 : Memref sig .tc .vmem S1x2048 .f32) (H11 : A11.IsWhole) (x9 : Arr S1x2048 .f32)

/-- Outputs as loaded back: a direction's half of the rows, one head. -/
def aL (dir a : Fin 2) (h : Fin 4) : Arr S1x128x512 .f32 :=
  View.readAt (Elt Ideal) A16.view (Rect.unit (s := S2x256x2048) ![(dir : ℕ), 128 * (a : ℕ), 512 * (h : ℕ)] S1x128x512.size
    (by intro x; fin_cases x <;> simp <;> omega)).toLoadRect (A16.view.writes (Elt Ideal) A16.view.junk C.outs)
/-- The gate rows of one head. -/
def rL (a : Fin 2) (h : Fin 4) : Arr S128x512 .bf16 :=
  View.readAt (Elt Ideal) A5.view (Rect.unit (s := S256x2048) ![128 * (a : ℕ), 512 * (h : ℕ)] S128x512.size
    (by intro x; fin_cases x <;> simp <;> omega)).toLoadRect (H5.unread x3)
/-- The gain of one head. -/
def gainL (h : Fin 4) : Arr S1x512 .f32 :=
  View.readAt (Elt Ideal) A11.view (Rect.unit (s := S1x2048) ![0, 512 * (h : ℕ)] S1x512.size
    (by intro x; fin_cases x <;> simp <;> omega)).toLoadRect (H11.unread x9)

theorem rL_apply (a h i e) : rL A5 H5 x3 a h (ix2 i e) = x3 (ix2 (row a i) (colV h e)) := by
  unfold rL
  rw [View.readAt_eq_ld, Memref.IsWhole.read_unread]
  exact View.ld_unit_apply_of _ _ _ _ _ _ (by intro x; fin_cases x <;> rfl)

theorem gainL_apply (h e) : gainL A11 H11 x9 h (ix2 0 e) = x9 (ix2 0 (colV h e)) := by
  unfold gainL
  rw [View.readAt_eq_ld, Memref.IsWhole.read_unread]
  exact View.ld_unit_apply_of _ _ _ _ _ _ (by intro x; fin_cases x <;> rfl)

/-- The outputs that the grid point writes, at row `r`, head `h`, column `e`. -/
def attnAt (D : Data) (x3 : Arr S256x2048 .bf16) (x9 : Arr S1x2048 .f32) (r : Fin 256) (h : Fin 4) (e : Fin 512) : EReal :=
  tail (fun x => (D.o 0 h x (timeAt 0 r) : EReal)) (fun x => (D.o 1 h x (timeAt 1 r) : EReal)) e
    (x9 (ix2 0 (colV h e))) (x3 (ix2 r (colV h e)))

variable {C} {D : Data} (hR : C.Reads D)
include hR

theorem aL_apply (dir a h i e) : C.aL A16 dir a h (ix3 0 i e) = (D.o dir h e (timeAt dir (row a i)) : EReal) := by
  unfold aL
  rw [View.readAt_eq_ld, View.read_writes_junk_eq_canon]
  refine (View.ld_unit_apply_of _ _ _ _ _ (ix3 dir (row a i) (colV h e)) (by intro x; fin_cases x <;> simp [row, colV])).trans ?_
  rw [outs_canon hR]
  unfold oAt
  congr 2
  · exact Fin.ext (by simp [colV]; omega)
  · exact Fin.ext (by simp [colV])

theorem gate_cell (a : Fin 2) (h : Fin 4) (x : S128x512.Idx) (y : S256x2048.Idx) (r : Fin 256) (h' : Fin 4) (e : Fin 512)
    (yr : (y 0 : ℕ) = r) (ye : (y 1 : ℕ) = 512 * h' + e)
    (y0 : (y 0 : ℕ) = 128 * (a : ℕ) + x 0) (y1 : (y 1 : ℕ) = 512 * (h : ℕ) + x 1) :
    gateOp (C.aL A16 0 a h) (C.aL A16 1 a h) (gainL A11 H11 x9 h) (rL A5 H5 x3 a h) x = attnAt D x3 x9 r h' e := by
  have hx : (x 1 : ℕ) < 512 := (x 1).isLt
  obtain rfl : h' = h := Fin.ext (by omega)
  obtain ⟨i, e', rfl⟩ : ∃ (i : Fin 128) (e' : Fin 512), x = ix2 i e' := ⟨_, _, eq_ix2 x⟩
  have e1 : (ix2 i e' 0 : ℕ) = i := rfl
  have e2 : (ix2 i e' 1 : ℕ) = e' := rfl
  obtain rfl : e = e' := Fin.ext (by omega)
  obtain rfl : r = row a i := Fin.ext (by simp only [row]; omega)
  rw [gateOp_apply, rL_apply, gainL_apply]
  simp only [aL_apply A16 hR]
  rfl

theorem turn_cell (dir : Fin 2) (h : Fin 4) (x : S1x1x256x512.Idx) (y : S1x4x256x512.Idx) (h' : Fin 4) (d : Fin 256) (e : Fin 512)
    (yh : (y 1 : ℕ) = h') (yd : (y 2 : ℕ) = d) (ye : (y 3 : ℕ) = e)
    (y1 : (y 1 : ℕ) = h) (y2 : (y 2 : ℕ) = x 2) (y3 : (y 3 : ℕ) = x 3) :
    turn (C.sL (C.states 8) dir h) x = (D.st dir h' e 256 d : EReal) := by
  obtain rfl : h' = h := Fin.ext (by omega)
  obtain rfl : d = x 2 := Fin.ext (by omega)
  obtain rfl : e = x 3 := Fin.ext (by omega)
  rw [eq_turned x]
  refine (turn_apply _ _ _).trans ((sL_apply C D _ 8 (states_8 hR) dir h' _ _).trans ?_)
  rw [if_pos (by omega)]
  rfl

variable (i : grid0.Coords) (A12 : Memref sig .tc .vmem S256x2048 .bf16) (H12 : A12.IsWhole)
  (A13 : Memref sig .tc .vmem S1x4x256x512 .f32) (H13 : A13.IsWhole) (A14 : Memref sig .tc .vmem S1x4x256x512 .f32) (H14 : A14.IsWhole)
  (H15 : C.arg15.IsWhole) (H16 : A16.IsWhole) (H17 : C.arg17.IsWhole)

theorem out_fwd (y : S1x4x256x512.Idx) (h : Fin 4) (d : Fin 256) (e : Fin 512) (yh : (y 1 : ℕ) = h) (yd : (y 2 : ℕ) = d)
    (ye : (y 3 : ℕ) = e) : out0_A_11 (F := Ideal) C.c i C.arg2 C.h2 C.arg3 C.h3 C.arg4 C.h4 A5 H5 C.arg6 C.h6 C.arg7 C.h7 C.arg8 C.h8 C.arg9 C.h9 C.arg10 C.h10 A11 H11 A12 H12 A13 H13 A14 H14 C.arg15 H15 A16 H16 C.arg17 H17 C.x0 C.x1 C.x2 x3 C.x4 C.x5 C.x6 C.x7 C.x8 x9 y = (D.st 0 h e 256 d : EReal) := by
  unfold out0_A_11
  rw [View.read_writes_junk_eq_canon]
  unfold kernelRun0_A
  dsimp only
  canon_tiles x hx
  · exact turn_cell hR 0 3 x y h d e yh yd ye (by simp; omega) (by omega) (by omega)
  · exact turn_cell hR 0 2 x y h d e yh yd ye (by simp; omega) (by omega) (by omega)
  · exact turn_cell hR 0 1 x y h d e yh yd ye (by simp; omega) (by omega) (by omega)
  · exact turn_cell hR 0 0 x y h d e yh yd ye (by simp; omega) (by omega) (by omega)

theorem out_bwd (y : S1x4x256x512.Idx) (h : Fin 4) (d : Fin 256) (e : Fin 512) (yh : (y 1 : ℕ) = h) (yd : (y 2 : ℕ) = d)
    (ye : (y 3 : ℕ) = e) : out0_A_12 (F := Ideal) C.c i C.arg2 C.h2 C.arg3 C.h3 C.arg4 C.h4 A5 H5 C.arg6 C.h6 C.arg7 C.h7 C.arg8 C.h8 C.arg9 C.h9 C.arg10 C.h10 A11 H11 A12 H12 A13 H13 A14 H14 C.arg15 H15 A16 H16 C.arg17 H17 C.x0 C.x1 C.x2 x3 C.x4 C.x5 C.x6 C.x7 C.x8 x9 y = (D.st 1 h e 256 d : EReal) := by
  unfold out0_A_12
  rw [View.read_writes_junk_eq_canon]
  unfold kernelRun0_A
  dsimp only
  canon_tiles x hx
  · exact turn_cell hR 1 3 x y h d e yh yd ye (by simp; omega) (by omega) (by omega)
  · exact turn_cell hR 1 2 x y h d e yh yd ye (by simp; omega) (by omega) (by omega)
  · exact turn_cell hR 1 1 x y h d e yh yd ye (by simp; omega) (by omega) (by omega)
  · exact turn_cell hR 1 0 x y h d e yh yd ye (by simp; omega) (by omega) (by omega)

theorem out_attn (y : S256x2048.Idx) (r : Fin 256) (h : Fin 4) (e : Fin 512) (yr : (y 0 : ℕ) = r)
    (ye : (y 1 : ℕ) = 512 * h + e) : out0_A_10 (F := Ideal) C.c i C.arg2 C.h2 C.arg3 C.h3 C.arg4 C.h4 A5 H5 C.arg6 C.h6 C.arg7 C.h7 C.arg8 C.h8 C.arg9 C.h9 C.arg10 C.h10 A11 H11 A12 H12 A13 H13 A14 H14 C.arg15 H15 A16 H16 C.arg17 H17 C.x0 C.x1 C.x2 x3 C.x4 C.x5 C.x6 C.x7 C.x8 x9 y = attnAt D x3 x9 r h e := by
  unfold out0_A_10
  rw [View.read_writes_junk_eq_canon]
  unfold kernelRun0_A
  dsimp only
  rw [show Scf.trips (0#32) (Scalar.addi 0#32 2#32) 1#32 = ((⟨1, by decide⟩ : Fin k0_t1_loop.trips) : ℕ) + 1 from by decide,
    pb_k0_t1_succ, show ((⟨1, by decide⟩ : Fin k0_t1_loop.trips) : ℕ) = ((⟨0, by decide⟩ : Fin k0_t1_loop.trips) : ℕ) + 1 from rfl,
    pb_k0_t1_succ, show ((⟨0, by decide⟩ : Fin k0_t1_loop.trips) : ℕ) = 0 from rfl, pb_k0_t1.eq_1, List.append_nil]
  unfold tripL_k0_t1 trip_k0_t1
  simp only [List.cons_append, List.nil_append]
  canon_tiles x hx
  · exact gate_cell A16 A5 H5 x3 A11 H11 x9 hR 1 3 x y r h e yr ye (by simp; omega) (by simp; omega)
  · exact gate_cell A16 A5 H5 x3 A11 H11 x9 hR 1 2 x y r h e yr ye (by simp; omega) (by simp; omega)
  · exact gate_cell A16 A5 H5 x3 A11 H11 x9 hR 1 1 x y r h e yr ye (by simp; omega) (by simp; omega)
  · exact gate_cell A16 A5 H5 x3 A11 H11 x9 hR 1 0 x y r h e yr ye (by simp; omega) (by simp; omega)
  · exact gate_cell A16 A5 H5 x3 A11 H11 x9 hR 0 3 x y r h e yr ye (by simp; omega) (by simp; omega)
  · exact gate_cell A16 A5 H5 x3 A11 H11 x9 hR 0 2 x y r h e yr ye (by simp; omega) (by simp; omega)
  · exact gate_cell A16 A5 H5 x3 A11 H11 x9 hR 0 1 x y r h e yr ye (by simp; omega) (by simp; omega)
  · exact gate_cell A16 A5 H5 x3 A11 H11 x9 hR 0 0 x y r h e yr ye (by simp; omega) (by simp; omega)

end Ctx
end Cert.KernelIdeal.Hand
-- ==== Proof.Spec.lean ====
module
public import proofs.«01_k».proof.Proof.Outputs
@[expose] public section
/-!
# The results as functions of the arguments

The arguments, read as plain functions of their indices; the data of each batch element taken from them; and the three
results: outputs, forward states and backward states.
-/
noncomputable section
namespace Cert.Gla
open Idealize.ShloMosaic Cert.KernelIdeal.Hand

/-- The arguments as functions of their indices. -/
structure Inputs where
  /-- projected rows: queries, keys, values and output gates side by side -/
  P : Fin 6144 → Fin 6144 → EReal
  /-- low-rank gate activations, forward in columns 0–15, backward in columns 16–31 -/
  G : Fin 6144 → Fin 128 → EReal
  /-- gate weights, per direction -/
  W : Fin 2 → Fin 16 → Fin 1024 → EReal
  /-- gate biases, per direction -/
  B : Fin 2 → Fin 1024 → EReal
  /-- output gain -/
  g : Fin 2048 → EReal

namespace Inputs

/-- The arguments given as arrays. -/
def of (P : (⟨2, ![6144, 6144]⟩ : Shape).Idx → EReal) (G : (⟨2, ![6144, 128]⟩ : Shape).Idx → EReal)
    (wf : (⟨2, ![16, 1024]⟩ : Shape).Idx → EReal) (bf : (⟨1, ![1024]⟩ : Shape).Idx → EReal)
    (wb : (⟨2, ![16, 1024]⟩ : Shape).Idx → EReal) (bb : (⟨1, ![1024]⟩ : Shape).Idx → EReal)
    (g : (⟨1, ![2048]⟩ : Shape).Idx → EReal) : Inputs where
  P i j := P (ix2 i j)
  G i j := G (ix2 i j)
  W := ![fun i j => wf (ix2 i j), fun i j => wb (ix2 i j)]
  B := ![fun j => bf (ix1 j), fun j => bb (ix1 j)]
  g j := g (ix1 j)

variable (I : Inputs)

/-- Row `r` of batch element `b`. -/
def row (b : Fin 16) (r : Fin 256) : Fin 6144 := ⟨256 * b + r, by omega⟩

/-- Column of the queries, keys, values and output gates among the projected columns. -/
def colQ (c : Fin 1024) : Fin 6144 := ⟨c, by omega⟩
@[inherit_doc colQ] def colKey (c : Fin 1024) : Fin 6144 := ⟨1024 + c, by omega⟩
@[inherit_doc colQ] def colVal (c : Fin 2048) : Fin 6144 := ⟨2048 + c, by omega⟩
@[inherit_doc colQ] def colR (c : Fin 2048) : Fin 6144 := ⟨4096 + c, by omega⟩

/-- Column of the gate activations that a direction uses. -/
def colG (dir : Fin 2) (s : Fin 16) : Fin 128 := ⟨16 * dir + s, by omega⟩

/-- The gate logit. -/
def logit (dir : Fin 2) (b : Fin 16) (r : Fin 256) (c : Fin 1024) : EReal :=
  (∑ s : Fin 16, I.G (row b r) (colG dir s) * I.W dir s c) + I.B dir c

/-- The recurrence's data for batch element `b`, in each direction's time order. -/
def data (b : Fin 16) : Data where
  la dir h n d := gate (I.logit dir b (rowAt dir n) (colK h d))
  q dir h n d := (I.P (row b (rowAt dir n)) (colQ (colK h d))).toReal * (1 / 16)
  k dir h n d := (I.P (row b (rowAt dir n)) (colKey (colK h d))).toReal
  v dir h n e := (I.P (row b (rowAt dir n)) (colVal (colV h e))).toReal

/-- The last state of a direction, at batch element, head, key column and value column. -/
def states (dir : Fin 2) (b : Fin 16) (h : Fin 4) (d : Fin 256) (e : Fin 512) : EReal := ((I.data b).st dir h e 256 d : ℝ)

/-- The output at batch element, row, head and value column. -/
def attn (b : Fin 16) (r : Fin 256) (h : Fin 4) (e : Fin 512) : EReal :=
  tail (fun x => ((I.data b).o 0 h x (timeAt 0 r) : ℝ)) (fun x => ((I.data b).o 1 h x (timeAt 1 r) : ℝ)) e
    (I.g (colV h e)) (I.P (row b r) (colR (colV h e)))

/-- Queries, keys and values are finite and the gate logits are at least −14. -/
structure Good : Prop where
  finite : ∀ b r (c : Fin 4096), I.P (row b r) ⟨c, by omega⟩ ≠ ⊤ ∧ I.P (row b r) ⟨c, by omega⟩ ≠ ⊥
  logits : ∀ dir b r c, ((-14 : ℝ) : EReal) ≤ I.logit dir b r c

variable {I}

theorem Good.q (hI : I.Good) (b r c) : ((I.P (row b r) (colQ c)).toReal : EReal) = I.P (row b r) (colQ c) :=
  EReal.coe_toReal (hI.finite b r ⟨c, by omega⟩).1 (hI.finite b r ⟨c, by omega⟩).2
theorem Good.k (hI : I.Good) (b r c) : ((I.P (row b r) (colKey c)).toReal : EReal) = I.P (row b r) (colKey c) :=
  EReal.coe_toReal (hI.finite b r ⟨1024 + c, by omega⟩).1 (hI.finite b r ⟨1024 + c, by omega⟩).2
theorem Good.v (hI : I.Good) (b r c) : ((I.P (row b r) (colVal c)).toReal : EReal) = I.P (row b r) (colVal c) :=
  EReal.coe_toReal (hI.finite b r ⟨2048 + c, by omega⟩).1 (hI.finite b r ⟨2048 + c, by omega⟩).2

theorem Good.ne_bot (hI : I.Good) (dir b r c) : I.logit dir b r c ≠ ⊥ := fun h => by
  have := hI.logits dir b r c
  rw [h] at this
  exact absurd (le_bot_iff.1 this) (EReal.coe_ne_bot _)

theorem Good.la_le (hI : I.Good) (b dir h n d) : (I.data b).la dir h n d ≤ 0 := gate_le _
theorem Good.le_la (hI : I.Good) (b dir h n d) : -(9 / 10) ≤ (I.data b).la dir h n d := neg_le_gate _ (hI.logits _ _ _ _)

end Inputs

/-- A row of sixteen products is the row of 128 products with the weights padded by zeros. -/
theorem sum_padded (dir : Fin 2) (x : Fin 128 → EReal) (w : Fin 16 → EReal) (w' : Fin 128 → EReal)
    (hit : ∀ s, w' (Inputs.colG dir s) = w s) (miss : ∀ s, (∀ s', s ≠ Inputs.colG dir s') → w' s = 0) :
    ∑ s, x s * w' s = ∑ s, x (Inputs.colG dir s) * w s := by
  refine (Fintype.sum_of_injective (Inputs.colG dir) (fun a b h => ?_) _ _ (fun s hs => ?_) fun s => ?_).symm
  · have := congrArg Fin.val h
    simp only [Inputs.colG] at this
    omega
  · rw [miss s fun s' h => hs ⟨s', h.symm⟩, mul_zero]
  · rw [hit]

end Cert.Gla
-- ==== Proof.Padded.lean ====
module
public import proofs.«01_k».proof.Proof.Spec
public import Idealize.ShloMosaic.Lib.Routing.OpsOne
@[expose] public section
/-!
# The padded gate weights

The host writes a direction's sixteen weight rows into an array of 128 zero rows, at the rows of the gate activations
that the direction uses.
-/
noncomputable section
namespace Cert.KernelIdeal.Hand
open Cert.KernelIdeal Cert.KernelIdeal.Gen Cert.Gla Idealize.ShloMosaic Idealize.ShloMosaic.Routing

/-- Where a scattered row lands. -/
theorem pad_lands (idx : IVec S1 32) (k : ℕ) (hidx : (idx (ValueIdx.ix1 0)).toInt = (k : Int)) (s' : Fin 16) (c' : Fin 1024) (s : Fin 128) (c : Fin 1024) :
    scatter_S128x1024_S1_S16x1024_01_n_0_0.resultIdx? (ValueIdx.ix2 s' c') idx = some (ValueIdx.ix2 s c) ↔ (s : ℕ) = k + s' ∧ c = c' := by
  set dn := scatter_S128x1024_S1_S16x1024_01_n_0_0 with hd
  have hwin0 : dn.window (ValueIdx.ix2 s' c') 0 = s'.val := rfl
  have hwin1 : dn.window (ValueIdx.ix2 s' c') 1 = c'.val := rfl
  have hstart1 : dn.start (ValueIdx.ix2 s' c') idx 1 = 0 := rfl
  have hstart0 : dn.start (ValueIdx.ix2 s' c') idx 0 = (k : Int) := by
    rw [← hidx]
    unfold ScatterDims.start
    rw [dif_pos (show (0 : Fin 2) ∈ dn.scatterDimsToOperandDims from List.mem_singleton.2 rfl)]
    congr 2
    funext b'
    match b' with
    | ⟨0, _⟩ => exact Subsingleton.elim (α := Fin 1) _ _
  rw [resultIdx?_ix2, hstart0, hwin0, hstart1, hwin1, Fin.ext_iff]
  omega

/-- Sixteen rows written at row `k` of an array: those rows inside, the array outside. -/
theorem pad_hit (x0 : Arr S128x1024 .bf16) (idx : IVec S1 32) (k : ℕ) (hidx : (idx (ValueIdx.ix1 0)).toInt = (k : Int)) (u : Arr S16x1024 .bf16)
    (s : Fin 128) (s' : Fin 16) (c : Fin 1024) (h : (s : ℕ) = k + s') :
    Host.scatter scatter_S128x1024_S1_S16x1024_01_n_0_0 (fun _ b => b) x0 idx u (ix2 s c) = u (ix2 s' c) := by
  refine scatter_set_hit _ x0 idx u _ _ (fun j hj => ?_) (ix2 s' c) ((pad_lands idx k hidx _ _ _ _).2 ⟨h, rfl⟩)
  rw [show j = ix2 (j 0) (j 1) from ValueIdx.eq_ix2 j] at hj ⊢
  obtain ⟨h1, h2⟩ := (pad_lands idx k hidx (j 0) (j 1) s c).1 hj
  rw [show (j 0 : Fin 16) = s' from Fin.ext (by omega), ← h2]
  rfl

@[inherit_doc pad_hit]
theorem pad_miss (x0 : Arr S128x1024 .bf16) (idx : IVec S1 32) (k : ℕ) (hidx : (idx (ValueIdx.ix1 0)).toInt = (k : Int)) (u : Arr S16x1024 .bf16)
    (s : Fin 128) (c : Fin 1024) (h : ∀ s' : Fin 16, (s : ℕ) ≠ k + s') :
    Host.scatter scatter_S128x1024_S1_S16x1024_01_n_0_0 (fun _ b => b) x0 idx u (ix2 s c) = x0 (ix2 s c) := by
  refine scatter_set_miss _ x0 idx u _ fun j hj => ?_
  rw [show j = ix2 (j 0) (j 1) from ValueIdx.eq_ix2 j] at hj
  exact h (j 0) ((pad_lands idx k hidx (j 0) (j 1) s c).1 hj).1

end Cert.KernelIdeal.Hand
-- ==== Proof.Entry.lean ====
module
public import proofs.«01_k».proof.Proof.Padded
public import Idealize.ShloMosaic.Lib.Pipeline.ValueKit
public import Idealize.ShloMosaic.Lib.StableHlo.RunRead
@[expose] public section
/-!
# The blocks that a grid point reads

Each input block at an index, as an element of the arguments; from these, that the blocks hold the batch element's data.
-/
set_option maxRecDepth 65536
set_option maxHeartbeats 1000000
noncomputable section
namespace Cert.KernelIdeal.Hand
open Cert.KernelIdeal Cert.KernelIdeal.Gen Cert.Gla Idealize.ShloMosaic Idealize.ShloMosaic.TcCoe Idealize.SL.Sem

variable (m : (ℓ : Loc nD τ sig) → Buf (Elt Ideal) ℓ) (c : Dev nD)

/-- The arguments on device `c`. -/
def inputs : Inputs :=
  .of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The batch element of grid point `t`. -/
def bat (t : Fin cfg0.N) : Fin 16 := grid0.coords t 0

theorem idx_in : ∀ t : Fin cfg0.N,
    win0_0.index t = ![(bat t : ℕ), 0] ∧ win0_1.index t = ![(bat t : ℕ), 1] ∧ win0_2.index t = ![(bat t : ℕ), 1]
    ∧ win0_3.index t = ![(bat t : ℕ), 2] ∧ win0_4.index t = ![(bat t : ℕ), 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

/-! ## Where a block's element lies in its array -/

theorem emb0 (t : Fin cfg0.N) (r : Fin 256) (j : Fin 1024) :
    (win0_0.blk t).view.emb (ix2 r j) = (ix2 (Inputs.row (bat t) r) (Inputs.colQ j) : S6144x6144.Idx) := by
  blk_ext [(idx_in t).1, Inputs.row, Inputs.colQ]
theorem emb1 (t : Fin cfg0.N) (r : Fin 256) (j : Fin 1024) :
    (win0_1.blk t).view.emb (ix2 r j) = (ix2 (Inputs.row (bat t) r) (Inputs.colKey j) : S6144x6144.Idx) := by
  blk_ext [(idx_in t).2.1, Inputs.row, Inputs.colKey]
theorem emb2 (t : Fin cfg0.N) (r : Fin 256) (j : Fin 2048) :
    (win0_2.blk t).view.emb (ix2 r j) = (ix2 (Inputs.row (bat t) r) (Inputs.colVal j) : S6144x6144.Idx) := by
  blk_ext [(idx_in t).2.2.1, Inputs.row, Inputs.colVal]
theorem emb3 (t : Fin cfg0.N) (r : Fin 256) (j : Fin 2048) :
    (win0_3.blk t).view.emb (ix2 r j) = (ix2 (Inputs.row (bat t) r) (Inputs.colR j) : S6144x6144.Idx) := by
  blk_ext [(idx_in t).2.2.2.1, Inputs.row, Inputs.colR]
theorem emb4 (t : Fin cfg0.N) (r : Fin 256) (j : Fin 128) :
    (win0_4.blk t).view.emb (ix2 r j) = (ix2 (Inputs.row (bat t) r) (j) : S6144x128.Idx) := by
  blk_ext [(idx_in t).2.2.2.2.1, Inputs.row]
theorem emb5 (t : Fin cfg0.N) (r : Fin 128) (j : Fin 1024) :
    (win0_5.blk t).view.emb (ix2 r j) = (ix2 (r) (j) : S128x1024.Idx) := by
  blk_ext [(idx_in t).2.2.2.2.2.1]
theorem emb6 (t : Fin cfg0.N) (r : Fin 1) (j : Fin 1024) :
    (win0_6.blk t).view.emb (ix2 r j) = (ix2 (r) (j) : S1x1024.Idx) := by
  blk_ext [(idx_in t).2.2.2.2.2.2.1]
theorem emb7 (t : Fin cfg0.N) (r : Fin 128) (j : Fin 1024) :
    (win0_7.blk t).view.emb (ix2 r j) = (ix2 (r) (j) : S128x1024.Idx) := by
  blk_ext [(idx_in t).2.2.2.2.2.2.2.1]
theorem emb8 (t : Fin cfg0.N) (r : Fin 1) (j : Fin 1024) :
    (win0_8.blk t).view.emb (ix2 r j) = (ix2 (r) (j) : S1x1024.Idx) := by
  blk_ext [(idx_in t).2.2.2.2.2.2.2.2.1]
theorem emb9 (t : Fin cfg0.N) (r : Fin 1) (j : Fin 2048) :
    (win0_9.blk t).view.emb (ix2 r j) = (ix2 (r) (j) : S1x2048.Idx) := by
  blk_ext [(idx_in t).2.2.2.2.2.2.2.2.2]

/-! ## The arrays that the blocks are cut from -/

theorem V_arg0 : V m c main_arg0 = m ((c : Thread nD τ).loc main_arg0) := by
  unfold V
  after_reads_simp
theorem V_arg1 : V m c main_arg1 = m ((c : Thread nD τ).loc main_arg1) := by
  unfold V
  after_reads_simp
theorem V_v3 : V m c main_v3 = (Host.scatter scatter_S128x1024_S1_S16x1024_01_n_0_0 (fun _ b => b)
    (broadcastInDim S128x1024 ![] bcast_S_S128x1024 (constant (F := Ideal) S_ .bf16 0x0000#16))
    (broadcastInDim S1 ![] bcast_S_S1 (constantI S_ 32 0#32))
    (truncf (F := Ideal) (φ := .f32) .bf16 (m ((c : Thread nD τ).loc main_arg2)) bitsLt_bf16_f32) : Arr S128x1024 .bf16) := by
  unfold V
  after_reads_simp <;> rfl
theorem V_v7 : V m c main_v7 = (Host.scatter scatter_S128x1024_S1_S16x1024_01_n_0_0 (fun _ b => b)
    (broadcastInDim S128x1024 ![] bcast_S_S128x1024 (constant (F := Ideal) S_ .bf16 0x0000#16))
    (broadcastInDim S1 ![] bcast_S_S1 (constantI S_ 32 16#32))
    (truncf (F := Ideal) (φ := .f32) .bf16 (m ((c : Thread nD τ).loc main_arg4)) bitsLt_bf16_f32) : Arr S128x1024 .bf16) := by
  unfold V
  after_reads_simp <;> rfl
theorem V_v8 (j : Fin 1024) : (V m c main_v8 : Arr S1x1024 .f32) (ix2 0 j) = m ((c : Thread nD τ).loc main_arg3) (ix1 j) := by
  have : V m c main_v8 = (broadcastInDim S1x1024 ![1] bcast_S1024_S1x1024_1 (m ((c : Thread nD τ).loc main_arg3) : Arr S1024 .f32) : Arr S1x1024 .f32) := by
    unfold V
    after_reads_simp
  rw [this]
  pointwise
theorem V_v9 (j : Fin 1024) : (V m c main_v9 : Arr S1x1024 .f32) (ix2 0 j) = m ((c : Thread nD τ).loc main_arg5) (ix1 j) := by
  have : V m c main_v9 = (broadcastInDim S1x1024 ![1] bcast_S1024_S1x1024_1 (m ((c : Thread nD τ).loc main_arg5) : Arr S1024 .f32) : Arr S1x1024 .f32) := by
    unfold V
    after_reads_simp
  rw [this]
  pointwise
theorem V_v10 (j : Fin 2048) : (V m c main_v10 : Arr S1x2048 .f32) (ix2 0 j) = m ((c : Thread nD τ).loc main_arg6) (ix1 j) := by
  have : V m c main_v10 = (broadcastInDim S1x2048 ![1] bcast_S2048_S1x2048_1 (m ((c : Thread nD τ).loc main_arg6) : Arr S2048 .f32) : Arr S1x2048 .f32) := by
    unfold V
    after_reads_simp
  rw [this]
  pointwise

/-! ## The blocks at an index -/

theorem iblk0 (t : Fin cfg0.N) (r : Fin 256) (j : Fin 1024) :
    (iblk m c 0 t : Arr S256x1024 .bf16) (ix2 r j) = (inputs m c).P (Inputs.row (bat t) r) (Inputs.colQ j) := by
  blk_simp [iblk]
  rw [V_arg0]
  exact congrArg (m ((c : Thread nD τ).loc main_arg0)) (emb0 t r j)
theorem iblk1 (t : Fin cfg0.N) (r : Fin 256) (j : Fin 1024) :
    (iblk m c 1 t : Arr S256x1024 .bf16) (ix2 r j) = (inputs m c).P (Inputs.row (bat t) r) (Inputs.colKey j) := by
  blk_simp [iblk]
  rw [V_arg0]
  exact congrArg (m ((c : Thread nD τ).loc main_arg0)) (emb1 t r j)
theorem iblk2 (t : Fin cfg0.N) (r : Fin 256) (j : Fin 2048) :
    (iblk m c 2 t : Arr S256x2048 .bf16) (ix2 r j) = (inputs m c).P (Inputs.row (bat t) r) (Inputs.colVal j) := by
  blk_simp [iblk]
  rw [V_arg0]
  exact congrArg (m ((c : Thread nD τ).loc main_arg0)) (emb2 t r j)
theorem iblk3 (t : Fin cfg0.N) (r : Fin 256) (j : Fin 2048) :
    (iblk m c 3 t : Arr S256x2048 .bf16) (ix2 r j) = (inputs m c).P (Inputs.row (bat t) r) (Inputs.colR j) := by
  blk_simp [iblk]
  rw [V_arg0]
  exact congrArg (m ((c : Thread nD τ).loc main_arg0)) (emb3 t r j)
theorem iblk4 (t : Fin cfg0.N) (r : Fin 256) (j : Fin 128) :
    (iblk m c 4 t : Arr S256x128 .bf16) (ix2 r j) = (inputs m c).G (Inputs.row (bat t) r) j := by
  blk_simp [iblk]
  rw [V_arg1]
  exact congrArg (m ((c : Thread nD τ).loc main_arg1)) (emb4 t r j)
theorem iblk6 (t : Fin cfg0.N) (j : Fin 1024) : (iblk m c 6 t : Arr S1x1024 .f32) (ix2 0 j) = (inputs m c).B 0 j := by
  blk_simp [iblk]
  exact (congrArg (V m c main_v8 : Arr S1x1024 .f32) (emb6 t 0 j)).trans (V_v8 m c j)
theorem iblk8 (t : Fin cfg0.N) (j : Fin 1024) : (iblk m c 8 t : Arr S1x1024 .f32) (ix2 0 j) = (inputs m c).B 1 j := by
  blk_simp [iblk]
  exact (congrArg (V m c main_v9 : Arr S1x1024 .f32) (emb8 t 0 j)).trans (V_v9 m c j)
theorem iblk9 (t : Fin cfg0.N) (j : Fin 2048) : (iblk m c 9 t : Arr S1x2048 .f32) (ix2 0 j) = (inputs m c).g j := by
  blk_simp [iblk]
  exact (congrArg (V m c main_v10 : Arr S1x2048 .f32) (emb9 t 0 j)).trans (V_v10 m c j)
theorem iblk5_hit (t : Fin cfg0.N) (s : Fin 16) (j : Fin 1024) :
    (iblk m c 5 t : Arr S128x1024 .bf16) (ix2 (Inputs.colG 0 s) j) = (inputs m c).W 0 s j := by
  blk_simp [iblk]
  refine (congrArg (V m c main_v3 : Arr S128x1024 .bf16) (emb5 t _ j)).trans ?_
  rw [V_v3]
  exact pad_hit _ _ 0 rfl _ _ s j (by simp [Inputs.colG])
theorem iblk5_miss (t : Fin cfg0.N) (s : Fin 128) (j : Fin 1024) (h : ∀ s', s ≠ Inputs.colG 0 s') :
    (iblk m c 5 t : Arr S128x1024 .bf16) (ix2 s j) = (0 : EReal) := by
  blk_simp [iblk]
  refine (congrArg (V m c main_v3 : Arr S128x1024 .bf16) (emb5 t s j)).trans ?_
  rw [V_v3]
  refine (pad_miss _ _ 0 rfl _ s j fun s' hs => h s' (Fin.ext (by simp [Inputs.colG, hs]))).trans ?_
  pointwise
theorem iblk7_hit (t : Fin cfg0.N) (s : Fin 16) (j : Fin 1024) :
    (iblk m c 7 t : Arr S128x1024 .bf16) (ix2 (Inputs.colG 1 s) j) = (inputs m c).W 1 s j := by
  blk_simp [iblk]
  refine (congrArg (V m c main_v7 : Arr S128x1024 .bf16) (emb7 t _ j)).trans ?_
  rw [V_v7]
  exact pad_hit _ _ 16 rfl _ _ s j (by simp [Inputs.colG])
theorem iblk7_miss (t : Fin cfg0.N) (s : Fin 128) (j : Fin 1024) (h : ∀ s', s ≠ Inputs.colG 1 s') :
    (iblk m c 7 t : Arr S128x1024 .bf16) (ix2 s j) = (0 : EReal) := by
  blk_simp [iblk]
  refine (congrArg (V m c main_v7 : Arr S128x1024 .bf16) (emb7 t s j)).trans ?_
  rw [V_v7]
  refine (pad_miss _ _ 16 rfl _ s j fun s' hs => h s' (Fin.ext (by simp [Inputs.colG, hs]))).trans ?_
  pointwise

end Cert.KernelIdeal.Hand
-- ==== Proof.Point.lean ====
module
public import proofs.«01_k».proof.Proof.Spec
@[expose] public section
/-!
# What one grid point writes

A grid point whose input blocks hold a batch element's rows writes that batch element's outputs and last states.
-/
set_option maxRecDepth 65536
set_option maxHeartbeats 1000000
noncomputable section
namespace Cert.KernelIdeal.Hand
open Cert.KernelIdeal Cert.KernelIdeal.Gen Cert.Gla Idealize.ShloMosaic Idealize.ShloMosaic.TcCoe Idealize.SL.Sem

/-! ## One grid point, its buffers and blocks as variables -/

/-- The input blocks hold the rows of batch element `b`, and all the weights. -/
structure Blocks (I : Inputs) (b : Fin 16) (x0 : Arr S256x1024 .bf16) (x1 : Arr S256x1024 .bf16) (x2 : Arr S256x2048 .bf16) (x3 : Arr S256x2048 .bf16) (x4 : Arr S256x128 .bf16) (x5 : Arr S128x1024 .bf16) (x6 : Arr S1x1024 .f32) (x7 : Arr S128x1024 .bf16) (x8 : Arr S1x1024 .f32) (x9 : Arr S1x2048 .f32) : Prop where
  h0 : ∀ r j, x0 (ix2 r j) = I.P (Inputs.row b r) (Inputs.colQ j)
  h1 : ∀ r j, x1 (ix2 r j) = I.P (Inputs.row b r) (Inputs.colKey j)
  h2 : ∀ r j, x2 (ix2 r j) = I.P (Inputs.row b r) (Inputs.colVal j)
  h3 : ∀ r j, x3 (ix2 r j) = I.P (Inputs.row b r) (Inputs.colR j)
  h4 : ∀ r j, x4 (ix2 r j) = I.G (Inputs.row b r) j
  h5 : ∀ s j, x5 (ix2 (Inputs.colG 0 s) j) = I.W 0 s j
  h5' : ∀ s j, (∀ s', s ≠ Inputs.colG 0 s') → x5 (ix2 s j) = (0 : EReal)
  h6 : ∀ j, x6 (ix2 0 j) = I.B 0 j
  h7 : ∀ s j, x7 (ix2 (Inputs.colG 1 s) j) = I.W 1 s j
  h7' : ∀ s j, (∀ s', s ≠ Inputs.colG 1 s') → x7 (ix2 s j) = (0 : EReal)
  h8 : ∀ j, x8 (ix2 0 j) = I.B 1 j
  h9 : ∀ j, x9 (ix2 0 j) = I.g j

variable {c : Dev nD} {i : grid0.Coords}
  {A2 : Memref sig .tc .vmem S256x1024 .bf16} {H2 : A2.IsWhole}
  {A3 : Memref sig .tc .vmem S256x1024 .bf16} {H3 : A3.IsWhole}
  {A4 : Memref sig .tc .vmem S256x2048 .bf16} {H4 : A4.IsWhole}
  {A5 : Memref sig .tc .vmem S256x2048 .bf16} {H5 : A5.IsWhole}
  {A6 : Memref sig .tc .vmem S256x128 .bf16} {H6 : A6.IsWhole}
  {A7 : Memref sig .tc .vmem S128x1024 .bf16} {H7 : A7.IsWhole}
  {A8 : Memref sig .tc .vmem S1x1024 .f32} {H8 : A8.IsWhole}
  {A9 : Memref sig .tc .vmem S128x1024 .bf16} {H9 : A9.IsWhole}
  {A10 : Memref sig .tc .vmem S1x1024 .f32} {H10 : A10.IsWhole}
  {A11 : Memref sig .tc .vmem S1x2048 .f32} {H11 : A11.IsWhole}
  {A12 : Memref sig .tc .vmem S256x2048 .bf16} {H12 : A12.IsWhole}
  {A13 : Memref sig .tc .vmem S1x4x256x512 .f32} {H13 : A13.IsWhole}
  {A14 : Memref sig .tc .vmem S1x4x256x512 .f32} {H14 : A14.IsWhole}
  {A15 : Memref sig .tc .vmem S2x256x1024 .f32} {H15 : A15.IsWhole}
  {A16 : Memref sig .tc .vmem S2x256x2048 .f32} {H16 : A16.IsWhole}
  {A17 : Memref sig .tc .vmem S2x4x512x256 .f32} {H17 : A17.IsWhole}
  {x0 : Arr S256x1024 .bf16}
  {x1 : Arr S256x1024 .bf16}
  {x2 : Arr S256x2048 .bf16}
  {x3 : Arr S256x2048 .bf16}
  {x4 : Arr S256x128 .bf16}
  {x5 : Arr S128x1024 .bf16}
  {x6 : Arr S1x1024 .f32}
  {x7 : Arr S128x1024 .bf16}
  {x8 : Arr S1x1024 .f32}
  {x9 : Arr S1x2048 .f32}
  {I : Inputs} (hI : I.Good) {b : Fin 16} (hB : Blocks I b x0 x1 x2 x3 x4 x5 x6 x7 x8 x9)

include hI hB

/-- Blocks that hold the arguments' rows of a batch element hold its data. -/
theorem Blocks.reads : Ctx.Reads ⟨c, A2, H2, A3, H3, A4, H4, A6, H6, A7, H7, A8, H8, A9, H9, A10, H10, A15, A17, x0, x1, x2, x4, x5, x6, x7, x8⟩ (I.data b) := by
  have hl : ∀ dir r j, Ctx.logit ⟨c, A2, H2, A3, H3, A4, H4, A6, H6, A7, H7, A8, H8, A9, H9, A10, H10, A15, A17, x0, x1, x2, x4, x5, x6, x7, x8⟩ dir r j = I.logit dir b r j := fun dir r j => by
    unfold Ctx.logit Inputs.logit
    match dir with
    | 0 =>
      refine congrArg₂ (· + ·) ?_ (hB.h6 j)
      refine (sum_padded 0 (fun s => x4 (ix2 r s)) (fun s => I.W 0 s j) (fun s => x5 (ix2 s j)) (fun s => hB.h5 s j)
        fun s => hB.h5' s j).trans ?_
      exact Finset.sum_congr rfl fun s _ => congrArg (fun x : EReal => x * I.W 0 s j) (hB.h4 r _)
    | 1 =>
      refine congrArg₂ (· + ·) ?_ (hB.h8 j)
      refine (sum_padded 1 (fun s => x4 (ix2 r s)) (fun s => I.W 1 s j) (fun s => x7 (ix2 s j)) (fun s => hB.h7 s j)
        fun s => hB.h7' s j).trans ?_
      exact Finset.sum_congr rfl fun s _ => congrArg (fun x : EReal => x * I.W 1 s j) (hB.h4 r _)
  refine ⟨fun dir h n d => ?_, fun dir h n d => ?_, fun dir h n e => ?_, fun dir h n d => ?_,
    fun dir h n d => ⟨hI.la_le b dir h n d, hI.le_la b dir h n d⟩⟩
  · show x0 _ * _ = _
    rw [hB.h0, ← hI.q, ← EReal.coe_mul]
    rfl
  · show x1 _ = _
    rw [hB.h1, ← hI.k]
    rfl
  · show x2 _ = _
    rw [hB.h2, ← hI.v]
    rfl
  · rw [hl]
    exact ⟨hI.ne_bot dir b _ _, rfl⟩

/-- The forward last state that the point writes. -/
theorem Blocks.fwd (h : Fin 4) (d : Fin 256) (e : Fin 512) :
    out0_A_11 (F := Ideal) c i A2 H2 A3 H3 A4 H4 A5 H5 A6 H6 A7 H7 A8 H8 A9 H9 A10 H10 A11 H11 A12 H12 A13 H13 A14 H14 A15 H15 A16 H16 A17 H17 x0 x1 x2 x3 x4 x5 x6 x7 x8 x9 (ix4 0 h d e) = I.states 0 b h d e :=
  Ctx.out_fwd (C := ⟨c, A2, H2, A3, H3, A4, H4, A6, H6, A7, H7, A8, H8, A9, H9, A10, H10, A15, A17, x0, x1, x2, x4, x5, x6, x7, x8⟩) A16 A5 H5 x3 A11 H11 x9 (hB.reads hI) i A12 H12 A13 H13 A14 H14 H15 H16 H17 (ix4 0 h d e) h d e rfl rfl rfl

/-- The backward last state that the point writes. -/
theorem Blocks.bwd (h : Fin 4) (d : Fin 256) (e : Fin 512) :
    out0_A_12 (F := Ideal) c i A2 H2 A3 H3 A4 H4 A5 H5 A6 H6 A7 H7 A8 H8 A9 H9 A10 H10 A11 H11 A12 H12 A13 H13 A14 H14 A15 H15 A16 H16 A17 H17 x0 x1 x2 x3 x4 x5 x6 x7 x8 x9 (ix4 0 h d e) = I.states 1 b h d e :=
  Ctx.out_bwd (C := ⟨c, A2, H2, A3, H3, A4, H4, A6, H6, A7, H7, A8, H8, A9, H9, A10, H10, A15, A17, x0, x1, x2, x4, x5, x6, x7, x8⟩) A16 A5 H5 x3 A11 H11 x9 (hB.reads hI) i A12 H12 A13 H13 A14 H14 H15 H16 H17 (ix4 0 h d e) h d e rfl rfl rfl

/-- The outputs that the point writes. -/
theorem Blocks.attn (r : Fin 256) (h : Fin 4) (e : Fin 512) :
    out0_A_10 (F := Ideal) c i A2 H2 A3 H3 A4 H4 A5 H5 A6 H6 A7 H7 A8 H8 A9 H9 A10 H10 A11 H11 A12 H12 A13 H13 A14 H14 A15 H15 A16 H16 A17 H17 x0 x1 x2 x3 x4 x5 x6 x7 x8 x9 (ix2 r (colV h e)) = I.attn b r h e := by
  refine (Ctx.out_attn (C := ⟨c, A2, H2, A3, H3, A4, H4, A6, H6, A7, H7, A8, H8, A9, H9, A10, H10, A15, A17, x0, x1, x2, x4, x5, x6, x7, x8⟩) A16 A5 H5 x3 A11 H11 x9 (hB.reads hI) i A12 H12 A13 H13 A14 H14 H15 H16 H17 (ix2 r (colV h e)) r h e rfl rfl).trans ?_
  unfold Ctx.attnAt Inputs.attn
  rw [hB.h9, hB.h3]

end Cert.KernelIdeal.Hand
-- ==== Proof.Left.lean ====
module
public import proofs.«01_k».proof.Proof.Entry
public import proofs.«01_k».proof.Proof.Point
@[expose] public section
/-!
# What the launch's grid points leave

The input blocks of a grid point are its batch element's rows, so it leaves that batch element's outputs and last states.
-/
set_option maxRecDepth 65536
set_option maxHeartbeats 1000000
noncomputable section
namespace Cert.KernelIdeal.Hand
open Cert.KernelIdeal Cert.KernelIdeal.Gen Cert.Gla Idealize.ShloMosaic Idealize.ShloMosaic.TcCoe Idealize.SL.Sem

variable (m : (ℓ : Loc nD τ sig) → Buf (Elt Ideal) ℓ) (c : Dev nD)

/-- The input blocks of a grid point are the rows of its batch element. -/
theorem blocks (t : Fin cfg0.N) : Blocks (inputs m c) (bat t) (iblk m c 0 t) (iblk m c 1 t) (iblk m c 2 t) (iblk m c 3 t)
    (iblk m c 4 t) (iblk m c 5 t) (iblk m c 6 t) (iblk m c 7 t) (iblk m c 8 t) (iblk m c 9 t) where
  h0 := iblk0 m c t
  h1 := iblk1 m c t
  h2 := iblk2 m c t
  h3 := iblk3 m c t
  h4 := iblk4 m c t
  h5 := iblk5_hit m c t
  h5' := iblk5_miss m c t
  h6 := iblk6 m c t
  h7 := iblk7_hit m c t
  h7' := iblk7_miss m c t
  h8 := iblk8 m c t
  h9 := iblk9 m c t

/-! ## What a grid point leaves -/

/-- A grid point leaves its batch element's outputs. -/
theorem left10 (hI : (inputs m c).Good) (t : Fin cfg0.N) (r : Fin 256) (h : Fin 4) (e : Fin 512) :
    (outsAt0 m c t).1 (ix2 r (colV h e)) = (inputs m c).attn (bat t) r h e :=
  (blocks m c t).attn hI r h e
/-- A grid point leaves its batch element's forward last state. -/
theorem left11 (hI : (inputs m c).Good) (t : Fin cfg0.N) (h : Fin 4) (d : Fin 256) (e : Fin 512) :
    (outsAt0 m c t).2.1 (ix4 0 h d e : S1x4x256x512.Idx) = (inputs m c).states 0 (bat t) h d e := by
  unfold outsAt0
  dsimp only
  exact (blocks m c t).fwd hI h d e
/-- A grid point leaves its batch element's backward last state. -/
theorem left12 (hI : (inputs m c).Good) (t : Fin cfg0.N) (h : Fin 4) (d : Fin 256) (e : Fin 512) :
    (outsAt0 m c t).2.2 (ix4 0 h d e : S1x4x256x512.Idx) = (inputs m c).states 1 (bat t) h d e := by
  unfold outsAt0
  dsimp only
  exact (blocks m c t).bwd hI h d e

end Cert.KernelIdeal.Hand
-- ==== Proof.KernelValue.lean ====
module
public import proofs.«01_k».proof.Proof.Left
@[expose] public section
/-!
# The kernel's three results

Every grid point writes the blocks of its batch element, so the three arrays hold the outputs and the last states of all
sixteen.
-/
set_option maxRecDepth 65536
set_option maxHeartbeats 1000000
noncomputable section
namespace Cert.KernelIdeal.Hand
open Cert.KernelIdeal Cert.KernelIdeal.Gen Cert.Gla Idealize.ShloMosaic Idealize.ShloMosaic.TcCoe Idealize.SL.Sem

variable (m : (ℓ : Loc nD τ sig) → Buf (Elt Ideal) ℓ) (c : Dev nD)

/-! ## The blocks' places in the three arrays -/

/-- A grid point writes the blocks of its batch element. -/
theorem idx_out : ∀ t : Fin cfg0.N, win0_10.index t = ![(bat t : ℕ), 0] ∧ win0_11.index t = ![(bat t : ℕ), 0, 0, 0]
    ∧ win0_12.index t = ![(bat t : ℕ), 0, 0, 0] :=
  (by decide +kernel : ∀ t : Fin grid0.N, _)

/-- A row of the outputs' block is a row of the batch element. -/
theorem emb10 (t : Fin cfg0.N) (r : Fin 256) (j : Fin 2048) :
    (win0_10.blk t).view.emb (ix2 r j) = (ix2 ⟨256 * bat t + r, by omega⟩ j : S4096x2048.Idx) := by
  blk_ext [(idx_out t).1]
/-- The forward state's block is the batch element's. -/
theorem emb11 (t : Fin cfg0.N) (h : Fin 4) (d : Fin 256) (e : Fin 512) :
    (win0_11.blk t).view.emb (ix4 0 h d e) = (ix4 (bat t) h d e : S16x4x256x512.Idx) := by
  blk_ext [(idx_out t).2.1]
/-- The backward state's block is the batch element's. -/
theorem emb12 (t : Fin cfg0.N) (h : Fin 4) (d : Fin 256) (e : Fin 512) :
    (win0_12.blk t).view.emb (ix4 0 h d e) = (ix4 (bat t) h d e : S16x4x256x512.Idx) := by
  blk_ext [(idx_out t).2.2]

/-! ## The three arrays -/

/-- The array of last states in direction `dir`. -/
def statesArr (I : Inputs) (dir : Fin 2) : Arr S16x4x256x512 .f32 := fun i => I.states dir (i 0) (i 1) (i 2) (i 3)
/-- The array of outputs: rows of a batch element after one another, columns of a head after one another. -/
def attnArr (I : Inputs) : Arr S4096x2048 .bf16 := fun i =>
  I.attn ⟨i 0 / 256, Nat.div_lt_of_lt_mul (i 0).2⟩ ⟨i 0 % 256, Nat.mod_lt _ (by decide)⟩
    ⟨i 1 / 512, Nat.div_lt_of_lt_mul (i 1).2⟩ ⟨i 1 % 512, Nat.mod_lt _ (by decide)⟩

/-- Every row index is a row of a batch element. -/
theorem row_split (i : Fin 4096) : ∃ (b : Fin 16) (r : Fin 256), i = ⟨256 * b + r, by omega⟩ :=
  ⟨⟨i / 256, by omega⟩, ⟨i % 256, by omega⟩, Fin.ext (Nat.div_add_mod _ _).symm⟩
/-- Every column index is a column of a head. -/
theorem col_split (j : Fin 2048) : ∃ (h : Fin 4) (e : Fin 512), j = colV h e :=
  ⟨⟨j / 512, by omega⟩, ⟨j % 512, by omega⟩, Fin.ext (by unfold colV; dsimp only; omega)⟩
/-- An element of the outputs' array. -/
theorem attnArr_at (I : Inputs) (b : Fin 16) (r : Fin 256) (h : Fin 4) (e : Fin 512) :
    attnArr I (ix2 ⟨256 * b + r, by omega⟩ (colV h e)) = I.attn b r h e := by
  have hb : (256 * (b : ℕ) + r) / 256 = b := by omega
  have hr : (256 * (b : ℕ) + r) % 256 = r := by omega
  have hh : ((colV h e : Fin 2048) : ℕ) / 512 = h := by unfold colV; dsimp only; omega
  have he : ((colV h e : Fin 2048) : ℕ) % 512 = e := by unfold colV; dsimp only; omega
  have key : ∀ (b' : Fin 16) (r' : Fin 256) (h' : Fin 4) (e' : Fin 512), b' = b → r' = r → h' = h → e' = e →
      I.attn b' r' h' e' = I.attn b r h e := fun _ _ _ _ h1 h2 h3 h4 => by rw [h1, h2, h3, h4]
  exact key _ _ _ _ (Fin.ext hb) (Fin.ext hr) (Fin.ext hh) (Fin.ext he)

/-- The leading index of a state's block is zero. -/
theorem first_ix4 (y : S1x4x256x512.Idx) : ∃ (h : Fin 4) (d : Fin 256) (e : Fin 512), y = (ix4 0 h d e : S1x4x256x512.Idx) :=
  ⟨y 1, y 2, y 3, (eq_ix4 y).trans (congrArg (fun a : Fin 1 => (ix4 a (y 1) (y 2) (y 3) : S1x4x256x512.Idx))
    (Subsingleton.elim (α := Fin 1) _ _))⟩

/-- What a grid point leaves of the outputs is the array at the block's place. -/
theorem place10 (hI : (inputs m c).Good) (t : Fin cfg0.N) (y : S256x2048.Idx) :
    (outsAt0 m c t).1 y = attnArr (inputs m c) ((win0_10.blk t).view.emb y) := by
  rw [eq_ix2 y]
  obtain ⟨h, e, hj⟩ := col_split (y 1)
  rw [hj]
  exact (left10 m c hI t (y 0) h e).trans
    ((attnArr_at _ _ _ _ _).symm.trans (congrArg (attnArr (inputs m c)) (emb10 t (y 0) (colV h e)).symm))
/-- What a grid point leaves of the forward states is the array at the block's place. -/
theorem place11 (hI : (inputs m c).Good) (t : Fin cfg0.N) (y : S1x4x256x512.Idx) :
    (outsAt0 m c t).2.1 y = statesArr (inputs m c) 0 ((win0_11.blk t).view.emb y) := by
  obtain ⟨h, d, e, rfl⟩ := first_ix4 y
  have hG : statesArr (inputs m c) 0 ((win0_11.blk t).view.emb (ix4 0 h d e))
      = (inputs m c).states 0 (bat t) h d e := by
    rw [emb11]
    rfl
  exact (left11 m c hI t h d e).trans hG.symm
/-- What a grid point leaves of the backward states is the array at the block's place. -/
theorem place12 (hI : (inputs m c).Good) (t : Fin cfg0.N) (y : S1x4x256x512.Idx) :
    (outsAt0 m c t).2.2 y = statesArr (inputs m c) 1 ((win0_12.blk t).view.emb y) := by
  obtain ⟨h, d, e, rfl⟩ := first_ix4 y
  have hG : statesArr (inputs m c) 1 ((win0_12.blk t).view.emb (ix4 0 h d e))
      = (inputs m c).states 1 (bat t) h d e := by
    rw [emb12]
    rfl
  exact (left12 m c hI t h d e).trans hG.symm
/-- After the run the outputs' array holds every batch element's outputs. -/
theorem final10 (hI : (inputs m c).Good) : (dats m 0 c).arrAt 10 cfg0.N = attnArr (inputs m c) := by
  refine (dats m 0 c).arrAt_eq_of_covers 10 (attnArr (inputs m c)) (by decide +kernel) fun t hf y => ?_
  rw [after0_10]
  exact place10 m c hI t y
/-- After the run the forward states' array holds every batch element's. -/
theorem final11 (hI : (inputs m c).Good) : (dats m 0 c).arrAt 11 cfg0.N = statesArr (inputs m c) 0 := by
  refine (dats m 0 c).arrAt_eq_of_covers 11 (statesArr (inputs m c) 0) (by decide +kernel) fun t hf y => ?_
  rw [after0_11]
  exact place11 m c hI t y
/-- After the run the backward states' array holds every batch element's. -/
theorem final12 (hI : (inputs m c).Good) : (dats m 0 c).arrAt 12 cfg0.N = statesArr (inputs m c) 1 := by
  refine (dats m 0 c).arrAt_eq_of_covers 12 (statesArr (inputs m c) 1) (by decide +kernel) fun t hf y => ?_
  rw [after0_12]
  exact place12 m c hI t y

end Cert.KernelIdeal.Hand
-- ==== Proof.Trip.lean ====
module
public import proofs.«01_k».proof.Proof.Scalars
public import proofs.«01_k».proof.Proof.Recurrence
public import proofs.«01_k».proof.Proof.Gen.ReferenceIdeal.Step
public import Idealize.ShloMosaic.Lib.Pointwise
@[expose] public section
/-!
# One trip of the reference's scan

A trip takes the state before a chunk of 32 steps to the state after it, and writes the chunk's outputs. The 32 lanes
are the sixteen batch elements forward, then the sixteen backward, each in its own time order.
-/
set_option maxRecDepth 16384
noncomputable section
namespace Cert.ReferenceIdeal.Hand
open Cert.ReferenceIdeal Cert.ReferenceIdeal.Step Cert.Gla Idealize.ShloMosaic

/-- A lane's gates, queries, keys and values, per head, in time order. -/
structure Lane where
  /-- log gates -/
  la : Fin 4 → ℕ → Fin 256 → ℝ
  /-- scaled queries -/
  q : Fin 4 → ℕ → Fin 256 → ℝ
  /-- keys -/
  k : Fin 4 → ℕ → Fin 256 → ℝ
  /-- values -/
  v : Fin 4 → ℕ → Fin 512 → ℝ

/-- The recurrence's state before step `n`. -/
def Lane.st (L : Lane) (h : Fin 4) (e : Fin 512) (n : ℕ) (d : Fin 256) : ℝ :=
  state (L.la h) (L.k h) (fun n => L.v h n e) n d

/-- The recurrence's output at step `n`. -/
def Lane.o (L : Lane) (h : Fin 4) (e : Fin 512) (n : ℕ) : ℝ :=
  out (L.la h) (L.q h) (L.k h) (fun n => L.v h n e) n

/-- What a state holds of the lanes besides the recurrence's state and outputs. -/
structure Holds (L : Fin 32 → Lane) (s : State Ideal) : Prop where
  q : ∀ (j : Fin 8) b h (i : Fin 32) d, s.main_v51_0 (ix5 j b h i d) = ((L b).q h (32 * j + i) d : EReal)
  k : ∀ (j : Fin 8) b h (i : Fin 32) d, s.main_v51_1 (ix5 j b h i d) = ((L b).k h (32 * j + i) d : EReal)
  v : ∀ (j : Fin 8) b h (i : Fin 32) e, s.main_v51_2 (ix5 j b h i e) = ((L b).v h (32 * j + i) e : EReal)
  c : ∀ (j : Fin 8) b h (i : Fin 32) d, s.main_v51_3 (ix5 j b h i d) = (cum ((L b).la h) (32 * j) (i + 1) d : EReal)

/-- A chunk's number as a word, read back. -/
theorem start_eq : ∀ j : Fin 8, (min (max (BitVec.toInt (BitVec.ofNat 32 j)) 0) ((8 - 1 : ℕ) : ℤ)).toNat = j := by decide

/-- The slice of chunk `j`. -/
theorem slice256 (x : S8x32x4x32x256.Idx → EReal) (j : Fin 8) (b : Fin 32) (h : Fin 4) (i : Fin 32) (d : Fin 256) :
    Host.dynamicSlice S1x32x4x32x256 x (fun k => ((![constantI S_ 32 (BitVec.ofNat 32 j), constantI S_ 32 0#32, constantI S_ 32 0#32,
      constantI S_ 32 0#32, constantI S_ 32 0#32] : Fin 5 → IVec S_ 32) k (Shape.Idx.first Gen.h_S_)).toInt)
      Gen.sliceFits_S8x32x4x32x256_S1x32x4x32x256 (ix5 0 b h i d) = x (ix5 j b h i d) := by
  unfold Host.dynamicSlice extractStridedSlice
  refine congrArg x (funext fun a => Fin.ext ?_)
  match a with
  | ⟨0, _⟩ =>
    show (min (max (BitVec.toInt (BitVec.ofNat 32 j)) 0) ((8 - 1 : ℕ) : ℤ)).toNat + 0 = j
    rw [start_eq]
    rfl
  | ⟨1, _⟩ => exact Nat.zero_add _
  | ⟨2, _⟩ => exact Nat.zero_add _
  | ⟨3, _⟩ => exact Nat.zero_add _
  | ⟨4, _⟩ => exact Nat.zero_add _
/-- The slice of chunk `j`. -/
theorem slice512 (x : S8x32x4x32x512.Idx → EReal) (j : Fin 8) (b : Fin 32) (h : Fin 4) (i : Fin 32) (d : Fin 512) :
    Host.dynamicSlice S1x32x4x32x512 x (fun k => ((![constantI S_ 32 (BitVec.ofNat 32 j), constantI S_ 32 0#32, constantI S_ 32 0#32,
      constantI S_ 32 0#32, constantI S_ 32 0#32] : Fin 5 → IVec S_ 32) k (Shape.Idx.first Gen.h_S_)).toInt)
      Gen.sliceFits_S8x32x4x32x512_S1x32x4x32x512 (ix5 0 b h i d) = x (ix5 j b h i d) := by
  unfold Host.dynamicSlice extractStridedSlice
  refine congrArg x (funext fun a => Fin.ext ?_)
  match a with
  | ⟨0, _⟩ =>
    show (min (max (BitVec.toInt (BitVec.ofNat 32 j)) 0) ((8 - 1 : ℕ) : ℤ)).toNat + 0 = j
    rw [start_eq]
    rfl
  | ⟨1, _⟩ => exact Nat.zero_add _
  | ⟨2, _⟩ => exact Nat.zero_add _
  | ⟨3, _⟩ => exact Nat.zero_add _
  | ⟨4, _⟩ => exact Nat.zero_add _

/-- A chunk's outputs written at chunk `j`. -/
theorem update512 (x : S8x32x4x32x512.Idx → EReal) (u : S1x32x4x32x512.Idx → EReal) (j : Fin 8) (j' : Fin 8) (b : Fin 32) (h : Fin 4) (i : Fin 32) (d : Fin 512) :
    Host.dynamicUpdateSlice x u (fun k => ((![constantI S_ 32 (BitVec.ofNat 32 j), constantI S_ 32 0#32, constantI S_ 32 0#32,
      constantI S_ 32 0#32, constantI S_ 32 0#32] : Fin 5 → IVec S_ 32) k (Shape.Idx.first Gen.h_S_)).toInt)
      Gen.updateFits_S8x32x4x32x512_S1x32x4x32x512 (ix5 j' b h i d) = if j' = j then u (ix5 0 b h i d) else x (ix5 j' b h i d) := by
  have hs := start_eq j
  unfold Host.dynamicUpdateSlice updateSlice
  dsimp only
  by_cases hj : j' = j
  · rw [if_pos hj, dif_pos]
    · refine congrArg u (funext fun a => Fin.ext ?_)
      match a with
      | ⟨0, _⟩ =>
        show (j' : ℕ) - (min (max (BitVec.toInt (BitVec.ofNat 32 j)) 0) ((8 - 1 : ℕ) : ℤ)).toNat = 0
        rw [hs, hj]
        exact Nat.sub_self _
      | ⟨1, _⟩ => exact Nat.sub_zero _
      | ⟨2, _⟩ => exact Nat.sub_zero _
      | ⟨3, _⟩ => exact Nat.sub_zero _
      | ⟨4, _⟩ => exact Nat.sub_zero _
    · intro a
      match a with
      | ⟨0, _⟩ =>
        show (min (max (BitVec.toInt (BitVec.ofNat 32 j)) 0) ((8 - 1 : ℕ) : ℤ)).toNat ≤ (j' : ℕ)
          ∧ (j' : ℕ) < (min (max (BitVec.toInt (BitVec.ofNat 32 j)) 0) ((8 - 1 : ℕ) : ℤ)).toNat + 1
        rw [hs, hj]
        omega
      | ⟨1, _⟩ => exact ⟨Nat.zero_le _, by have := b.isLt; show (b : ℕ) < 0 + 32; omega⟩
      | ⟨2, _⟩ => exact ⟨Nat.zero_le _, by have := h.isLt; show (h : ℕ) < 0 + 4; omega⟩
      | ⟨3, _⟩ => exact ⟨Nat.zero_le _, by have := i.isLt; show (i : ℕ) < 0 + 32; omega⟩
      | ⟨4, _⟩ => exact ⟨Nat.zero_le _, by have := d.isLt; show (d : ℕ) < 0 + 512; omega⟩
  · rw [if_neg hj, dif_neg]
    intro hh
    have h0 : (min (max (BitVec.toInt (BitVec.ofNat 32 j)) 0) ((8 - 1 : ℕ) : ℤ)).toNat ≤ (j' : ℕ)
          ∧ (j' : ℕ) < (min (max (BitVec.toInt (BitVec.ofNat 32 j)) 0) ((8 - 1 : ℕ) : ℤ)).toNat + 1 := hh 0
    rw [hs] at h0
    exact hj (Fin.ext (by omega))

/-- The causal mask of a chunk. -/
theorem mask_at (i l : Fin 32) : K_main_v49 (F := Ideal) (ix2 i l) = if l ≤ i then 1 else 0 := by
  revert i l
  pointwise [K_main_v49, K_main_call6_v4, K_main_v48, K_main_c, K_main_call6_v5, K_main_call6_c_0, K_main_call6_v2, K_main_call6_v3, K_main_call6_v0, K_main_call6_v1, K_main_call6_c]
  decide +kernel

variable {L : Fin 32 → Lane} {s : State Ideal}

theorem q_at (H : Holds L s) (j : Fin 8) (b h i d) : b5 j s (ix4 b h i d) = ((L b).q h (32 * j + i) d : EReal) := by
  pointwise [b5]
  exact (slice256 s.main_v51_0 j b h i d).trans (H.q j b h i d)
theorem k_at (H : Holds L s) (j : Fin 8) (b h i d) : b11 j s (ix4 b h i d) = ((L b).k h (32 * j + i) d : EReal) := by
  pointwise [b11]
  exact (slice256 s.main_v51_1 j b h i d).trans (H.k j b h i d)
theorem v_at (H : Holds L s) (j : Fin 8) (b h i d) : b17 j s (ix4 b h i d) = ((L b).v h (32 * j + i) d : EReal) := by
  pointwise [b17]
  exact (slice512 s.main_v51_2 j b h i d).trans (H.v j b h i d)
theorem c_at (H : Holds L s) (j : Fin 8) (b h i d) : b23 j s (ix4 b h i d) = (cum ((L b).la h) (32 * j) (i + 1) d : EReal) := by
  pointwise [b23]
  exact (slice256 s.main_v51_3 j b h i d).trans (H.c j b h i d)

/-- The weights inside a chunk. -/
theorem weights_at (H : Holds L s) (hla : ∀ b h n d, (L b).la h n d ≤ 0) (j : Fin 8) (b h) (i l : Fin 32) : b49 j s (ix4 b h i l)
    = ((if l ≤ i then ∑ d, (L b).q h (32 * j + i) d * (L b).k h (32 * j + l) d
        * Real.exp (cum ((L b).la h) (32 * j) (i + 1) d - cum ((L b).la h) (32 * j) (l + 1) d) else 0 : ℝ) : EReal) := by
  pointwise [b49, b47, b48, b46, b45, b44, b43, b42, b41, b40, b39, b38, b37, b36, b35, b34, b33, b32, b31, b30, b29, b28, b27]
  by_cases hl : l ≤ i
  · rw [if_pos hl, coe_sum]
    refine Finset.sum_congr rfl fun d _ => ?_
    have hc : cum ((L b).la h) (32 * j) (i + 1) d - cum ((L b).la h) (32 * j) (l + 1) d ≤ 0 :=
      cum_nonpos _ (hla b h) _ _ _ _ (Nat.succ_le_succ hl)
    rw [mask_at, if_pos hl, q_at H, k_at H, c_at H, c_at H, ← EReal.coe_sub, ← EReal.coe_zero, ← coe_min, min_eq_left hc,
      Ideal.exp_coe, ← EReal.coe_mul, ← EReal.coe_mul]
    rfl
  · rw [if_neg hl]
    refine (Finset.sum_eq_zero fun d _ => ?_).trans EReal.coe_zero.symm
    rw [mask_at, if_neg hl]
    rfl

/-- The outputs of chunk `j`. -/
theorem out_at (H : Holds L s) (hla : ∀ b h n d, (L b).la h n d ≤ 0) (j : Fin 8)
    (hS : ∀ b h d e, s.main_v51_6 (ix4 b h d e) = ((L b).st h e (32 * j) d : EReal)) (b h i e) :
    b64 j s (ix4 b h i e) = ((L b).o h e (32 * j + i) : EReal) := by
  pointwise [b64, b26, b25, b24, b50]
  have := out_chunk_fin (Equiv.refl (Fin 32)) ((L b).la h) ((L b).q h) ((L b).k h) (fun n => (L b).v h n e) (32 * j) i
  simp only [Equiv.refl_apply] at this
  unfold Lane.o
  rw [this, EReal.coe_add, coe_sum, coe_sum, add_comm]
  congr 1
  · refine Finset.sum_congr rfl fun l _ => ?_
    rw [weights_at H hla, v_at H, ← EReal.coe_mul]
    congr!
  · refine Finset.sum_congr rfl fun d _ => ?_
    rw [q_at H, c_at H, hS, Ideal.exp_coe, ← EReal.coe_mul, ← EReal.coe_mul]
    rfl

/-- The state after chunk `j`. -/
theorem state_at (H : Holds L s) (j : Fin 8)
    (hS : ∀ b h d e, s.main_v51_6 (ix4 b h d e) = ((L b).st h e (32 * j) d : EReal)) (b h d e) :
    b63 j s (ix4 b h d e) = ((L b).st h e (32 * (j + 1 : ℕ)) d : EReal) := by
  pointwise [b63, b62, b61, b60, b59, b58, b57, b56, b55, b54, b53, b52, b51]
  have := state_chunk_fin (Equiv.refl (Fin 32)) ((L b).la h) ((L b).k h) (fun n => (L b).v h n e) (32 * j) d
  simp only [Equiv.refl_apply] at this
  unfold Lane.st
  rw [mul_add, mul_one, this, EReal.coe_add, coe_sum, add_comm]
  congr 1
  · refine Finset.sum_congr rfl fun l _ => ?_
    rw [k_at H, c_at H, c_at H, v_at H, ← EReal.coe_sub, Ideal.exp_coe, ← EReal.coe_mul, ← EReal.coe_mul, mul_comm]
    rfl
  · rw [hS, c_at H, Ideal.exp_coe, ← EReal.coe_mul]
    rfl

/-- After `n` chunks: the state after `32 n` steps and the outputs of these steps. -/
structure After (L : Fin 32 → Lane) (n : ℕ) (s : State Ideal) : Prop extends Holds L s where
  st : ∀ b h d e, s.main_v51_6 (ix4 b h d e) = ((L b).st h e (32 * n) d : EReal)
  o : ∀ (j : Fin 8) b h (i : Fin 32) e, (j : ℕ) < n → s.main_v51_7 (ix5 j b h i e) = ((L b).o h e (32 * j + i) : EReal)

theorem After.step (hla : ∀ b h n d, (L b).la h n d ≤ 0) (j : Fin 8) (A : After L j s) : After L (j + 1) (step j s) where
  q := A.q
  k := A.k
  v := A.v
  c := A.c
  st b h d e := state_at A.toHolds j A.st b h d e
  o j' b h i e hj := by
    show b70 j s (ix5 j' b h i e) = _
    refine (update512 s.main_v51_7 (b65 j s) j j' b h i e).trans ?_
    by_cases hjj : j' = j
    · rw [if_pos hjj, hjj, ← out_at A.toHolds hla j A.st]
      pointwise [b65]
    · rw [if_neg hjj]
      exact A.o j' b h i e (by have : (j' : ℕ) ≠ j := fun h => hjj (Fin.ext h); omega)

end Cert.ReferenceIdeal.Hand
-- ==== Proof.RefEntry.lean ====
module
public import proofs.«01_k».proof.Proof.Spec
public import proofs.«01_k».proof.Proof.Trip
@[expose] public section
/-!
# What the reference's scan starts from

The reference stacks the sixteen batch elements read forward and the sixteen read backward, each in its own time order,
cuts the 256 times into eight chunks, and sums the log gates inside each chunk.
-/
set_option maxRecDepth 16384
noncomputable section
namespace Cert.ReferenceIdeal.Hand
open Cert.ReferenceIdeal Cert.ReferenceIdeal.Step Cert.Gla Cert.KernelIdeal.Hand Idealize.ShloMosaic

/-- The lane of batch element `b` in direction `dir`. -/
def laneOf (dir : Fin 2) (b : Fin 16) : Fin 32 := ⟨16 * dir + b, by omega⟩
/-- A lane's direction. -/
def dirOf (l : Fin 32) : Fin 2 := ⟨l / 16, by omega⟩
/-- A lane's batch element. -/
def batOf (l : Fin 32) : Fin 16 := ⟨l % 16, by omega⟩

theorem dirOf_lane (dir b) : dirOf (laneOf dir b) = dir := Fin.ext (by simp only [dirOf, laneOf]; omega)
theorem batOf_lane (dir b) : batOf (laneOf dir b) = b := Fin.ext (by simp only [batOf, laneOf]; omega)
theorem lane_eq (l : Fin 32) : l = laneOf (dirOf l) (batOf l) := Fin.ext (by simp only [dirOf, batOf, laneOf]; omega)

/-- A lane's data. -/
def lane (I : Inputs) (l : Fin 32) : Lane where
  la := (I.data (batOf l)).la (dirOf l)
  q := (I.data (batOf l)).q (dirOf l)
  k := (I.data (batOf l)).k (dirOf l)
  v := (I.data (batOf l)).v (dirOf l)

theorem lane_st (I : Inputs) (dir b h e n d) : (lane I (laneOf dir b)).st h e n d = (I.data b).st dir h e n d := by
  unfold Lane.st Data.st lane
  rw [dirOf_lane, batOf_lane]
theorem lane_o (I : Inputs) (dir b h e n) : (lane I (laneOf dir b)).o h e n = (I.data b).o dir h e n := by
  unfold Lane.o Data.o lane
  rw [dirOf_lane, batOf_lane]

theorem rowAt_zero (n : Fin 256) : rowAt 0 n = n := Fin.ext (by show min (n : ℕ) 255 = n; omega)
theorem rowAt_one (n : Fin 256) : rowAt 1 n = n.rev := Fin.ext (by show 255 - (n : ℕ) = 256 - (n + 1); omega)

/-! ## The running sum of a chunk -/

/-- A fold that adds is the first value plus the sum. -/
theorem foldl_add_eq {α : Type} (f : α → EReal) (l : List α) (a : EReal) : l.foldl (fun r n => r + f n) a = a + (l.map f).sum := by
  induction l generalizing a with
  | nil => simp
  | cons x l ih => rw [List.foldl_cons, ih, List.map_cons, List.sum_cons, add_assoc]

/-- The fold over a window's places is the sum over them. -/
theorem fold_window (W : Shape) (F : W.Idx → EReal) :
    (List.finRange W.numel).foldl (fun r n => r + F (W.rowMajor.symm n)) 0 = ∑ p, F p := by
  rw [foldl_add_eq _ _ 0, zero_add, ← List.ofFn_eq_map, List.sum_ofFn]
  exact Equiv.sum_comp W.rowMajor.symm F

/-- The places of a window of 32 along the fourth axis. -/
def place : Fin 32 ≃ (⟨5, ![1, 1, 1, 32, 1]⟩ : Shape).Idx where
  toFun w := ix5 0 0 0 w 0
  invFun p := p 3
  left_inv _ := rfl
  right_inv p := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- The window of 32 that ends at `i` meets the elements up to `i`. -/
theorem sum_window_range (f : ℕ → EReal) (i : Fin 32) :
    (∑ w : Fin 32, if 31 ≤ (i : ℕ) + w then f (i + w - 31) else 0) = ∑ n ∈ Finset.range (i + 1), f n := by
  rw [Fin.sum_univ_eq_sum_range (fun w => if 31 ≤ (i : ℕ) + w then f (i + w - 31) else 0), ← Finset.sum_filter]
  refine Finset.sum_nbij' (fun w => i + w - 31) (fun n => n + 31 - i) ?_ ?_ ?_ ?_ fun _ _ => rfl <;>
    (intro a ha; simp only [Finset.mem_filter, Finset.mem_range] at ha ⊢; omega)

/-- The window sum along the fourth axis, padded by 31 zeros in front, is the running sum. -/
theorem running_sum (x : S8x32x4x32x256.Idx → EReal) (init : S_.Idx → EReal) (h0 : init (Shape.Idx.first Gen.h_S_) = 0)
    (f : ℕ → EReal) (j : Fin 8) (b : Fin 32) (h : Fin 4) (i : Fin 32) (d : Fin 256)
    (hx : ∀ l : Fin 32, x (ix5 j b h l d) = f l) :
    Host.reduceWindowAdd (F := Ideal) (φ := .f32) ![1, 1, 1, 32, 1] ![1, 1, 1, 1, 1] ![0, 0, 0, 31, 0] ![0, 0, 0, 0, 0] x init
      Gen.reduceWindows_S8x32x4x32x256_S8x32x4x32x256_w1s1p0_0_w1s1p0_0_w1s1p0_0_w32s1p31_0_w1s1p0_0 Gen.h_S_ (ix5 j b h i d)
      = ∑ n ∈ Finset.range (i + 1), f n := by
  unfold Host.reduceWindowAdd
  rw [Ideal.hostReduceWindowAdd_def]
  unfold Ideal.hostReduceWindowAdd Host.reduceWindow
  simp only [h0]
  refine (fold_window ⟨5, ![1, 1, 1, 32, 1]⟩ (fun p => if hin : ∀ a : Fin 5, (![0, 0, 0, 31, 0] : Fin 5 → ℕ) a ≤
      ((ix5 j b h i d : S8x32x4x32x256.Idx) a : ℕ) * (![1, 1, 1, 1, 1] : Fin 5 → ℕ) a + (p a : ℕ)
      ∧ ((ix5 j b h i d : S8x32x4x32x256.Idx) a : ℕ) * (![1, 1, 1, 1, 1] : Fin 5 → ℕ) a + (p a : ℕ) - (![0, 0, 0, 31, 0] : Fin 5 → ℕ) a
        < S8x32x4x32x256.size a then x (fun a => ⟨_, (hin a).2⟩) else 0)).trans ?_
  rw [← Equiv.sum_comp place, ← sum_window_range]
  refine Finset.sum_congr rfl fun w _ => ?_
  by_cases hw : 31 ≤ (i : ℕ) + w
  · rw [if_pos hw, dif_pos]
    · refine (congrArg x (funext fun a => Fin.ext ?_)).trans (hx ⟨i + w - 31, by omega⟩)
      match a with
      | ⟨0, _⟩ => exact Nat.mul_one _
      | ⟨1, _⟩ => exact Nat.mul_one _
      | ⟨2, _⟩ => exact Nat.mul_one _
      | ⟨3, _⟩ =>
        show (i : ℕ) * 1 + w - 31 = i + w - 31
        rw [Nat.mul_one]
      | ⟨4, _⟩ => exact Nat.mul_one _
    · intro a
      match a with
      | ⟨0, _⟩ => exact ⟨Nat.zero_le _, by show (j : ℕ) * 1 + 0 - 0 < 8; omega⟩
      | ⟨1, _⟩ => exact ⟨Nat.zero_le _, by show (b : ℕ) * 1 + 0 - 0 < 32; omega⟩
      | ⟨2, _⟩ => exact ⟨Nat.zero_le _, by show (h : ℕ) * 1 + 0 - 0 < 4; omega⟩
      | ⟨3, _⟩ =>
        show 31 ≤ (i : ℕ) * 1 + w ∧ (i : ℕ) * 1 + w - 31 < 32
        omega
      | ⟨4, _⟩ => exact ⟨Nat.zero_le _, by show (d : ℕ) * 1 + 0 - 0 < 256; omega⟩
  · rw [if_neg hw, dif_neg]
    intro hin
    have h3 : 31 ≤ (i : ℕ) * 1 + w ∧ _ := hin 3
    omega

/-! ## The stacked arrays -/

section
variable (a0 : S6144x6144.Idx → EReal) (a1 : S6144x128.Idx → EReal) (a2 : S16x1024.Idx → EReal) (a3 : S1024.Idx → EReal)
  (a4 : S16x1024.Idx → EReal) (a5 : S1024.Idx → EReal) (g : S2048.Idx → EReal)

theorem q_arr (hI : (Inputs.of a0 a1 a2 a3 a4 a5 g).Good) (b : Fin 16) (r : Fin 256) (h : Fin 4) (d : Fin 256) :
    A_main_v13 (F := Ideal) a0 a1 a2 a3 a4 a5 (ix4 b r h d)
      = ((((Inputs.of a0 a1 a2 a3 a4 a5 g).P (Inputs.row b r) (Inputs.colQ (colK h d))).toReal * (1 / 16) : ℝ) : EReal) := by
  rw [EReal.coe_mul, hI.q, ← lit_sixteenth]
  pointwise [A_main_v13, A_main_v11, A_main_v3, A_main_v2, A_main_v1, A_main_v0, K_main_v12, K_main_cst]
  refine congrArg (fun y => a0 y * Ideal.ofBits .f32 1031798784#32) ?_
  exact congrArg₂ ix2 (Fin.ext (by simp only [Inputs.row]; omega)) (Fin.ext (by simp only [Inputs.colQ, colK]; omega))

theorem k_arr (hI : (Inputs.of a0 a1 a2 a3 a4 a5 g).Good) (b : Fin 16) (r : Fin 256) (h : Fin 4) (d : Fin 256) :
    A_main_v14 (F := Ideal) a0 a1 a2 a3 a4 a5 (ix4 b r h d)
      = (((Inputs.of a0 a1 a2 a3 a4 a5 g).P (Inputs.row b r) (Inputs.colKey (colK h d))).toReal : EReal) := by
  rw [hI.k]
  pointwise [A_main_v14, A_main_v4, A_main_v2, A_main_v1, A_main_v0]
  refine congrArg a0 ?_
  exact congrArg₂ ix2 (Fin.ext (by simp only [Inputs.row]; omega)) (Fin.ext (by simp only [Inputs.colKey, colK]; omega))

theorem v_arr (hI : (Inputs.of a0 a1 a2 a3 a4 a5 g).Good) (b : Fin 16) (r : Fin 256) (h : Fin 4) (e : Fin 512) :
    A_main_v15 (F := Ideal) a0 a1 a2 a3 a4 a5 (ix4 b r h e)
      = (((Inputs.of a0 a1 a2 a3 a4 a5 g).P (Inputs.row b r) (Inputs.colVal (colV h e))).toReal : EReal) := by
  rw [hI.v]
  pointwise [A_main_v15, A_main_v5, A_main_v2, A_main_v1, A_main_v0]
  refine congrArg a0 ?_
  exact congrArg₂ ix2 (Fin.ext (by simp only [Inputs.row]; omega)) (Fin.ext (by simp only [Inputs.colVal, colV]; omega))

theorem logit_fwd (b : Fin 16) (r : Fin 256) (c : Fin 1024) :
    A_main_v19 (F := Ideal) a0 a1 a2 a3 a4 a5 (ix3 b r c) = (Inputs.of a0 a1 a2 a3 a4 a5 g).logit 0 b r c := by
  pointwise [A_main_v19, A_main_v18, A_main_v17, A_main_v16, A_main_v9, A_main_v8, A_main_v7, A_main_v6]
  unfold Inputs.logit
  refine congrArg (· + a3 (ix1 c)) (Finset.sum_congr rfl fun s _ => congrArg (fun y => a1 y * a2 (ix2 s c)) ?_)
  exact congrArg₂ ix2 (Fin.ext (by simp only [Inputs.row]; omega)) (Fin.ext (by simp [Inputs.colG]))
theorem logit_bwd (b : Fin 16) (r : Fin 256) (c : Fin 1024) :
    A_main_v23 (F := Ideal) a0 a1 a2 a3 a4 a5 (ix3 b r c) = (Inputs.of a0 a1 a2 a3 a4 a5 g).logit 1 b r c := by
  pointwise [A_main_v23, A_main_v22, A_main_v21, A_main_v20, A_main_v10, A_main_v8, A_main_v7, A_main_v6]
  unfold Inputs.logit
  refine congrArg (· + a5 (ix1 c)) (Finset.sum_congr rfl fun s _ => congrArg (fun y => a1 y * a4 (ix2 s c)) ?_)
  exact congrArg₂ ix2 (Fin.ext (by simp only [Inputs.row]; omega)) (Fin.ext (by simp [Inputs.colG]))

/-- The gate logits, stacked. -/
theorem logit_lane (dir : Fin 2) (b : Fin 16) (n : Fin 256) (c : Fin 1024) :
    A_main_v25 (F := Ideal) a0 a1 a2 a3 a4 a5 (ix3 (laneOf dir b) n c)
      = (Inputs.of a0 a1 a2 a3 a4 a5 g).logit dir b (rowAt dir n) c := by
  have hb := b.isLt
  match dir with
  | 0 =>
    rw [rowAt_zero, ← logit_fwd]
    pointwise [A_main_v25, A_main_v24]
    rw [dif_pos (by simp only [laneOf]; omega)]
    exact congrArg (fun y => A_main_v19 (F := Ideal) a0 a1 a2 a3 a4 a5 (ix3 y n c)) (Fin.ext (by simp [laneOf]))
  | 1 =>
    rw [rowAt_one, ← logit_bwd]
    pointwise [A_main_v25, A_main_v24]
    rw [dif_neg (by simp only [laneOf]; omega)]
    exact congrArg (fun y => A_main_v23 (F := Ideal) a0 a1 a2 a3 a4 a5 (ix3 y n.rev c)) (Fin.ext (by simp [laneOf]))
/-- The queries, stacked. -/
theorem q_lane (hI : (Inputs.of a0 a1 a2 a3 a4 a5 g).Good) (dir : Fin 2) (b : Fin 16) (n : Fin 256) (h : Fin 4) (d : Fin 256) :
    A_main_v34 (F := Ideal) a0 a1 a2 a3 a4 a5 (ix4 (laneOf dir b) n h d)
      = (((Inputs.of a0 a1 a2 a3 a4 a5 g).data b).q dir h n d : EReal) := by
  have hb := b.isLt
  show _ = ((((Inputs.of a0 a1 a2 a3 a4 a5 g).P (Inputs.row b (rowAt dir n)) (Inputs.colQ (colK h d))).toReal * (1 / 16) : ℝ) : EReal)
  match dir with
  | 0 =>
    rw [rowAt_zero, ← q_arr _ _ _ _ _ _ _ hI]
    pointwise [A_main_v34, A_main_v33]
    rw [dif_pos (by simp only [laneOf]; omega)]
    exact congrArg (fun y => A_main_v13 (F := Ideal) a0 a1 a2 a3 a4 a5 (ix4 y n h d)) (Fin.ext (by simp [laneOf]))
  | 1 =>
    rw [rowAt_one, ← q_arr _ _ _ _ _ _ _ hI]
    pointwise [A_main_v34, A_main_v33]
    rw [dif_neg (by simp only [laneOf]; omega)]
    exact congrArg (fun y => A_main_v13 (F := Ideal) a0 a1 a2 a3 a4 a5 (ix4 y n.rev h d)) (Fin.ext (by simp [laneOf]))
/-- The keys, stacked. -/
theorem k_lane (hI : (Inputs.of a0 a1 a2 a3 a4 a5 g).Good) (dir : Fin 2) (b : Fin 16) (n : Fin 256) (h : Fin 4) (d : Fin 256) :
    A_main_v36 (F := Ideal) a0 a1 a2 a3 a4 a5 (ix4 (laneOf dir b) n h d)
      = (((Inputs.of a0 a1 a2 a3 a4 a5 g).data b).k dir h n d : EReal) := by
  have hb := b.isLt
  show _ = (((Inputs.of a0 a1 a2 a3 a4 a5 g).P (Inputs.row b (rowAt dir n)) (Inputs.colKey (colK h d))).toReal : EReal)
  match dir with
  | 0 =>
    rw [rowAt_zero, ← k_arr _ _ _ _ _ _ _ hI]
    pointwise [A_main_v36, A_main_v35]
    rw [dif_pos (by simp only [laneOf]; omega)]
    exact congrArg (fun y => A_main_v14 (F := Ideal) a0 a1 a2 a3 a4 a5 (ix4 y n h d)) (Fin.ext (by simp [laneOf]))
  | 1 =>
    rw [rowAt_one, ← k_arr _ _ _ _ _ _ _ hI]
    pointwise [A_main_v36, A_main_v35]
    rw [dif_neg (by simp only [laneOf]; omega)]
    exact congrArg (fun y => A_main_v14 (F := Ideal) a0 a1 a2 a3 a4 a5 (ix4 y n.rev h d)) (Fin.ext (by simp [laneOf]))
/-- The values, stacked. -/
theorem v_lane (hI : (Inputs.of a0 a1 a2 a3 a4 a5 g).Good) (dir : Fin 2) (b : Fin 16) (n : Fin 256) (h : Fin 4) (e : Fin 512) :
    A_main_v38 (F := Ideal) a0 a1 a2 a3 a4 a5 (ix4 (laneOf dir b) n h e)
      = (((Inputs.of a0 a1 a2 a3 a4 a5 g).data b).v dir h n e : EReal) := by
  have hb := b.isLt
  show _ = (((Inputs.of a0 a1 a2 a3 a4 a5 g).P (Inputs.row b (rowAt dir n)) (Inputs.colVal (colV h e))).toReal : EReal)
  match dir with
  | 0 =>
    rw [rowAt_zero, ← v_arr _ _ _ _ _ _ _ hI]
    pointwise [A_main_v38, A_main_v37]
    rw [dif_pos (by simp only [laneOf]; omega)]
    exact congrArg (fun y => A_main_v15 (F := Ideal) a0 a1 a2 a3 a4 a5 (ix4 y n h e)) (Fin.ext (by simp [laneOf]))
  | 1 =>
    rw [rowAt_one, ← v_arr _ _ _ _ _ _ _ hI]
    pointwise [A_main_v38, A_main_v37]
    rw [dif_neg (by simp only [laneOf]; omega)]
    exact congrArg (fun y => A_main_v15 (F := Ideal) a0 a1 a2 a3 a4 a5 (ix4 y n.rev h e)) (Fin.ext (by simp [laneOf]))
/-- The log gates, stacked. -/
theorem la_lane (hI : (Inputs.of a0 a1 a2 a3 a4 a5 g).Good) (dir : Fin 2) (b : Fin 16) (n : Fin 256) (h : Fin 4) (d : Fin 256) :
    A_main_v31 (F := Ideal) a0 a1 a2 a3 a4 a5 (ix4 (laneOf dir b) n h d)
      = (((Inputs.of a0 a1 a2 a3 a4 a5 g).data b).la dir h n d : EReal) := by
  show _ = (gate ((Inputs.of a0 a1 a2 a3 a4 a5 g).logit dir b (rowAt dir n) (colK h d)) : EReal)
  rw [← gate_softplus _ (hI.ne_bot dir b _ _), ← logit_lane]
  pointwise [A_main_v31, A_main_v30, A_main_v28, A_main_v27, A_main_call1_v11, A_main_call1_v10, A_main_call1_v9,
    A_main_call1_v8, A_main_call1_v7, A_main_call1_v6, A_main_call1_v4, A_main_call1_v3, A_main_call1_v1, A_main_v26,
    K_main_v29, K_main_cst_0, K_main_call1_v0, K_main_call1_v2, K_main_call1_v5, K_main_call1_cst]
  have hc : (⟨(h : ℕ) * 256 + d, by omega⟩ : Fin 1024) = colK h d := Fin.ext (by simp only [colK]; omega)
  rw [if_neg (not_not.2 rfl), lit_sixteen, hc]
  rfl

/-- The first state holds the lanes, with nothing done yet. -/
theorem init_after (hI : (Inputs.of a0 a1 a2 a3 a4 a5 g).Good) :
    After (lane (Inputs.of a0 a1 a2 a3 a4 a5 g)) 0 (init (F := Ideal) a0 a1 a2 a3 a4 a5) where
  q j l h i d := by
    show A_main_v40 (F := Ideal) a0 a1 a2 a3 a4 a5 (ix5 j l h i d) = _
    refine Eq.trans ?_ (q_lane a0 a1 a2 a3 a4 a5 g hI (dirOf l) (batOf l) ⟨32 * j + i, by omega⟩ h d)
    rw [← lane_eq]
    pointwise [A_main_v40, A_main_v39]
    exact congrArg (fun y => A_main_v34 (F := Ideal) a0 a1 a2 a3 a4 a5 (ix4 l y h d)) (Fin.ext (by show (j : ℕ) * 32 + i = 32 * j + i; omega))
  k j l h i d := by
    show A_main_v42 (F := Ideal) a0 a1 a2 a3 a4 a5 (ix5 j l h i d) = _
    refine Eq.trans ?_ (k_lane a0 a1 a2 a3 a4 a5 g hI (dirOf l) (batOf l) ⟨32 * j + i, by omega⟩ h d)
    rw [← lane_eq]
    pointwise [A_main_v42, A_main_v41]
    exact congrArg (fun y => A_main_v36 (F := Ideal) a0 a1 a2 a3 a4 a5 (ix4 l y h d)) (Fin.ext (by show (j : ℕ) * 32 + i = 32 * j + i; omega))
  v j l h i d := by
    show A_main_v44 (F := Ideal) a0 a1 a2 a3 a4 a5 (ix5 j l h i d) = _
    refine Eq.trans ?_ (v_lane a0 a1 a2 a3 a4 a5 g hI (dirOf l) (batOf l) ⟨32 * j + i, by omega⟩ h d)
    rw [← lane_eq]
    pointwise [A_main_v44, A_main_v43]
    exact congrArg (fun y => A_main_v38 (F := Ideal) a0 a1 a2 a3 a4 a5 (ix4 l y h d)) (Fin.ext (by show (j : ℕ) * 32 + i = 32 * j + i; omega))
  c j l h i d := by
    show A_main_v47 (F := Ideal) a0 a1 a2 a3 a4 a5 (ix5 j l h i d) = _
    unfold A_main_v47 cum
    rw [coe_sum]
    refine running_sum _ _ ?_ _ j l h i d fun w => ?_
    · pointwise [K_main_call5_call0_v0, K_main_call5_call0_cst]
    · refine Eq.trans ?_ (la_lane a0 a1 a2 a3 a4 a5 g hI (dirOf l) (batOf l) ⟨32 * j + w, by omega⟩ h d)
      rw [← lane_eq]
      pointwise [A_main_v46, A_main_v45]
      exact congrArg (fun y => A_main_v31 (F := Ideal) a0 a1 a2 a3 a4 a5 (ix4 l y h d)) (Fin.ext (by show (j : ℕ) * 32 + w = 32 * j + w; omega))
  st l h d e := by
    show K_main_v32 (F := Ideal) (ix4 l h d e) = ((0 : ℝ) : EReal)
    pointwise [K_main_v32, K_main_cst_1]
    rfl
  o j _ _ _ _ hj := absurd hj (Nat.not_lt_zero _)

end

end Cert.ReferenceIdeal.Hand
-- ==== Proof.RefRun.lean ====
module
public import proofs.«01_k».proof.Proof.Gen.ReferenceIdeal.Run
public import proofs.«01_k».proof.Proof.Gen.ReferenceIdeal.Step
public import Idealize.ShloMosaic.Lib.StableHlo.RunRead
@[expose] public section
/-!
# The reference's run as trips on a state

What the run carries from trip to trip is the state of the scan, and a trip of the run is a trip on the state.
-/
set_option maxRecDepth 65536
set_option maxHeartbeats 2000000
noncomputable section
namespace Cert.ReferenceIdeal.Hand
open Cert.ReferenceIdeal Cert.ReferenceIdeal.Gen Cert.ReferenceIdeal.Value Cert.ReferenceIdeal.Step Idealize.ShloMosaic
  Idealize.ShloMosaic.TcCoe Idealize.ShloMosaic.StableHlo Idealize.SL.Sem

variable {F : FTy → Type} [FloatOps F]

/-- The carried buffers hold the state `s` and the chunk number `j`. -/
structure At (j : ℕ) (V : Valuation τ sig (Elt F)) (s : State F) : Prop where
  e0 : V (Proc.devRef .tc main_v51_0) = s.main_v51_0
  e1 : V (Proc.devRef .tc main_v51_1) = s.main_v51_1
  e2 : V (Proc.devRef .tc main_v51_2) = s.main_v51_2
  e3 : V (Proc.devRef .tc main_v51_3) = s.main_v51_3
  e4 : V (Proc.devRef .tc main_v51_4) = K_main_v49 (F := F)
  e5 : V (Proc.devRef .tc main_v51_5) = constantI S_ 32 (BitVec.ofNat 32 j)
  e6 : V (Proc.devRef .tc main_v51_6) = s.main_v51_6
  e7 : V (Proc.devRef .tc main_v51_7) = s.main_v51_7

/-- A trip of the run is a trip on the state. -/
theorem At.next {j : ℕ} {V : Valuation τ sig (Elt F)} {s : State F} (A : At j V s) : At (j + 1) (STEP V) (step j s) where
  e0 := (STEP_main_v51_0 V).trans A.e0
  e1 := (STEP_main_v51_1 V).trans A.e1
  e2 := (STEP_main_v51_2 V).trans A.e2
  e3 := (STEP_main_v51_3 V).trans A.e3
  e4 := (STEP_main_v51_4 V).trans A.e4
  e5 := by
    refine (STEP_main_v51_5 V).trans ?_
    unfold Value.step_main_v51_5
    rw [A.e5, BitVec.ofNat_add]
    rfl
  e6 := by
    refine (STEP_main_v51_6 V).trans ?_
    unfold Value.step_main_v51_6 res_main_while0b_v108 res_main_while0b_v83 res_main_while0b_v84 res_main_while0b_v85
    rw [A.e1, A.e2, A.e3, A.e5, A.e6]
    rfl
  e7 := by
    refine (STEP_main_v51_7 V).trans ?_
    unfold Value.step_main_v51_7 res_main_while0b_v82 res_main_while0b_v83 res_main_while0b_v84 res_main_while0b_v85
    rw [A.e0, A.e1, A.e2, A.e3, A.e4, A.e5, A.e6, A.e7]
    rfl

/-- Eight trips of the run are eight trips on the state. -/
theorem At.iterate {V : Valuation τ sig (Elt F)} {s : State F} (A : At 0 V s) :
    At 8 (STEP^[8] V) (step 7 (step 6 (step 5 (step 4 (step 3 (step 2 (step 1 (step 0 s)))))))) :=
  A.next.next.next.next.next.next.next.next

variable (m : (ℓ : Loc nD τ sig) → Buf (Elt F) ℓ) (c : Dev nD)

/-- The state that the run enters its loop with. -/
theorem entry_at : At 0 (entryContents preI m c)
    (init (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) where
  e0 := by (simp only [entryContents, afterL_cons, afterL_nil]; after_reads_simp) <;> rfl
  e1 := by (simp only [entryContents, afterL_cons, afterL_nil]; after_reads_simp) <;> rfl
  e2 := by (simp only [entryContents, afterL_cons, afterL_nil]; after_reads_simp) <;> rfl
  e3 := by (simp only [entryContents, afterL_cons, afterL_nil]; after_reads_simp) <;> rfl
  e4 := by (simp only [entryContents, afterL_cons, afterL_nil]; after_reads_simp) <;> rfl
  e5 := ctr_entry m c
  e6 := by (simp only [entryContents, afterL_cons, afterL_nil]; after_reads_simp) <;> rfl
  e7 := by (simp only [entryContents, afterL_cons, afterL_nil]; after_reads_simp) <;> rfl

end Cert.ReferenceIdeal.Hand
-- ==== Proof.RefValue.lean ====
module
public import proofs.«01_k».proof.Proof.RefEntry
public import proofs.«01_k».proof.Proof.RefRun
@[expose] public section
/-!
# The reference's three results

After eight chunks the scan's state holds every output and the last states; the results are read from it.
-/
set_option maxRecDepth 16384
noncomputable section
namespace Cert.ReferenceIdeal.Hand
open Cert.ReferenceIdeal Cert.ReferenceIdeal.Gen Cert.ReferenceIdeal.Value Cert.ReferenceIdeal.Step Cert.Gla
  Cert.KernelIdeal.Hand Idealize.ShloMosaic Idealize.ShloMosaic.TcCoe Idealize.ShloMosaic.StableHlo Idealize.SL.Sem

/-- The scan's last state. -/
def last (s : State Ideal) : State Ideal := step 7 (step 6 (step 5 (step 4 (step 3 (step 2 (step 1 (step 0 s)))))))

/-- Eight trips take the recurrence through all 256 steps. -/
theorem last_after {L : Fin 32 → Lane} (hla : ∀ b h n d, (L b).la h n d ≤ 0) {s : State Ideal} (A : After L 0 s) : After L 8 (last s) :=
  .step hla 7 (.step hla 6 (.step hla 5 (.step hla 4 (.step hla 3 (.step hla 2 (.step hla 1 (.step hla 0 A)))))))

variable {I : Inputs} {s : State Ideal} (A : After (lane I) 8 s)
include A

/-- The output of lane, head, value column at time `n`, in its chunk's row. -/
theorem o_at (dir : Fin 2) (b : Fin 16) (h : Fin 4) (e : Fin 512) (n : Fin 256) :
    s.main_v51_7 (ix5 ⟨n / 32, by omega⟩ (laneOf dir b) h ⟨n % 32, by omega⟩ e) = ((I.data b).o dir h e n : EReal) := by
  rw [A.o ⟨n / 32, by omega⟩ _ _ _ _ (by show (n : ℕ) / 32 < 8; omega), lane_o,
    show 32 * ((⟨n / 32, by omega⟩ : Fin 8) : ℕ) + ((⟨n % 32, by omega⟩ : Fin 32) : ℕ) = n from Nat.div_add_mod _ _]

theorem states_fwd (b : Fin 16) (h : Fin 4) (d : Fin 256) (e : Fin 512) :
    R_main_v80 (F := Ideal) s (ix4 b h d e) = I.states 0 b h d e := by
  refine Eq.trans ?_ ((A.st (laneOf 0 b) h d e).trans (congrArg _ (lane_st I 0 b h e 256 d)))
  pointwise [R_main_v80]
  exact congrArg (fun y => s.main_v51_6 (ix4 y h d e)) (Fin.ext (by simp [laneOf]))
theorem states_bwd (b : Fin 16) (h : Fin 4) (d : Fin 256) (e : Fin 512) :
    R_main_v81 (F := Ideal) s (ix4 b h d e) = I.states 1 b h d e := by
  refine Eq.trans ?_ ((A.st (laneOf 1 b) h d e).trans (congrArg _ (lane_st I 1 b h e 256 d)))
  pointwise [R_main_v81]
  exact congrArg (fun y => s.main_v51_6 (ix4 y h d e)) (Fin.ext (by simp [laneOf]))

theorem attn_at (a0 : S6144x6144.Idx → EReal) (a6 : S2048.Idx → EReal) (hP : ∀ i j, a0 (ix2 i j) = I.P i j)
    (hg : ∀ j, a6 (ix1 j) = I.g j) (b : Fin 16) (r : Fin 256) (h : Fin 4) (e : Fin 512) :
    R_main_v79 (F := Ideal) s a0 a6 (ix2 ⟨256 * b + r, by omega⟩ (colV h e)) = I.attn b r h e := by
  have hf : ∀ x, s.main_v51_7 (ix5 ⟨r / 32, by omega⟩ ⟨b, by omega⟩ h ⟨r % 32, by omega⟩ x)
      = ((I.data b).o 0 h x (timeAt 0 r) : EReal) := fun x =>
    (congrArg (fun y => s.main_v51_7 (ix5 ⟨r / 32, by omega⟩ y h ⟨r % 32, by omega⟩ x)) (Fin.ext (by simp [laneOf]))).trans
      (o_at A 0 b h x r)
  have hb : ∀ x, s.main_v51_7 (ix5 ⟨r.rev / 32, by omega⟩ ⟨16 + b, by omega⟩ h ⟨r.rev % 32, by omega⟩ x)
      = ((I.data b).o 1 h x (timeAt 1 r) : EReal) := fun x =>
    ((congrArg (fun y => s.main_v51_7 (ix5 ⟨r.rev / 32, by omega⟩ y h ⟨r.rev % 32, by omega⟩ x)) (Fin.ext (by simp [laneOf]))).trans
      (o_at A 1 b h x r.rev)).trans (congrArg (fun n => (((I.data b).o 1 h x n : ℝ) : EReal))
        (show ((r.rev : Fin 256) : ℕ) = 255 - (r : ℕ) by rw [Fin.val_rev]; omega))
  have hr : a0 (ix2 ⟨(b : ℕ) * 256 + r, by omega⟩ ⟨4096 + (512 * (h : ℕ) + e), by omega⟩)
      = I.P (Inputs.row b r) (Inputs.colR (colV h e)) := by
    rw [hP]
    exact congrArg₂ I.P (Fin.ext (by simp only [Inputs.row]; omega)) (Fin.ext (by simp only [Inputs.colR, colV]))
  have hgg : a6 (ix1 ⟨(h : ℕ) * 512 + e, by omega⟩) = I.g (colV h e) := by
    rw [hg]
    exact congrArg I.g (Fin.ext (by simp only [colV]; omega))
  unfold colV at hr hgg ⊢
  pointwise [R_main_v79]
  have hx : ∀ x, (s.main_v51_7 (ix5 ⟨r / 32, by omega⟩ ⟨b, by omega⟩ h ⟨r % 32, by omega⟩ x)
      + s.main_v51_7 (ix5 ⟨r.rev / 32, by omega⟩ ⟨16 + b, by omega⟩ h ⟨r.rev % 32, by omega⟩ x))
      = ((I.data b).o 0 h x (timeAt 0 r) : EReal) + ((I.data b).o 1 h x (timeAt 1 r) : EReal) := fun x =>
    congrArg₂ (· + ·) (hf x) (hb x)
  have step : ∀ (u u' g g' q q' : EReal) (v v' : Fin 512 → EReal), u = u' → g = g' → q = q' → (∀ x, v x = v' x) →
      u * Ideal.rsqrt (Ideal.div (∑ x, v x * v x) (Ideal.ofBits FTy.f32 1140850688#32) + Ideal.ofBits FTy.f32 897988541#32)
        * g * (q * Ideal.div 1 (1 + Ideal.exp (-q)))
      = u' * Ideal.rsqrt (Ideal.div (∑ x, v' x * v' x) (Ideal.ofBits FTy.f32 1140850688#32) + Ideal.ofBits FTy.f32 897988541#32)
        * g' * (q' * Ideal.div 1 (1 + Ideal.exp (-q'))) := by
    rintro u _ g _ q _ v v' rfl rfl rfl h
    rw [funext h]
  exact step _ _ _ _ _ _ _ _ (hx e) hgg hr hx

end Cert.ReferenceIdeal.Hand
-- ==== Proof.RefResult.lean ====
module
public import proofs.«01_k».proof.Proof.RefValue
public import proofs.«01_k».proof.Proof.RefRun
public import proofs.«01_k».proof.Proof.KernelValue
@[expose] public section
/-!
# The reference's three results

The reference's run ends with the same three arrays as the kernel's: the outputs and the last states of both directions.
-/
set_option maxRecDepth 65536
noncomputable section
namespace Cert.ReferenceIdeal.Hand
open Cert.ReferenceIdeal Cert.ReferenceIdeal.Gen Cert.ReferenceIdeal.Value Cert.ReferenceIdeal.Step Cert.Gla Idealize.ShloMosaic
  Idealize.ShloMosaic.TcCoe Idealize.ShloMosaic.StableHlo Idealize.SL.Sem

variable (m : (ℓ : Loc nD τ sig) → Buf (Elt Ideal) ℓ) (c : Dev nD)

/-- The reference's arguments. -/
def inputs : Inputs :=
  .of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The state that the loop ends with. -/
def lastOf : State Ideal :=
  last (init (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))

/-- The loop's last state holds all 256 steps of the recurrence in every lane. -/
theorem lastOf_after (hI : (inputs m c).Good) : After (lane (inputs m c)) 8 (lastOf m c) :=
  last_after (fun L h n d => hI.la_le _ _ _ _ _) (init_after _ _ _ _ _ _ _ hI)

/-- The carried buffers at the loop's end. -/
theorem end_at : At 8 (STEP^[8] (entryContents preI m c)) (lastOf m c) := (entry_at m c).iterate

/-- The outputs. -/
theorem result_v79 (hI : (inputs m c).Good) :
    out_main_v79 (STEP^[8] (entryContents preI m c)) = Cert.KernelIdeal.Hand.attnArr (inputs m c) := by
  have e : out_main_v79 (STEP^[8] (entryContents preI m c))
      = R_main_v79 (lastOf m c) (m ((c : Thread nD τ).loc main_arg0)) (m ((c : Thread nD τ).loc main_arg6)) := by
    unfold out_main_v79
    rw [(end_at m c).e7, iter_main_arg0, iter_main_arg6]
    rfl
  rw [e]
  funext i
  obtain ⟨b, r, hi⟩ := Cert.KernelIdeal.Hand.row_split (i 0)
  obtain ⟨h, x, hj⟩ := Cert.KernelIdeal.Hand.col_split (i 1)
  have hidx : i = ix2 ⟨256 * b + r, by omega⟩ (Cert.KernelIdeal.Hand.colV h x) := by
    rw [eq_ix2 i, hi, hj]
  rw [hidx]
  exact (attn_at (lastOf_after m c hI) _ _ (fun _ _ => rfl) (fun _ => rfl) b r h x).trans
    (Cert.KernelIdeal.Hand.attnArr_at _ b r h x).symm

/-- The forward last states. -/
theorem result_v80 (hI : (inputs m c).Good) :
    out_main_v80 (STEP^[8] (entryContents preI m c)) = Cert.KernelIdeal.Hand.statesArr (inputs m c) 0 := by
  unfold out_main_v80
  rw [(end_at m c).e6]
  funext i
  exact (congrArg (R_main_v80 (lastOf m c)) (eq_ix4 i)).trans (states_fwd (lastOf_after m c hI) _ _ _ _)

/-- The backward last states. -/
theorem result_v81 (hI : (inputs m c).Good) :
    out_main_v81 (STEP^[8] (entryContents preI m c)) = Cert.KernelIdeal.Hand.statesArr (inputs m c) 1 := by
  unfold out_main_v81
  rw [(end_at m c).e6]
  funext i
  exact (congrArg (R_main_v81 (lastOf m c)) (eq_ix4 i)).trans (states_bwd (lastOf_after m c hI) _ _ _ _)

end Cert.ReferenceIdeal.Hand
-- ==== Proof.Precondition.lean ====
module
public import proofs.«01_k».proof.Proof.Spec
public import proofs.«01_k».proof.Pre_gates_bounded
public import Idealize.ShloMosaic.Lib.Pointwise
@[expose] public section
/-!
# What the precondition says

The three masks of the precondition are all ones exactly when queries, keys and values are finite and the gate logits
are at least −14.
-/
set_option maxRecDepth 16384
noncomputable section
namespace Cert.Gla
open Cert.Pre_gates_bounded Idealize.ShloMosaic

/-- The shape relations that the precondition states. -/
theorem pre_facts : Cert.Pre_gates_bounded.Facts := by
  constructor <;> decide

theorem of_ofBool {p : Prop} [Decidable p] (h : BitVec.ofBool (decide p) = 1#1) : p := by
  by_contra hp
  rw [decide_eq_false hp] at h
  exact absurd h (by decide)

variable [Cert.Pre_gates_bounded.Facts] {a0 : S6144x6144.Idx → EReal} {a1 : S6144x128.Idx → EReal} {a2 : S16x1024.Idx → EReal}
  {a3 : S1024.Idx → EReal} {a4 : S16x1024.Idx → EReal} {a5 : S1024.Idx → EReal} {a6 : S2048.Idx → EReal}

theorem pre_finite (h : (fn (F := Ideal) a0 a1 a2 a3 a4 a5 a6).1 = fun _ => 1#1) (i j : Fin 4096) :
    a0 (ix2 ⟨i, by omega⟩ ⟨j, by omega⟩) ≠ ⊤ ∧ a0 (ix2 ⟨i, by omega⟩ ⟨j, by omega⟩) ≠ ⊥ := by
  have e : (fn (F := Ideal) a0 a1 a2 a3 a4 a5 a6).1 (ix2 i j) = BitVec.ofBool (decide
      (max (a0 (ix2 ⟨i, by omega⟩ ⟨j, by omega⟩)) (-a0 (ix2 ⟨i, by omega⟩ ⟨j, by omega⟩)) < Ideal.ofBits FTy.f32 2139095040#32)) := by
    pointwise [fn]
    rfl
  have hlt := of_ofBool (e.symm.trans (congrFun h (ix2 i j)))
  rw [lit_inf] at hlt
  constructor <;> intro hh <;> rw [hh] at hlt <;> simp at hlt

theorem pre_fwd (h : (fn (F := Ideal) a0 a1 a2 a3 a4 a5 a6).2.1 = fun _ => 1#1) (i : Fin 4096) (j : Fin 1024) :
    ((-14 : ℝ) : EReal) ≤ (∑ x : Fin 16, a1 (ix2 ⟨i, by omega⟩ ⟨x, by omega⟩) * a2 (ix2 x j)) + a3 (ix1 j) := by
  have e : (fn (F := Ideal) a0 a1 a2 a3 a4 a5 a6).2.1 (ix2 i j) = BitVec.ofBool (decide
      (Ideal.ofBits FTy.f32 3244294144#32 ≤ (∑ x : Fin 16, a1 (ix2 ⟨i, by omega⟩ ⟨x, by omega⟩) * a2 (ix2 x j)) + a3 (ix1 j))) := by
    pointwise [fn]
  have hlt := of_ofBool (e.symm.trans (congrFun h (ix2 i j)))
  rwa [lit_neg_fourteen] at hlt

theorem pre_bwd (h : (fn (F := Ideal) a0 a1 a2 a3 a4 a5 a6).2.2 = fun _ => 1#1) (i : Fin 4096) (j : Fin 1024) :
    ((-14 : ℝ) : EReal) ≤ (∑ x : Fin 16, a1 (ix2 ⟨i, by omega⟩ ⟨16 + x, by omega⟩) * a4 (ix2 x j)) + a5 (ix1 j) := by
  have e : (fn (F := Ideal) a0 a1 a2 a3 a4 a5 a6).2.2 (ix2 i j) = BitVec.ofBool (decide
      (Ideal.ofBits FTy.f32 3244294144#32 ≤ (∑ x : Fin 16, a1 (ix2 ⟨i, by omega⟩ ⟨16 + x, by omega⟩) * a4 (ix2 x j)) + a5 (ix1 j))) := by
    pointwise [fn]
  have hlt := of_ofBool (e.symm.trans (congrFun h (ix2 i j)))
  rwa [lit_neg_fourteen] at hlt

/-- The precondition, read. -/
theorem pre_good (h : (fn (F := Ideal) a0 a1 a2 a3 a4 a5 a6).1 = fun _ => 1#1)
    (h' : (fn (F := Ideal) a0 a1 a2 a3 a4 a5 a6).2.1 = fun _ => 1#1)
    (h'' : (fn (F := Ideal) a0 a1 a2 a3 a4 a5 a6).2.2 = fun _ => 1#1) : (Inputs.of a0 a1 a2 a3 a4 a5 a6).Good where
  finite b r c := pre_finite h ⟨256 * b + r, by omega⟩ c
  logits dir b r c := by
    match dir with
    | 0 =>
      refine (pre_fwd h' ⟨256 * b + r, by omega⟩ c).trans (le_of_eq ?_)
      refine congrArg (· + a3 (ix1 c)) (Finset.sum_congr rfl fun s _ => congrArg (fun y => a1 (ix2 _ y) * a2 (ix2 s c)) ?_)
      exact Fin.ext (by simp [Inputs.colG])
    | 1 =>
      refine (pre_bwd h'' ⟨256 * b + r, by omega⟩ c).trans (le_of_eq ?_)
      refine congrArg (· + a5 (ix1 c)) (Finset.sum_congr rfl fun s _ => congrArg (fun y => a1 (ix2 _ y) * a4 (ix2 s c)) ?_)
      exact Fin.ext (by simp [Inputs.colG])

end Cert.Gla
-- ==== Proof.QkvrValue.lean ====
module
public import proofs.«01_k».proof.Proof.Gen.QkvrIdeal.Value
public import Idealize.ShloMosaic.Lib.Pipeline.ValueKit
public import Idealize.ShloMosaic.Lib.Pointwise
public import Idealize.ShloMosaic.Lib.StableHlo.RunRead
@[expose] public section
/-!
# The projection to queries, keys, values and output gate

A grid point multiplies 1024 rows of the activations by 512 rows of the transposed weights; all 72 together give the product
of the activations and the weights' first 6144 columns.
-/
set_option maxRecDepth 65536
set_option maxHeartbeats 1000000
noncomputable section
namespace Cert.QkvrIdeal.Hand
open Cert.QkvrIdeal Cert.QkvrIdeal.Gen Idealize.ShloMosaic Idealize.ShloMosaic.TcCoe Idealize.SL.Sem

variable (m : (ℓ : Loc nD τ sig) → Buf (Elt Ideal) ℓ) (c : Dev nD)

/-- The activations on device `c`. -/
def acts (i : Fin 6144) (k : Fin 4096) : EReal := m ((c : Thread nD τ).loc main_arg0) (ix2 i k)
/-- The weights on device `c`. -/
def weights (k : Fin 4096) (j : Fin 8224) : EReal := m ((c : Thread nD τ).loc main_arg1) (ix2 k j)

/-- The product of activations and weights at columns 0 to 6143. -/
def product : FVec Ideal S6144x6144 .bf16 := fun i =>
  ∑ k, acts m c (i 0) k * weights m c k ⟨i 1, Nat.lt_of_lt_of_le (i 1).2 (by decide)⟩

/-- The row tile of a grid point. -/
def rowT (t : Fin cfg0.N) : Fin 6 := grid0.coords t 0
/-- The column tile of a grid point. -/
def colT (t : Fin cfg0.N) : Fin 12 := grid0.coords t 1

/-- The tiles that a grid point reads and writes, in the units of the windows. -/
theorem idx : ∀ t : Fin cfg0.N, win0_0.index t = ![(rowT t : ℕ), 0] ∧ win0_2.index t = ![(rowT t : ℕ), (colT t : ℕ)]
    ∧ cc0_transform_1 (grid0.coords t) = ![512 * (colT t : ℕ), 0] :=
  (by decide +kernel : ∀ t : Fin grid0.N, _)

/-- Where an element of the activations' block lies. -/
theorem emb0 (t : Fin cfg0.N) (r : Fin 1024) (k : Fin 4096) :
    (win0_0.blk t).view.emb (ix2 r k) = (ix2 ⟨1024 * rowT t + r, by omega⟩ k : S6144x4096.Idx) := by
  blk_ext [(idx t).1]
/-- Where an element of the result's block lies. -/
theorem emb2 (t : Fin cfg0.N) (r : Fin 1024) (s : Fin 512) :
    (win0_2.blk t).view.emb (ix2 r s) = (ix2 ⟨1024 * rowT t + r, by omega⟩ ⟨512 * colT t + s, by omega⟩ : S6144x6144.Idx) := by
  blk_ext [(idx t).2.1]
/-- An element of the weights' block lies at the block's offsets. -/
theorem emb1_val (t : Fin cfg0.N) (y : S512x4096.Idx) (a : Fin 2) :
    (((win0_1.blk t).view.emb y : S8224x4096.Idx) a : ℕ) = cc0_transform_1 (grid0.coords t) a + (y a : ℕ) := by
  show cc0_transform_1 (grid0.coords t) a + 1 * (y a : ℕ) = _
  omega
/-- Where an element of the weights' block lies. -/
theorem emb1 (t : Fin cfg0.N) (s : Fin 512) (k : Fin 4096) :
    (win0_1.blk t).view.emb (ix2 s k) = (ix2 ⟨512 * colT t + s, by omega⟩ k : S8224x4096.Idx) := by
  funext a
  refine Fin.ext ((emb1_val t (ix2 s k) a).trans ?_)
  rw [(idx t).2.2]
  match a with
  | 0 => rfl
  | 1 => exact Nat.zero_add _

/-- The activations' array is the argument. -/
theorem V_arg0 : V m c main_arg0 = m ((c : Thread nD τ).loc main_arg0) := by
  unfold V
  after_reads_simp
/-- The weights' array is the argument, transposed. -/
theorem V_v0 (j : Fin 8224) (k : Fin 4096) :
    (V m c main_v0 : FVec Ideal S8224x4096 .f32) (ix2 j k) = weights m c k j := by
  have : V m c main_v0 = (transpose S8224x4096 [1, 0] (m ((c : Thread nD τ).loc main_arg1) : FVec Ideal S4096x8224 .f32)
      transposes_S4096x8224_S8224x4096_1_0 : FVec Ideal S8224x4096 .f32) := by
    unfold V
    after_reads_simp
  rw [this]
  pointwise
  rfl

/-- The activations' block. -/
theorem iblk0 (t : Fin cfg0.N) (r : Fin 1024) (k : Fin 4096) :
    (iblk m c 0 t : FVec Ideal S1024x4096 .bf16) (ix2 r k) = acts m c ⟨1024 * rowT t + r, by omega⟩ k := by
  blk_simp [iblk]
  rw [V_arg0]
  exact congrArg (m ((c : Thread nD τ).loc main_arg0)) (emb0 t r k)
/-- The weights' block. -/
theorem iblk1 (t : Fin cfg0.N) (s : Fin 512) (k : Fin 4096) :
    (iblk m c 1 t : FVec Ideal S512x4096 .f32) (ix2 s k) = weights m c k ⟨512 * colT t + s, by omega⟩ :=
  (congrArg (V m c main_v0 : FVec Ideal S8224x4096 .f32) (emb1 t s k)).trans (V_v0 m c _ k)

/-- What a grid point's body writes: the product of its blocks. -/
theorem body {x0 : FVec Ideal S1024x4096 .bf16} {x1 : FVec Ideal S512x4096 .f32} {A : Fin 1024 → Fin 4096 → EReal}
    {W : Fin 4096 → Fin 512 → EReal} (h0 : ∀ r k, x0 (ix2 r k) = A r k) (h1 : ∀ s k, x1 (ix2 s k) = W k s)
    (r : Fin 1024) (s : Fin 512) : out0_2 (F := Ideal) x0 x1 (ix2 r s) = ∑ k, A r k * W k s := by
  have e : out0_2 (F := Ideal) x0 x1 (ix2 r s) = ∑ k, (x0 (ix2 r k) : EReal) * (x1 (ix2 s k) : EReal) := by
    frame_out
    pointwise [k0_pay1]
  refine e.trans (Finset.sum_congr rfl fun k _ => ?_)
  rw [h0, h1]

/-- The activations' block, as an array. -/
def blockA (t : Fin cfg0.N) : FVec Ideal S1024x4096 .bf16 := iblk m c 0 t
/-- The weights' block, as an array. -/
def blockW (t : Fin cfg0.N) : FVec Ideal S512x4096 .f32 := iblk m c 1 t

/-- A grid point leaves its tile of the product. -/
theorem left (t : Fin cfg0.N) (r : Fin 1024) (s : Fin 512) :
    out0_2 (F := Ideal) (blockA m c t) (blockW m c t) (ix2 r s)
      = ∑ k, acts m c ⟨1024 * rowT t + r, by omega⟩ k * weights m c k ⟨512 * colT t + s, by omega⟩ :=
  body (x0 := blockA m c t) (x1 := blockW m c t) (A := fun r => acts m c ⟨1024 * rowT t + r, by omega⟩) (W := fun k s => weights m c k ⟨512 * colT t + s, by omega⟩)
    (iblk0 m c t) (iblk1 m c t) r s

/-- A block's index has a row and a column. -/
theorem split (y : S1024x512.Idx) : ∃ (r : Fin 1024) (s : Fin 512), y = (ix2 r s : S1024x512.Idx) := ⟨y 0, y 1, eq_ix2 y⟩

/-- A grid point's tile lies at its place in the product. -/
theorem place (t : Fin cfg0.N) (y : S1024x512.Idx) :
    out0_2 (F := Ideal) (blockA m c t) (blockW m c t) y = product m c ((win0_2.blk t).view.emb y) := by
  obtain ⟨r, s, rfl⟩ := split y
  have hG : product m c ((win0_2.blk t).view.emb (ix2 r s))
      = ∑ k, acts m c ⟨1024 * rowT t + r, by omega⟩ k * weights m c k ⟨512 * colT t + s, by omega⟩ := by
    rw [emb2]
    rfl
  exact (left m c t r s).trans hG.symm

/-- After the run the result's array is the product. -/
theorem final : (dats m 0 c).arrAt 2 cfg0.N = product m c := by
  refine (dats m 0 c).arrAt_eq_of_covers 2 (product m c) (by decide +kernel) fun t hf y => ?_
  rw [after0_2]
  blk_simp
  exact place m c t y

end Cert.QkvrIdeal.Hand
-- ==== Proof.QkvrResult.lean ====
module
public import proofs.«01_k».proof.Defs
public import proofs.«01_k».proof.Proof.Gen.Qkvr.Frame
public import proofs.«01_k».proof.Proof.Gen.QkvrIdeal.Frame
public import proofs.«01_k».proof.Proof.Gen.QkvrReferenceIdeal.Run
public import proofs.«01_k».proof.Proof.QkvrValue
public import Idealize.ShloMosaic.Lib.Quiescent
public import Idealize.ShloMosaic.Adequacy
public import Idealize.ShloMosaic.Init
@[expose] public section
/-!
# The claims of the projection to queries, keys, values and output gate

The reference multiplies the activations by all the weights and takes columns 0 to 6143; an element of its
result is the same sum of products as in the kernel's.
-/
set_option maxRecDepth 65536
set_option maxHeartbeats 1000000
noncomputable section
namespace Cert.Qkvr.Hand
open Idealize.ShloMosaic Idealize.ShloMosaic.TcCoe Idealize.SL.Sem

/-- The reference's result in terms of its arguments: at each element a sum of products. -/
theorem reference_at (a : FVec Ideal Cert.QkvrReferenceIdeal.S6144x4096 .bf16) (w : FVec Ideal Cert.QkvrReferenceIdeal.S4096x8224 .f32)
    (i : Fin 6144) (j : Fin 6144) :
    (truncf .bf16 (extractStridedSlice Cert.QkvrReferenceIdeal.S6144x6144 ![0, 0] (Host.dotGeneral (F := Ideal)
      Cert.QkvrReferenceIdeal.dot_S6144x4096_S4096x8224_S6144x8224_1_0_0_1_n_n none
      (extf .f32 a Cert.QkvrReferenceIdeal.Gen.facts.bitsLt_bf16_f32) w) Cert.QkvrReferenceIdeal.Gen.facts.slices_S6144x8224_S6144x6144_0_0)
      Cert.QkvrReferenceIdeal.Gen.facts.bitsLt_bf16_f32 : FVec Ideal Cert.QkvrReferenceIdeal.S6144x6144 .bf16) (ix2 i j)
      = ∑ k, (a (ix2 i k) : EReal) * (w (ix2 k ⟨j, by omega⟩) : EReal) := by
  pointwise

/-- From equal arguments the reference ends with the kernel's product. -/
theorem reference_product (m : (ℓ : Loc Cert.QkvrIdeal.nD Cert.QkvrIdeal.τ Cert.QkvrIdeal.sig) → Buf (Elt Ideal) ℓ) (c : Dev Cert.QkvrIdeal.nD)
    {a : FVec Ideal Cert.QkvrReferenceIdeal.S6144x4096 .bf16} {w : FVec Ideal Cert.QkvrReferenceIdeal.S4096x8224 .f32}
    (ha : a = m ((c : Thread Cert.QkvrIdeal.nD Cert.QkvrIdeal.τ).loc Cert.QkvrIdeal.main_arg0))
    (hw : w = m ((c : Thread Cert.QkvrIdeal.nD Cert.QkvrIdeal.τ).loc Cert.QkvrIdeal.main_arg1)) :
    (truncf .bf16 (extractStridedSlice Cert.QkvrReferenceIdeal.S6144x6144 ![0, 0] (Host.dotGeneral (F := Ideal)
      Cert.QkvrReferenceIdeal.dot_S6144x4096_S4096x8224_S6144x8224_1_0_0_1_n_n none
      (extf .f32 a Cert.QkvrReferenceIdeal.Gen.facts.bitsLt_bf16_f32) w) Cert.QkvrReferenceIdeal.Gen.facts.slices_S6144x8224_S6144x6144_0_0)
      Cert.QkvrReferenceIdeal.Gen.facts.bitsLt_bf16_f32 : FVec Ideal Cert.QkvrReferenceIdeal.S6144x6144 .bf16)
      = Cert.QkvrIdeal.Hand.product m c := by
  funext y
  obtain ⟨i, j, rfl⟩ : ∃ (i : Fin 6144) (j : Fin 6144), y = (ix2 i j : Cert.QkvrReferenceIdeal.S6144x6144.Idx) := ⟨y 0, y 1, eq_ix2 y⟩
  rw [reference_at, ha, hw]
  rfl

/-- The reference runs to an end, keeps its arguments and leaves every semaphore at zero. -/
theorem reference_frame : Cert.quiescent_QkvrReferenceIdeal := fun m g _ =>
  (θ_run _ _ _).mono (fun r h => ⟨fun c => (h c).2, Idealize.ShloMosaic.sem_eq_zero_of_no_sems (by decide) r.2⟩)
    (Cert.QkvrReferenceIdeal.Value.run (F := Ideal) m g)

/-- The kernel and the reference end with equal results. -/
theorem algebraic : Cert.algebraic_QkvrIdeal_QkvrReferenceIdeal := by
  intro m g m' g' _ hargs
  refine ⟨fun c => Cert.QkvrIdeal.Hand.product m c, ?_, ?_⟩
  · refine (θ_run _ _ _).mono (fun r h c => ?_) (Cert.QkvrIdeal.Value.run_blocks m g)
    exact ⟨(h c).1.trans (Cert.QkvrIdeal.Hand.final m c), (h c).2⟩
  · refine (θ_run _ _ _).mono (fun r h c => ?_) (Cert.QkvrReferenceIdeal.Value.run m' g')
    exact ⟨(h c).1.trans (reference_product m c (hargs c).1 (hargs c).2), (h c).2⟩

end Cert.Qkvr.Hand
-- ==== Proof.FourierValue.lean ====
module
public import proofs.«01_k».proof.Proof.Gen.FourierIdeal.Value
public import Idealize.ShloMosaic.Lib.Pipeline.ValueKit
public import Idealize.ShloMosaic.Lib.Pointwise
public import Idealize.ShloMosaic.Lib.StableHlo.RunRead
@[expose] public section
/-!
# The projection to the Fourier branch

A grid point multiplies 1024 rows of the activations by 512 rows of the transposed weights, from row 6176 on; all 24 together
give the product of the activations and the weights' last 2048 columns.
-/
set_option maxRecDepth 65536
set_option maxHeartbeats 1000000
noncomputable section
namespace Cert.FourierIdeal.Hand
open Cert.FourierIdeal Cert.FourierIdeal.Gen Idealize.ShloMosaic Idealize.ShloMosaic.TcCoe Idealize.SL.Sem

variable (m : (ℓ : Loc nD τ sig) → Buf (Elt Ideal) ℓ) (c : Dev nD)

/-- The activations on device `c`. -/
def acts (i : Fin 6144) (k : Fin 4096) : EReal := m ((c : Thread nD τ).loc main_arg0) (ix2 i k)
/-- The weights on device `c`. -/
def weights (k : Fin 4096) (j : Fin 8224) : EReal := m ((c : Thread nD τ).loc main_arg1) (ix2 k j)

/-- The product of activations and weights at columns 6176 to 8223. -/
def product : FVec Ideal S6144x2048 .bf16 := fun i =>
  ∑ k, acts m c (i 0) k * weights m c k ⟨6176 + (i 1 : ℕ), Nat.add_lt_add_left (i 1).2 6176⟩

/-- The row tile of a grid point. -/
def rowT (t : Fin cfg0.N) : Fin 6 := grid0.coords t 0
/-- The column tile of a grid point. -/
def colT (t : Fin cfg0.N) : Fin 4 := grid0.coords t 1

/-- The tiles that a grid point reads and writes, in the units of the windows. -/
theorem idx : ∀ t : Fin cfg0.N, win0_0.index t = ![(rowT t : ℕ), 0] ∧ win0_2.index t = ![(rowT t : ℕ), (colT t : ℕ)]
    ∧ cc0_transform_1 (grid0.coords t) = ![6176 + 512 * (colT t : ℕ), 0] :=
  (by decide +kernel : ∀ t : Fin grid0.N, _)

/-- Where an element of the activations' block lies. -/
theorem emb0 (t : Fin cfg0.N) (r : Fin 1024) (k : Fin 4096) :
    (win0_0.blk t).view.emb (ix2 r k) = (ix2 ⟨1024 * rowT t + r, by omega⟩ k : S6144x4096.Idx) := by
  blk_ext [(idx t).1]
/-- Where an element of the result's block lies. -/
theorem emb2 (t : Fin cfg0.N) (r : Fin 1024) (s : Fin 512) :
    (win0_2.blk t).view.emb (ix2 r s) = (ix2 ⟨1024 * rowT t + r, by omega⟩ ⟨512 * colT t + s, by omega⟩ : S6144x2048.Idx) := by
  blk_ext [(idx t).2.1]
/-- An element of the weights' block lies at the block's offsets. -/
theorem emb1_val (t : Fin cfg0.N) (y : S512x4096.Idx) (a : Fin 2) :
    (((win0_1.blk t).view.emb y : S8224x4096.Idx) a : ℕ) = cc0_transform_1 (grid0.coords t) a + (y a : ℕ) := by
  show cc0_transform_1 (grid0.coords t) a + 1 * (y a : ℕ) = _
  omega
/-- Where an element of the weights' block lies. -/
theorem emb1 (t : Fin cfg0.N) (s : Fin 512) (k : Fin 4096) :
    (win0_1.blk t).view.emb (ix2 s k) = (ix2 ⟨6176 + (512 * colT t + s), by omega⟩ k : S8224x4096.Idx) := by
  funext a
  refine Fin.ext ((emb1_val t (ix2 s k) a).trans ?_)
  rw [(idx t).2.2]
  match a with
  | 0 => exact Nat.add_assoc _ _ _
  | 1 => exact Nat.zero_add _

/-- The activations' array is the argument. -/
theorem V_arg0 : V m c main_arg0 = m ((c : Thread nD τ).loc main_arg0) := by
  unfold V
  after_reads_simp
/-- The weights' array is the argument, transposed. -/
theorem V_v0 (j : Fin 8224) (k : Fin 4096) :
    (V m c main_v0 : FVec Ideal S8224x4096 .f32) (ix2 j k) = weights m c k j := by
  have : V m c main_v0 = (transpose S8224x4096 [1, 0] (m ((c : Thread nD τ).loc main_arg1) : FVec Ideal S4096x8224 .f32)
      transposes_S4096x8224_S8224x4096_1_0 : FVec Ideal S8224x4096 .f32) := by
    unfold V
    after_reads_simp
  rw [this]
  pointwise
  rfl

/-- The activations' block. -/
theorem iblk0 (t : Fin cfg0.N) (r : Fin 1024) (k : Fin 4096) :
    (iblk m c 0 t : FVec Ideal S1024x4096 .bf16) (ix2 r k) = acts m c ⟨1024 * rowT t + r, by omega⟩ k := by
  blk_simp [iblk]
  rw [V_arg0]
  exact congrArg (m ((c : Thread nD τ).loc main_arg0)) (emb0 t r k)
/-- The weights' block. -/
theorem iblk1 (t : Fin cfg0.N) (s : Fin 512) (k : Fin 4096) :
    (iblk m c 1 t : FVec Ideal S512x4096 .f32) (ix2 s k) = weights m c k ⟨6176 + (512 * colT t + s), by omega⟩ :=
  (congrArg (V m c main_v0 : FVec Ideal S8224x4096 .f32) (emb1 t s k)).trans (V_v0 m c _ k)

/-- What a grid point's body writes: the product of its blocks. -/
theorem body {x0 : FVec Ideal S1024x4096 .bf16} {x1 : FVec Ideal S512x4096 .f32} {A : Fin 1024 → Fin 4096 → EReal}
    {W : Fin 4096 → Fin 512 → EReal} (h0 : ∀ r k, x0 (ix2 r k) = A r k) (h1 : ∀ s k, x1 (ix2 s k) = W k s)
    (r : Fin 1024) (s : Fin 512) : out0_2 (F := Ideal) x0 x1 (ix2 r s) = ∑ k, A r k * W k s := by
  have e : out0_2 (F := Ideal) x0 x1 (ix2 r s) = ∑ k, (x0 (ix2 r k) : EReal) * (x1 (ix2 s k) : EReal) := by
    frame_out
    pointwise [k0_pay1]
  refine e.trans (Finset.sum_congr rfl fun k _ => ?_)
  rw [h0, h1]

/-- The activations' block, as an array. -/
def blockA (t : Fin cfg0.N) : FVec Ideal S1024x4096 .bf16 := iblk m c 0 t
/-- The weights' block, as an array. -/
def blockW (t : Fin cfg0.N) : FVec Ideal S512x4096 .f32 := iblk m c 1 t

/-- A grid point leaves its tile of the product. -/
theorem left (t : Fin cfg0.N) (r : Fin 1024) (s : Fin 512) :
    out0_2 (F := Ideal) (blockA m c t) (blockW m c t) (ix2 r s)
      = ∑ k, acts m c ⟨1024 * rowT t + r, by omega⟩ k * weights m c k ⟨6176 + (512 * colT t + s), by omega⟩ :=
  body (x0 := blockA m c t) (x1 := blockW m c t) (A := fun r => acts m c ⟨1024 * rowT t + r, by omega⟩) (W := fun k s => weights m c k ⟨6176 + (512 * colT t + s), by omega⟩)
    (iblk0 m c t) (iblk1 m c t) r s

/-- A block's index has a row and a column. -/
theorem split (y : S1024x512.Idx) : ∃ (r : Fin 1024) (s : Fin 512), y = (ix2 r s : S1024x512.Idx) := ⟨y 0, y 1, eq_ix2 y⟩

/-- A grid point's tile lies at its place in the product. -/
theorem place (t : Fin cfg0.N) (y : S1024x512.Idx) :
    out0_2 (F := Ideal) (blockA m c t) (blockW m c t) y = product m c ((win0_2.blk t).view.emb y) := by
  obtain ⟨r, s, rfl⟩ := split y
  have hG : product m c ((win0_2.blk t).view.emb (ix2 r s))
      = ∑ k, acts m c ⟨1024 * rowT t + r, by omega⟩ k * weights m c k ⟨6176 + (512 * colT t + s), by omega⟩ := by
    rw [emb2]
    rfl
  exact (left m c t r s).trans hG.symm

/-- After the run the result's array is the product. -/
theorem final : (dats m 0 c).arrAt 2 cfg0.N = product m c := by
  refine (dats m 0 c).arrAt_eq_of_covers 2 (product m c) (by decide +kernel) fun t hf y => ?_
  rw [after0_2]
  blk_simp
  exact place m c t y

end Cert.FourierIdeal.Hand
-- ==== Proof.FourierResult.lean ====
module
public import proofs.«01_k».proof.Defs
public import proofs.«01_k».proof.Proof.Gen.Fourier.Frame
public import proofs.«01_k».proof.Proof.Gen.FourierIdeal.Frame
public import proofs.«01_k».proof.Proof.Gen.FourierReferenceIdeal.Run
public import proofs.«01_k».proof.Proof.FourierValue
public import Idealize.ShloMosaic.Lib.Quiescent
public import Idealize.ShloMosaic.Adequacy
public import Idealize.ShloMosaic.Init
@[expose] public section
/-!
# The claims of the projection to the Fourier branch

The reference multiplies the activations by all the weights and takes columns 6176 to 8223; an element of its
result is the same sum of products as in the kernel's.
-/
set_option maxRecDepth 65536
set_option maxHeartbeats 1000000
noncomputable section
namespace Cert.Fourier.Hand
open Idealize.ShloMosaic Idealize.ShloMosaic.TcCoe Idealize.SL.Sem

/-- The reference's result in terms of its arguments: at each element a sum of products. -/
theorem reference_at (a : FVec Ideal Cert.FourierReferenceIdeal.S6144x4096 .bf16) (w : FVec Ideal Cert.FourierReferenceIdeal.S4096x8224 .f32)
    (i : Fin 6144) (j : Fin 2048) :
    (truncf .bf16 (extractStridedSlice Cert.FourierReferenceIdeal.S6144x2048 ![0, 6176] (Host.dotGeneral (F := Ideal)
      Cert.FourierReferenceIdeal.dot_S6144x4096_S4096x8224_S6144x8224_1_0_0_1_n_n none
      (extf .f32 a Cert.FourierReferenceIdeal.Gen.facts.bitsLt_bf16_f32) w) Cert.FourierReferenceIdeal.Gen.facts.slices_S6144x8224_S6144x2048_0_6176)
      Cert.FourierReferenceIdeal.Gen.facts.bitsLt_bf16_f32 : FVec Ideal Cert.FourierReferenceIdeal.S6144x2048 .bf16) (ix2 i j)
      = ∑ k, (a (ix2 i k) : EReal) * (w (ix2 k ⟨6176 + (j : ℕ), by omega⟩) : EReal) := by
  pointwise

/-- From equal arguments the reference ends with the kernel's product. -/
theorem reference_product (m : (ℓ : Loc Cert.FourierIdeal.nD Cert.FourierIdeal.τ Cert.FourierIdeal.sig) → Buf (Elt Ideal) ℓ) (c : Dev Cert.FourierIdeal.nD)
    {a : FVec Ideal Cert.FourierReferenceIdeal.S6144x4096 .bf16} {w : FVec Ideal Cert.FourierReferenceIdeal.S4096x8224 .f32}
    (ha : a = m ((c : Thread Cert.FourierIdeal.nD Cert.FourierIdeal.τ).loc Cert.FourierIdeal.main_arg0))
    (hw : w = m ((c : Thread Cert.FourierIdeal.nD Cert.FourierIdeal.τ).loc Cert.FourierIdeal.main_arg1)) :
    (truncf .bf16 (extractStridedSlice Cert.FourierReferenceIdeal.S6144x2048 ![0, 6176] (Host.dotGeneral (F := Ideal)
      Cert.FourierReferenceIdeal.dot_S6144x4096_S4096x8224_S6144x8224_1_0_0_1_n_n none
      (extf .f32 a Cert.FourierReferenceIdeal.Gen.facts.bitsLt_bf16_f32) w) Cert.FourierReferenceIdeal.Gen.facts.slices_S6144x8224_S6144x2048_0_6176)
      Cert.FourierReferenceIdeal.Gen.facts.bitsLt_bf16_f32 : FVec Ideal Cert.FourierReferenceIdeal.S6144x2048 .bf16)
      = Cert.FourierIdeal.Hand.product m c := by
  funext y
  obtain ⟨i, j, rfl⟩ : ∃ (i : Fin 6144) (j : Fin 2048), y = (ix2 i j : Cert.FourierReferenceIdeal.S6144x2048.Idx) := ⟨y 0, y 1, eq_ix2 y⟩
  rw [reference_at, ha, hw]
  rfl

/-- The reference runs to an end, keeps its arguments and leaves every semaphore at zero. -/
theorem reference_frame : Cert.quiescent_FourierReferenceIdeal := fun m g _ =>
  (θ_run _ _ _).mono (fun r h => ⟨fun c => (h c).2, Idealize.ShloMosaic.sem_eq_zero_of_no_sems (by decide) r.2⟩)
    (Cert.FourierReferenceIdeal.Value.run (F := Ideal) m g)

/-- The kernel and the reference end with equal results. -/
theorem algebraic : Cert.algebraic_FourierIdeal_FourierReferenceIdeal := by
  intro m g m' g' _ hargs
  refine ⟨fun c => Cert.FourierIdeal.Hand.product m c, ?_, ?_⟩
  · refine (θ_run _ _ _).mono (fun r h c => ?_) (Cert.FourierIdeal.Value.run_blocks m g)
    exact ⟨(h c).1.trans (Cert.FourierIdeal.Hand.final m c), (h c).2⟩
  · refine (θ_run _ _ _).mono (fun r h c => ?_) (Cert.FourierReferenceIdeal.Value.run m' g')
    exact ⟨(h c).1.trans (reference_product m c (hargs c).1 (hargs c).2), (h c).2⟩

end Cert.Fourier.Hand
-- ==== Proof.OutPoint.lean ====
module
public import proofs.«01_k».proof.Proof.Gen.OutIdeal.Frame
public import Idealize.ShloMosaic.Lib.Pipeline.ValueKit
public import Idealize.ShloMosaic.Lib.Pointwise
@[expose] public section
/-!
# What one grid point of the output projection writes

The residual rows plus the gate times the rows' mixed values: the attention rows times the upper half of the weights plus the
Fourier rows times the lower half. A context tile takes the first of each pair of sources, a latent tile the second and adds
the position embedding.
-/
set_option maxRecDepth 65536
set_option maxHeartbeats 1000000
noncomputable section
namespace Cert.OutIdeal.Hand
open Cert.OutIdeal Cert.OutIdeal.Gen Idealize.ShloMosaic Idealize.SL.Sem

variable (c : Dev nD) (i : grid0.Coords)
  (a2 : Memref sig .tc .vmem S2048x512 .f32) (h2 : a2.IsWhole)
  (a3 : Memref sig .tc .vmem S1024x2048 .bf16) (h3 : a3.IsWhole)
  (a4 : Memref sig .tc .vmem S1024x2048 .bf16) (h4 : a4.IsWhole)
  (a5 : Memref sig .tc .vmem S1024x2048 .bf16) (h5 : a5.IsWhole)
  (a6 : Memref sig .tc .vmem S1024x2048 .bf16) (h6 : a6.IsWhole)
  (a7 : Memref sig .tc .vmem S2048x512 .f32) (h7 : a7.IsWhole)
  (a8 : Memref sig .tc .vmem S1024x512 .f32) (h8 : a8.IsWhole)
  (a9 : Memref sig .tc .vmem S1024x512 .f32) (h9 : a9.IsWhole)
  (a10 : Memref sig .tc .vmem S1024x512 .f32) (h10 : a10.IsWhole)
  (a11 : Memref sig .tc .vmem S1x8x512 .f32) (h11 : a11.IsWhole)
  (a12 : Memref sig .tc .vmem S1024x512 .f32) (h12 : a12.IsWhole)
  (x0 : FVec Ideal S2048x512 .f32) (x1 : FVec Ideal S1024x2048 .bf16) (x2 : FVec Ideal S1024x2048 .bf16) (x3 : FVec Ideal S1024x2048 .bf16) (x4 : FVec Ideal S1024x2048 .bf16) (x5 : FVec Ideal S2048x512 .f32) (x6 : FVec Ideal S1024x512 .f32) (x7 : FVec Ideal S1024x512 .f32) (x8 : FVec Ideal S1024x512 .f32) (x9 : FVec Ideal S1x8x512 .f32)

/-- A context tile's payload. -/
theorem payA (g : FVec Ideal S1x1x512 .f32) (r : Fin 1024) (s : Fin 512) :
    k0_pay2 (F := Ideal) g x6 x1 x0 x3 x5 (ix2 r s) = (x6 (ix2 r s) : EReal) + (g (ix3 0 0 s) : EReal)
      * (∑ k, (x1 (ix2 r k) : EReal) * (x0 (ix2 k s) : EReal) + ∑ k, (x3 (ix2 r k) : EReal) * (x5 (ix2 k s) : EReal)) := by
  pointwise [k0_pay2, k0_pay1]

/-- A latent tile's payload. -/
theorem payB (g : FVec Ideal S1x1x512 .f32) (r : Fin 1024) (s : Fin 512) :
    k0_pay3 (F := Ideal) g x7 x8 x2 x0 x4 x5 (ix2 r s) = (x7 (ix2 r s) : EReal) + (x8 (ix2 r s) : EReal) + (g (ix3 0 0 s) : EReal)
      * (∑ k, (x2 (ix2 r k) : EReal) * (x0 (ix2 k s) : EReal) + ∑ k, (x4 (ix2 r k) : EReal) * (x5 (ix2 k s) : EReal)) := by
  pointwise [k0_pay3, k0_pay1]

/-- A context tile. -/
theorem caseA (hc0 : cond0_0 i) (hc1 : ¬cond0_1 i) (r : Fin 1024) (s : Fin 512) :
    out0_A_10 (F := Ideal) c i a2 h2 a3 h3 a4 h4 a5 h5 a6 h6 a7 h7 a8 h8 a9 h9 a10 h10 a11 h11 a12 h12 hc0 hc1 x0 x1 x2 x3 x4 x5 x6 x7 x8 x9 (ix2 r s)
      = (x6 (ix2 r s) : EReal) + (x9 (ix3 0 2 s) : EReal)
      * (∑ k, (x1 (ix2 r k) : EReal) * (x0 (ix2 k s) : EReal) + ∑ k, (x3 (ix2 r k) : EReal) * (x5 (ix2 k s) : EReal)) := by
  frame_out
  rw [payA]
  refine congrArg₂ (· + ·) rfl (congrArg₂ (· * ·) ?_ rfl)
  exact View.ld_unit_apply_of (Val := Elt Ideal) (e := .f32) (S := S1x8x512) x9 ![0, 2, 0] ![1, 1, 512] inb_S1x8x512_S1x1x512_0_2_0 (ix3 0 0 s) (ix3 0 2 s) (by intro x; fin_cases x <;> first | rfl | exact (Nat.zero_add _).symm)

/-- A latent tile. -/
theorem caseB (hc0 : ¬cond0_0 i) (hc1 : cond0_1 i) (r : Fin 1024) (s : Fin 512) :
    out0_B_10 (F := Ideal) c i a2 h2 a3 h3 a4 h4 a5 h5 a6 h6 a7 h7 a8 h8 a9 h9 a10 h10 a11 h11 a12 h12 hc0 hc1 x0 x1 x2 x3 x4 x5 x6 x7 x8 x9 (ix2 r s)
      = (x7 (ix2 r s) : EReal) + (x8 (ix2 r s) : EReal) + (x9 (ix3 0 2 s) : EReal)
      * (∑ k, (x2 (ix2 r k) : EReal) * (x0 (ix2 k s) : EReal) + ∑ k, (x4 (ix2 r k) : EReal) * (x5 (ix2 k s) : EReal)) := by
  frame_out
  rw [payB]
  refine congrArg₂ (· + ·) rfl (congrArg₂ (· * ·) ?_ rfl)
  exact View.ld_unit_apply_of (Val := Elt Ideal) (e := .f32) (S := S1x8x512) x9 ![0, 2, 0] ![1, 1, 512] inb_S1x8x512_S1x1x512_0_2_0 (ix3 0 0 s) (ix3 0 2 s) (by intro x; fin_cases x <;> first | rfl | exact (Nat.zero_add _).symm)

end Cert.OutIdeal.Hand
-- ==== Proof.OutValue.lean ====
module
public import proofs.«01_k».proof.Proof.Gen.OutIdeal.Value
public import proofs.«01_k».proof.Proof.OutPoint
public import Idealize.ShloMosaic.Lib.Pipeline.ValueKit
@[expose] public section
/-!
# The output projection

The 48 tiles of the grid together give, at each row, the residual plus the gated product of the row's attention and Fourier
values with the output weights: first the context's 4096 rows, then the latents' 2048.
-/
set_option maxRecDepth 65536
set_option maxHeartbeats 1000000
noncomputable section
namespace Cert.OutIdeal.Hand
open Cert.OutIdeal Cert.OutIdeal.Gen Idealize.ShloMosaic Idealize.ShloMosaic.TcCoe Idealize.SL.Sem

variable (m : (ℓ : Loc nD τ sig) → Buf (Elt Ideal) ℓ) (c : Dev nD)

/-- The context's attention rows. -/
def attnC (i : Fin 4096) (k : Fin 2048) : EReal := m ((c : Thread nD τ).loc main_arg0) (ix2 i k)
/-- The latents' attention rows. -/
def attnL (i : Fin 2048) (k : Fin 2048) : EReal := m ((c : Thread nD τ).loc main_arg1) (ix2 i k)
/-- The context's Fourier rows. -/
def fourC (i : Fin 4096) (k : Fin 2048) : EReal := m ((c : Thread nD τ).loc main_arg2) (ix2 i k)
/-- The latents' Fourier rows. -/
def fourL (i : Fin 2048) (k : Fin 2048) : EReal := m ((c : Thread nD τ).loc main_arg3) (ix2 i k)
/-- The output weights. -/
def weights (k : Fin 4096) (j : Fin 4096) : EReal := m ((c : Thread nD τ).loc main_arg4) (ix2 k j)
/-- The context's residual rows. -/
def resC (i : Fin 4096) (j : Fin 4096) : EReal := m ((c : Thread nD τ).loc main_arg5) (ix2 i j)
/-- The latents' residual rows. -/
def resL (i : Fin 2048) (j : Fin 4096) : EReal := m ((c : Thread nD τ).loc main_arg6) (ix2 i j)
/-- The position embedding. -/
def posn (i : Fin 1024) (j : Fin 4096) : EReal := m ((c : Thread nD τ).loc main_arg7) (ix2 i j)
/-- A segment's gate: row 2 of its modulation. -/
def gate (g : Fin 3) (j : Fin 4096) : EReal := m ((c : Thread nD τ).loc main_arg8) (ix3 g 2 j)

/-- A row of attention values and a row of Fourier values times a column of the weights. -/
def mix (A B : Fin 2048 → EReal) (j : Fin 4096) : EReal :=
  ∑ k : Fin 2048, A k * weights m c ⟨k, by omega⟩ j + ∑ k : Fin 2048, B k * weights m c ⟨2048 + k, by omega⟩ j
/-- The result at a context row. -/
def ctx (i : Fin 4096) (j : Fin 4096) : EReal := resC m c i j + gate m c 0 j * mix m c (attnC m c i) (fourC m c i) j
/-- The result at row `l` of latent block `b`. -/
def lat (b : Fin 2) (l : Fin 1024) (j : Fin 4096) : EReal :=
  resL m c ⟨1024 * b + l, by omega⟩ j + posn m c l j
    + gate m c ⟨1 + b, by omega⟩ j * mix m c (attnL m c ⟨1024 * b + l, by omega⟩) (fourL m c ⟨1024 * b + l, by omega⟩) j

/-- The whole result. -/
def result : FVec Ideal S6144x4096 .f32 := fun i =>
  if h : (i 0 : ℕ) < 4096 then ctx m c ⟨i 0, h⟩ (i 1)
  else lat m c ⟨((i 0 : ℕ) - 4096) / 1024, by have : (i 0 : ℕ) < 6144 := (i 0).2; omega⟩ ⟨((i 0 : ℕ) - 4096) % 1024, Nat.mod_lt _ (by decide)⟩ (i 1)

/-- The row tile of a grid point. -/
def rowT (t : Fin cfg0.N) : Fin 6 := grid0.coords t 0
/-- The column tile of a grid point. -/
def colT (t : Fin cfg0.N) : Fin 8 := grid0.coords t 1
/-- The context tile that a grid point's windows hold. -/
def rowA (t : Fin cfg0.N) : Fin 4 := ⟨min (rowT t) 3, by omega⟩
/-- The latent tile that a grid point's windows hold. -/
def rowB (t : Fin cfg0.N) : Fin 2 := ⟨(rowT t : ℕ) - 4, by omega⟩
/-- The segment that a grid point's windows hold. -/
def seg (t : Fin cfg0.N) : Fin 3 := ⟨(rowT t : ℕ) - 3, by omega⟩

/-- The points are counted row tile by row tile. -/
theorem count : ∀ t : Fin cfg0.N, (t : ℕ) = 8 * (rowT t : ℕ) + (colT t : ℕ) := (by decide +kernel : ∀ t : Fin grid0.N, _)
/-- The weights' tiles. -/
theorem idxW : ∀ t : Fin cfg0.N, win0_0.index t = ![0, (colT t : ℕ)] ∧ win0_5.index t = ![1, (colT t : ℕ)] :=
  (by decide +kernel : ∀ t : Fin grid0.N, _)
/-- The context's tiles. -/
theorem idxA : ∀ t : Fin cfg0.N, win0_1.index t = ![(rowA t : ℕ), 0] ∧ win0_3.index t = ![(rowA t : ℕ), 0]
    ∧ win0_6.index t = ![(rowA t : ℕ), (colT t : ℕ)] := (by decide +kernel : ∀ t : Fin grid0.N, _)
/-- The latents' tiles. -/
theorem idxB : ∀ t : Fin cfg0.N, win0_2.index t = ![(rowB t : ℕ), 0] ∧ win0_4.index t = ![(rowB t : ℕ), 0]
    ∧ win0_7.index t = ![(rowB t : ℕ), (colT t : ℕ)] := (by decide +kernel : ∀ t : Fin grid0.N, _)
/-- The tiles of the position embedding, the modulation and the result. -/
theorem idxR : ∀ t : Fin cfg0.N, win0_8.index t = ![0, (colT t : ℕ)] ∧ win0_9.index t = ![(seg t : ℕ), 0, (colT t : ℕ)]
    ∧ win0_10.index t = ![(rowT t : ℕ), (colT t : ℕ)] := (by decide +kernel : ∀ t : Fin grid0.N, _)

/-- The upper half of the weights: its block's elements. -/
theorem iblk0 (t : Fin cfg0.N) (k : Fin 2048) (s : Fin 512) :
    (iblk m c 0 t : FVec Ideal S2048x512 .f32) (ix2 k s) = weights m c ⟨k, by omega⟩ ⟨512 * colT t + s, by omega⟩ := by
  have e : (win0_0.blk t).view.emb (ix2 k s) = (ix2 ⟨k, by omega⟩ ⟨512 * colT t + s, by omega⟩ : S4096x4096.Idx) := by
    blk_ext [(idxW t).1]
  blk_simp [iblk]
  rw [V_main_arg4]
  exact congrArg (m ((c : Thread nD τ).loc main_arg4)) e
/-- The context's attention block. -/
theorem iblk1 (t : Fin cfg0.N) (r : Fin 1024) (k : Fin 2048) :
    (iblk m c 1 t : FVec Ideal S1024x2048 .bf16) (ix2 r k) = attnC m c ⟨1024 * rowA t + r, by omega⟩ k := by
  have e : (win0_1.blk t).view.emb (ix2 r k) = (ix2 ⟨1024 * rowA t + r, by omega⟩ k : S4096x2048.Idx) := by
    blk_ext [(idxA t).1]
  blk_simp [iblk]
  rw [V_main_arg0]
  exact congrArg (m ((c : Thread nD τ).loc main_arg0)) e
/-- The latents' attention block. -/
theorem iblk2 (t : Fin cfg0.N) (r : Fin 1024) (k : Fin 2048) :
    (iblk m c 2 t : FVec Ideal S1024x2048 .bf16) (ix2 r k) = attnL m c ⟨1024 * rowB t + r, by omega⟩ k := by
  have e : (win0_2.blk t).view.emb (ix2 r k) = (ix2 ⟨1024 * rowB t + r, by omega⟩ k : S2048x2048.Idx) := by
    blk_ext [(idxB t).1]
  blk_simp [iblk]
  rw [V_main_arg1]
  exact congrArg (m ((c : Thread nD τ).loc main_arg1)) e
/-- The context's Fourier block. -/
theorem iblk3 (t : Fin cfg0.N) (r : Fin 1024) (k : Fin 2048) :
    (iblk m c 3 t : FVec Ideal S1024x2048 .bf16) (ix2 r k) = fourC m c ⟨1024 * rowA t + r, by omega⟩ k := by
  have e : (win0_3.blk t).view.emb (ix2 r k) = (ix2 ⟨1024 * rowA t + r, by omega⟩ k : S4096x2048.Idx) := by
    blk_ext [(idxA t).2.1]
  blk_simp [iblk]
  rw [V_main_arg2]
  exact congrArg (m ((c : Thread nD τ).loc main_arg2)) e
/-- The latents' Fourier block. -/
theorem iblk4 (t : Fin cfg0.N) (r : Fin 1024) (k : Fin 2048) :
    (iblk m c 4 t : FVec Ideal S1024x2048 .bf16) (ix2 r k) = fourL m c ⟨1024 * rowB t + r, by omega⟩ k := by
  have e : (win0_4.blk t).view.emb (ix2 r k) = (ix2 ⟨1024 * rowB t + r, by omega⟩ k : S2048x2048.Idx) := by
    blk_ext [(idxB t).2.1]
  blk_simp [iblk]
  rw [V_main_arg3]
  exact congrArg (m ((c : Thread nD τ).loc main_arg3)) e
/-- The lower half of the weights: its block's elements. -/
theorem iblk5 (t : Fin cfg0.N) (k : Fin 2048) (s : Fin 512) :
    (iblk m c 5 t : FVec Ideal S2048x512 .f32) (ix2 k s) = weights m c ⟨2048 + k, by omega⟩ ⟨512 * colT t + s, by omega⟩ := by
  have e : (win0_5.blk t).view.emb (ix2 k s) = (ix2 ⟨2048 + k, by omega⟩ ⟨512 * colT t + s, by omega⟩ : S4096x4096.Idx) := by
    blk_ext [(idxW t).2]
  blk_simp [iblk]
  rw [V_main_arg4]
  exact congrArg (m ((c : Thread nD τ).loc main_arg4)) e
/-- The context's residual block. -/
theorem iblk6 (t : Fin cfg0.N) (r : Fin 1024) (s : Fin 512) :
    (iblk m c 6 t : FVec Ideal S1024x512 .f32) (ix2 r s) = resC m c ⟨1024 * rowA t + r, by omega⟩ ⟨512 * colT t + s, by omega⟩ := by
  have e : (win0_6.blk t).view.emb (ix2 r s) = (ix2 ⟨1024 * rowA t + r, by omega⟩ ⟨512 * colT t + s, by omega⟩ : S4096x4096.Idx) := by
    blk_ext [(idxA t).2.2]
  blk_simp [iblk]
  rw [V_main_arg5]
  exact congrArg (m ((c : Thread nD τ).loc main_arg5)) e
/-- The latents' residual block. -/
theorem iblk7 (t : Fin cfg0.N) (r : Fin 1024) (s : Fin 512) :
    (iblk m c 7 t : FVec Ideal S1024x512 .f32) (ix2 r s) = resL m c ⟨1024 * rowB t + r, by omega⟩ ⟨512 * colT t + s, by omega⟩ := by
  have e : (win0_7.blk t).view.emb (ix2 r s) = (ix2 ⟨1024 * rowB t + r, by omega⟩ ⟨512 * colT t + s, by omega⟩ : S2048x4096.Idx) := by
    blk_ext [(idxB t).2.2]
  blk_simp [iblk]
  rw [V_main_arg6]
  exact congrArg (m ((c : Thread nD τ).loc main_arg6)) e
/-- The position embedding's block. -/
theorem iblk8 (t : Fin cfg0.N) (r : Fin 1024) (s : Fin 512) :
    (iblk m c 8 t : FVec Ideal S1024x512 .f32) (ix2 r s) = posn m c r ⟨512 * colT t + s, by omega⟩ := by
  have e : (win0_8.blk t).view.emb (ix2 r s) = (ix2 r ⟨512 * colT t + s, by omega⟩ : S1024x4096.Idx) := by
    blk_ext [(idxR t).1]
  blk_simp [iblk]
  rw [V_main_arg7]
  exact congrArg (m ((c : Thread nD τ).loc main_arg7)) e
/-- The modulation's block, at the gate's row. -/
theorem iblk9 (t : Fin cfg0.N) (s : Fin 512) :
    (iblk m c 9 t : FVec Ideal S1x8x512 .f32) (ix3 0 2 s) = gate m c (seg t) ⟨512 * colT t + s, by omega⟩ := by
  have e : (win0_9.blk t).view.emb (ix3 0 2 s) = (ix3 (seg t) 2 ⟨512 * colT t + s, by omega⟩ : S3x8x4096.Idx) := by
    blk_ext [(idxR t).2.1]
  blk_simp [iblk]
  rw [V_main_arg8]
  exact congrArg (m ((c : Thread nD τ).loc main_arg8)) e

/-- A point of the first four row tiles leaves context rows. -/
theorem leftA (t : Fin cfg0.N) (h0 : t.val < 32) (h1 : ¬32 ≤ t.val) (r : Fin 1024) (s : Fin 512) :
    (outsAt0 m c t.val t.isLt : FVec Ideal S1024x512 .f32) (ix2 r s) = ctx m c ⟨1024 * rowA t + r, by omega⟩ ⟨512 * colT t + s, by omega⟩ := by
  have hs : seg t = 0 := Fin.ext (by have := count t; show (rowT t : ℕ) - 3 = 0; omega)
  refine (congrFun (outsAt0_A m c t h0 h1) (ix2 r s)).trans
    ((caseA c _ _ _ _ _ _ _ _ _ _ _ _ _ _ _ _ _ _ _ _ _ _ _ _ _ _ _ _ _ _ _ _ _ _ _ r s).trans ?_)
  refine congrArg₂ (· + ·) (iblk6 m c t r s) (congrArg₂ (· * ·) ((iblk9 m c t s).trans (by rw [hs])) (congrArg₂ (· + ·)
    (Finset.sum_congr rfl fun k _ => congrArg₂ (· * ·) (iblk1 m c t r k) (iblk0 m c t k s))
    (Finset.sum_congr rfl fun k _ => congrArg₂ (· * ·) (iblk3 m c t r k) (iblk5 m c t k s))))

/-- A point of the last two row tiles leaves latent rows. -/
theorem leftB (t : Fin cfg0.N) (h0 : ¬t.val < 32) (h1 : 32 ≤ t.val) (r : Fin 1024) (s : Fin 512) :
    (outsAt0 m c t.val t.isLt : FVec Ideal S1024x512 .f32) (ix2 r s) = lat m c (rowB t) r ⟨512 * colT t + s, by omega⟩ := by
  have hs : seg t = ⟨1 + rowB t, by omega⟩ := Fin.ext (by have := count t; show (rowT t : ℕ) - 3 = 1 + ((rowT t : ℕ) - 4); omega)
  refine (congrFun (outsAt0_B m c t h0 h1) (ix2 r s)).trans
    ((caseB c _ _ _ _ _ _ _ _ _ _ _ _ _ _ _ _ _ _ _ _ _ _ _ _ _ _ _ _ _ _ _ _ _ _ _ r s).trans ?_)
  refine congrArg₂ (· + ·) (congrArg₂ (· + ·) (iblk7 m c t r s) (iblk8 m c t r s)) (congrArg₂ (· * ·) ((iblk9 m c t s).trans (by rw [hs])) (congrArg₂ (· + ·)
    (Finset.sum_congr rfl fun k _ => congrArg₂ (· * ·) (iblk2 m c t r k) (iblk0 m c t k s))
    (Finset.sum_congr rfl fun k _ => congrArg₂ (· * ·) (iblk4 m c t r k) (iblk5 m c t k s))))

/-- The result at a context row. -/
theorem result_ctx (i : Fin 6144) (j : Fin 4096) (i' : Fin 4096) (h : (i : ℕ) = i') :
    result m c (ix2 i j) = ctx m c i' j := by
  exact (dif_pos (show (i : ℕ) < 4096 by omega)).trans (congrArg (ctx m c · j) (Fin.ext h))
/-- The result at a latent row. -/
theorem result_lat (i : Fin 6144) (j : Fin 4096) (b : Fin 2) (l : Fin 1024) (h : (i : ℕ) = 4096 + 1024 * b + l) :
    result m c (ix2 i j) = lat m c b l j := by
  have hb : (⟨((i : ℕ) - 4096) / 1024, by omega⟩ : Fin 2) = b := Fin.ext (show ((i : ℕ) - 4096) / 1024 = b by omega)
  have hl : (⟨((i : ℕ) - 4096) % 1024, by omega⟩ : Fin 1024) = l := Fin.ext (show ((i : ℕ) - 4096) % 1024 = l by omega)
  exact (dif_neg (show ¬(i : ℕ) < 4096 by omega)).trans (congrArg₂ (lat m c · · j) hb hl)

/-- A grid point leaves its tile of the result. -/
theorem left (t : Fin cfg0.N) (r : Fin 1024) (s : Fin 512) : (outsAt0 m c t.val t.isLt : FVec Ideal S1024x512 .f32) (ix2 r s)
      = result m c (ix2 ⟨1024 * rowT t + r, by omega⟩ ⟨512 * colT t + s, by omega⟩) := by
  have := count t
  by_cases h : t.val < 32
  · exact (leftA m c t h (by omega) r s).trans
      (result_ctx m c _ _ _ (show 1024 * (rowT t : ℕ) + r = 1024 * min (rowT t : ℕ) 3 + r by omega)).symm
  · exact (leftB m c t h (by omega) r s).trans
      (result_lat m c _ _ _ _ (show 1024 * (rowT t : ℕ) + r = 4096 + 1024 * ((rowT t : ℕ) - 4) + r by omega)).symm

/-- A block's index has a row and a column. -/
theorem split (y : S1024x512.Idx) : ∃ (r : Fin 1024) (s : Fin 512), y = (ix2 r s : S1024x512.Idx) := ⟨y 0, y 1, eq_ix2 y⟩

/-- Where an element of the result's block lies. -/
theorem emb10 (t : Fin cfg0.N) (r : Fin 1024) (s : Fin 512) :
    (win0_10.blk t).view.emb (ix2 r s) = (ix2 ⟨1024 * rowT t + r, by omega⟩ ⟨512 * colT t + s, by omega⟩ : S6144x4096.Idx) := by
  blk_ext [(idxR t).2.2]

/-- A grid point's tile lies at its place in the result. -/
theorem place (t : Fin cfg0.N) (y : S1024x512.Idx) :
    (outsAt0 m c t.val t.isLt : FVec Ideal S1024x512 .f32) y = result m c ((win0_10.blk t).view.emb y) := by
  obtain ⟨r, s, rfl⟩ := split y
  have hG : result m c ((win0_10.blk t).view.emb (ix2 r s))
      = result m c (ix2 ⟨1024 * rowT t + r, by omega⟩ ⟨512 * colT t + s, by omega⟩) := by
    rw [emb10]
  exact (left m c t r s).trans hG.symm

/-- After the run the result's array is the whole result. -/
theorem final : (dats m 0 c).arrAt 10 cfg0.N = result m c := by
  refine (dats m 0 c).arrAt_eq_of_covers 10 (result m c) (by decide +kernel) fun t hf y => ?_
  rw [after0_10]
  blk_simp
  exact place m c t y

end Cert.OutIdeal.Hand
-- ==== Proof.OutResult.lean ====
module
public import proofs.«01_k».proof.Defs
public import proofs.«01_k».proof.Proof.Gen.Out.Frame
public import proofs.«01_k».proof.Proof.Gen.OutIdeal.Frame
public import proofs.«01_k».proof.Proof.Gen.OutReferenceIdeal.Run
public import proofs.«01_k».proof.Proof.OutValue
public import Idealize.ShloMosaic.Lib.Quiescent
public import Idealize.ShloMosaic.Adequacy
public import Idealize.ShloMosaic.Init
@[expose] public section
/-!
# The claims of the output projection

The reference sets the attention and Fourier values side by side, multiplies them by the output weights, gates the product and
adds it to the residual, the latents with their position embedding; its sum over 4096 products is the kernel's two sums over 2048.
-/
set_option maxRecDepth 65536
set_option maxHeartbeats 1000000
noncomputable section
namespace Cert.Out.Hand
open Cert.OutReferenceIdeal.Gen Idealize.ShloMosaic Idealize.ShloMosaic.TcCoe Idealize.SL.Sem

section
open Cert.OutReferenceIdeal

/-- The reference's context rows. -/
def pieceC (a0 a2 : FVec Ideal S4096x2048 .bf16) (a4 a5 : FVec Ideal S4096x4096 .f32) (a8 : FVec Ideal S3x8x4096 .f32) : FVec Ideal S4096x4096 .f32 :=
  addf a5 (mulf (broadcastInDim S4096x4096 ![0, 1] facts.bcast_S1x4096_S4096x4096_0_1 (broadcastInDim S1x4096 ![1] facts.bcast_S4096_S1x4096_1 (shapeCast _ (extractStridedSlice S1x4096 ![0, 0] (shapeCast _ (extractStridedSlice S3x1x4096 ![0, 2, 0] a8 facts.slices_S3x8x4096_S3x1x4096_0_2_0) facts.shapeCasts_S3x1x4096_S3x4096) facts.slices_S3x4096_S1x4096_0_0) facts.shapeCasts_S1x4096_S4096))) (Host.dotGeneral dot_S4096x4096_S4096x4096_S4096x4096_1_0_0_1_n_n none (extf .f32 (concatenate S4096x4096 1 [⟨S4096x2048, a0⟩, ⟨S4096x2048, a2⟩] facts.concatenates_S4096x2048_S4096x2048_S4096x4096_d1) facts.bitsLt_bf16_f32) a4))

/-- The reference's latent rows. -/
def pieceL (a1 a3 : FVec Ideal S2048x2048 .bf16) (a4 : FVec Ideal S4096x4096 .f32) (a6 : FVec Ideal S2048x4096 .f32) (a7 : FVec Ideal S1024x4096 .f32) (a8 : FVec Ideal S3x8x4096 .f32) : FVec Ideal S2048x4096 .f32 :=
  shapeCast _ (addf (addf (shapeCast _ a6 facts.shapeCasts_S2048x4096_S2x1024x4096) (broadcastInDim S2x1024x4096 ![0, 1, 2] facts.bcast_S1x1024x4096_S2x1024x4096_0_1_2 (broadcastInDim S1x1024x4096 ![1, 2] facts.bcast_S1024x4096_S1x1024x4096_1_2 a7))) (mulf (broadcastInDim S2x1024x4096 ![0, 1, 2] facts.bcast_S2x1x4096_S2x1024x4096_0_1_2 (broadcastInDim S2x1x4096 ![0, 2] facts.bcast_S2x4096_S2x1x4096_0_2 (extractStridedSlice S2x4096 ![1, 0] (shapeCast _ (extractStridedSlice S3x1x4096 ![0, 2, 0] a8 facts.slices_S3x8x4096_S3x1x4096_0_2_0) facts.shapeCasts_S3x1x4096_S3x4096) facts.slices_S3x4096_S2x4096_1_0))) (Host.dotGeneral dot_S2x1024x4096_S4096x4096_S2x1024x4096_2_0_01_1_n_n none (extf .f32 (concatenate S2x1024x4096 2 [⟨S2x1024x2048, (shapeCast _ a1 facts.shapeCasts_S2048x2048_S2x1024x2048)⟩, ⟨S2x1024x2048, (shapeCast _ a3 facts.shapeCasts_S2048x2048_S2x1024x2048)⟩] facts.concatenates_S2x1024x2048_S2x1024x2048_S2x1024x4096_d2) facts.bitsLt_bf16_f32) a4))) facts.shapeCasts_S2x1024x4096_S2048x4096

/-- An element of the reference's context rows. -/
theorem at_C (a0 a2 : FVec Ideal S4096x2048 .bf16) (a4 a5 : FVec Ideal S4096x4096 .f32) (a8 : FVec Ideal S3x8x4096 .f32) (i j : Fin 4096) :
    pieceC a0 a2 a4 a5 a8 (ix2 i j) = (a5 (ix2 i j) : EReal) + (a8 (ix3 0 2 j) : EReal)
      * (∑ k : Fin 2048, (a0 (ix2 i k) : EReal) * (a4 (ix2 ⟨k, by omega⟩ j) : EReal)
        + ∑ k : Fin 2048, (a2 (ix2 i k) : EReal) * (a4 (ix2 ⟨2048 + k, by omega⟩ j) : EReal)) := by
  pointwise [pieceC]

/-- An element of the reference's latent rows: row `l` of block `b`. -/
theorem at_L (a1 a3 : FVec Ideal S2048x2048 .bf16) (a4 : FVec Ideal S4096x4096 .f32) (a6 : FVec Ideal S2048x4096 .f32)
    (a7 : FVec Ideal S1024x4096 .f32) (a8 : FVec Ideal S3x8x4096 .f32) (b : Fin 2) (l : Fin 1024) (j : Fin 4096)
    (i : Fin 2048) (hi : i = ⟨b * 1024 + l, by omega⟩) :
    pieceL a1 a3 a4 a6 a7 a8 (ix2 i j) = (a6 (ix2 i j) : EReal) + (a7 (ix2 l j) : EReal) + (a8 (ix3 ⟨1 + b, by omega⟩ 2 j) : EReal)
      * (∑ k : Fin 2048, (a1 (ix2 i k) : EReal) * (a4 (ix2 ⟨k, by omega⟩ j) : EReal)
        + ∑ k : Fin 2048, (a3 (ix2 i k) : EReal) * (a4 (ix2 ⟨2048 + k, by omega⟩ j) : EReal)) := by
  subst hi
  pointwise [pieceL]

/-- Rows 0 to 4095 of the stacked rows are the first array's. -/
theorem stack_C (x : FVec Ideal S4096x4096 .f32) (y : FVec Ideal S2048x4096 .f32) (i : Fin 6144) (j : Fin 4096) (h : (i : ℕ) < 4096) :
    (concatenate S6144x4096 0 [⟨S4096x4096, x⟩, ⟨S2048x4096, y⟩] facts.concatenates_S4096x4096_S2048x4096_S6144x4096_d0
      : FVec Ideal S6144x4096 .f32) (ix2 i j) = x (ix2 ⟨i, h⟩ j) :=
  concatenate_pair_apply_left _ x y _ (ix2 i j) rfl (ix2 ⟨i, h⟩ j) fun b => by fin_cases b <;> rfl

/-- The other rows are the second array's. -/
theorem stack_L (x : FVec Ideal S4096x4096 .f32) (y : FVec Ideal S2048x4096 .f32) (i : Fin 6144) (j : Fin 4096) (i' : Fin 2048) (h : (i' : ℕ) + 4096 = i) :
    (concatenate S6144x4096 0 [⟨S4096x4096, x⟩, ⟨S2048x4096, y⟩] facts.concatenates_S4096x4096_S2048x4096_S6144x4096_d0
      : FVec Ideal S6144x4096 .f32) (ix2 i j) = y (ix2 i' j) :=
  concatenate_pair_apply_right _ x y _ (ix2 i j) rfl rfl (ix2 i' j)
    (fun b hb => by fin_cases b; exact absurd rfl hb; rfl) h

end

/-- From equal arguments the reference ends with the kernel's result. -/
theorem reference_result (m : (ℓ : Loc Cert.OutIdeal.nD Cert.OutIdeal.τ Cert.OutIdeal.sig) → Buf (Elt Ideal) ℓ) (c : Dev Cert.OutIdeal.nD)
    {a0 a2 : FVec Ideal Cert.OutReferenceIdeal.S4096x2048 .bf16} {a1 a3 : FVec Ideal Cert.OutReferenceIdeal.S2048x2048 .bf16}
    {a4 a5 : FVec Ideal Cert.OutReferenceIdeal.S4096x4096 .f32} {a6 : FVec Ideal Cert.OutReferenceIdeal.S2048x4096 .f32}
    {a7 : FVec Ideal Cert.OutReferenceIdeal.S1024x4096 .f32} {a8 : FVec Ideal Cert.OutReferenceIdeal.S3x8x4096 .f32}
    (h0 : a0 = m ((c : Thread Cert.OutIdeal.nD Cert.OutIdeal.τ).loc Cert.OutIdeal.main_arg0))
    (h1 : a1 = m ((c : Thread Cert.OutIdeal.nD Cert.OutIdeal.τ).loc Cert.OutIdeal.main_arg1))
    (h2 : a2 = m ((c : Thread Cert.OutIdeal.nD Cert.OutIdeal.τ).loc Cert.OutIdeal.main_arg2))
    (h3 : a3 = m ((c : Thread Cert.OutIdeal.nD Cert.OutIdeal.τ).loc Cert.OutIdeal.main_arg3))
    (h4 : a4 = m ((c : Thread Cert.OutIdeal.nD Cert.OutIdeal.τ).loc Cert.OutIdeal.main_arg4))
    (h5 : a5 = m ((c : Thread Cert.OutIdeal.nD Cert.OutIdeal.τ).loc Cert.OutIdeal.main_arg5))
    (h6 : a6 = m ((c : Thread Cert.OutIdeal.nD Cert.OutIdeal.τ).loc Cert.OutIdeal.main_arg6))
    (h7 : a7 = m ((c : Thread Cert.OutIdeal.nD Cert.OutIdeal.τ).loc Cert.OutIdeal.main_arg7))
    (h8 : a8 = m ((c : Thread Cert.OutIdeal.nD Cert.OutIdeal.τ).loc Cert.OutIdeal.main_arg8)) :
    (concatenate Cert.OutReferenceIdeal.S6144x4096 0 [⟨Cert.OutReferenceIdeal.S4096x4096, pieceC a0 a2 a4 a5 a8⟩, ⟨Cert.OutReferenceIdeal.S2048x4096, pieceL a1 a3 a4 a6 a7 a8⟩]
      facts.concatenates_S4096x4096_S2048x4096_S6144x4096_d0 : FVec Ideal Cert.OutReferenceIdeal.S6144x4096 .f32)
      = Cert.OutIdeal.Hand.result m c := by
  funext y
  obtain ⟨i, j, rfl⟩ : ∃ (i : Fin 6144) (j : Fin 4096), y = (ix2 i j : Cert.OutReferenceIdeal.S6144x4096.Idx) := ⟨y 0, y 1, eq_ix2 y⟩
  by_cases h : (i : ℕ) < 4096
  · refine (stack_C _ _ i j h).trans ((at_C a0 a2 a4 a5 a8 ⟨i, h⟩ j).trans ?_)
    rw [h0, h2, h4, h5, h8]
    exact (Cert.OutIdeal.Hand.result_ctx m c i j ⟨i, h⟩ rfl).symm
  · have hb : ((i : ℕ) - 4096) / 1024 < 2 := by omega
    have hl : ((i : ℕ) - 4096) % 1024 < 1024 := Nat.mod_lt _ (by decide)
    have hi : 1024 * (((i : ℕ) - 4096) / 1024) + ((i : ℕ) - 4096) % 1024 < 2048 := by omega
    refine (stack_L _ _ i j ⟨_, hi⟩ (by show 1024 * (((i : ℕ) - 4096) / 1024) + ((i : ℕ) - 4096) % 1024 + 4096 = i; omega)).trans
      ((at_L a1 a3 a4 a6 a7 a8 ⟨_, hb⟩ ⟨_, hl⟩ j ⟨_, hi⟩ (Fin.ext (by
        show 1024 * (((i : ℕ) - 4096) / 1024) + ((i : ℕ) - 4096) % 1024 = ((i : ℕ) - 4096) / 1024 * 1024 + ((i : ℕ) - 4096) % 1024
        omega))).trans ?_)
    rw [h1, h3, h4, h6, h7, h8]
    exact (Cert.OutIdeal.Hand.result_lat m c i j ⟨_, hb⟩ ⟨_, hl⟩ (by
      show (i : ℕ) = 4096 + 1024 * (((i : ℕ) - 4096) / 1024) + ((i : ℕ) - 4096) % 1024
      omega)).symm

/-- The reference runs to an end, keeps its arguments and leaves every semaphore at zero. -/
theorem reference_frame : Cert.quiescent_OutReferenceIdeal := fun m g _ =>
  (θ_run _ _ _).mono (fun r h => ⟨fun c => (h c).2, Idealize.ShloMosaic.sem_eq_zero_of_no_sems (by decide) r.2⟩)
    (Cert.OutReferenceIdeal.Value.run (F := Ideal) m g)

/-- The kernel and the reference end with equal results. -/
theorem algebraic : Cert.algebraic_OutIdeal_OutReferenceIdeal := by
  intro m g m' g' _ hargs
  refine ⟨fun c => Cert.OutIdeal.Hand.result m c, ?_, ?_⟩
  · refine (θ_run _ _ _).mono (fun r h c => ?_) (Cert.OutIdeal.Value.run_blocks m g)
    exact ⟨(h c).1.trans (Cert.OutIdeal.Hand.final m c), (h c).2⟩
  · refine (θ_run _ _ _).mono (fun r h c => ?_) (Cert.OutReferenceIdeal.Value.run m' g')
    obtain ⟨e0, e1, e2, e3, e4, e5, e6, e7, e8⟩ := hargs c
    exact ⟨(h c).1.trans (reference_result m c e0 e1 e2 e3 e4 e5 e6 e7 e8), (h c).2⟩

end Cert.Out.Hand
-- ==== Proof.NormPoint.lean ====
module
public import proofs.«01_k».proof.Proof.Gen.NormIdeal.Frame
public import Idealize.ShloMosaic.Lib.Pipeline.ValueKit
public import Idealize.ShloMosaic.Lib.Pointwise
@[expose] public section
/-!
# What one grid point of the second normalization writes

Each row is divided by the root of its mean square, scaled by the gain and one plus the segment's scale, and shifted; the
512 rows, eight at a time, make the first block. The second block is their product with the weights.
-/
set_option maxRecDepth 65536
set_option maxHeartbeats 1000000
noncomputable section
namespace Cert.NormIdeal.Hand
open Cert.NormIdeal Cert.NormIdeal.Gen Idealize.ShloMosaic Idealize.SL.Sem

/-- One element of a normalized row: over the root of the row's mean square, times the gain and one plus the scale, shifted. -/
def modulated (x : Fin 4096 → EReal) (j : Fin 4096) (g s b : EReal) : EReal :=
  x j * Ideal.rsqrt (Ideal.div (∑ k, x k * x k) (Ideal.ofBits FTy.f32 1166016512#32) + Ideal.ofBits FTy.f32 897988541#32)
    * (g * (Ideal.ofBits FTy.f32 1065353216#32 + s)) + b

/-- Eight rows' payload. -/
theorem pay1 (g : FVec Ideal S1x4096 .f32) (s b : FVec Ideal S1x1x4096 .f32) (x : FVec Ideal S8x4096 .f32) (r : Fin 8) (j : Fin 4096) :
    k0_pay1 (F := Ideal) g s b x (ix2 r j)
      = modulated (fun k => x (ix2 r k)) j (g (ix2 0 j)) (s (ix3 0 0 j)) (b (ix3 0 0 j)) := by
  unfold modulated
  pointwise [k0_pay1]

/-- The product's payload. -/
theorem pay2 (h : FVec Ideal S512x4096 .bf16) (w : FVec Ideal S4096x2048 .bf16) (r : Fin 512) (s : Fin 2048) :
    k0_pay2 (F := Ideal) h w (ix2 r s) = ∑ k, (h (ix2 r k) : EReal) * (w (ix2 k s) : EReal) := by
  pointwise [k0_pay2]

/-- Trip `k` starts at row `8 k`. -/
theorem start : ∀ k : Fin k0_t1_loop.trips, k0_off1 k = ![8 * (k : ℕ), 0] := by decide +kernel

variable (c : Dev nD) (i : grid0.Coords)
  (a1 : Memref sig .tc .vmem S512x4096 .f32) (h1 : a1.IsWhole)
  (a2 : Memref sig .tc .vmem S1x4096 .f32) (h2 : a2.IsWhole)
  (a3 : Memref sig .tc .vmem S1x8x4096 .f32) (h3 : a3.IsWhole)
  (a4 : Memref sig .tc .vmem S4096x2048 .bf16) (h4 : a4.IsWhole)
  (a5 : Memref sig .tc .vmem S512x4096 .bf16) (h5 : a5.IsWhole)
  (a6 : Memref sig .tc .vmem S512x2048 .bf16) (h6 : a6.IsWhole)
  (x0 : FVec Ideal S512x4096 .f32) (x1 : FVec Ideal S1x4096 .f32) (x2 : FVec Ideal S1x8x4096 .f32) (x3 : FVec Ideal S4096x2048 .bf16)

/-- The rows of a block, normalized, from the vectors that the body loads first. -/
def rows (g : FVec Ideal S1x4096 .f32) (s b : FVec Ideal S1x1x4096 .f32) : FVec Ideal S512x4096 .bf16 := fun y =>
  modulated (fun k => x0 (ix2 (y 0) k)) (y 1) (g (ix2 0 (y 1))) (s (ix3 0 0 (y 1))) (b (ix3 0 0 (y 1)))

/-- The one store of a trip. -/
theorem trip_store (𝒱 : Variants) (bd : Option 𝒱.V) (g : FVec Ideal S1x4096 .f32) (s b : FVec Ideal S1x1x4096 .f32) (k : Fin k0_t1_loop.trips) :
    tripL_k0_t1 (F := Ideal) 𝒱 c bd i a1 h1 a2 h2 a3 h3 a4 h4 a5 h5 a6 h6 g s b (h1.unread x0) k
      = [⟨Rect.unit (s := S512x4096) (k0_off1 k) S8x4096.size (k0_off1_inb k),
          k0_pay1 (F := Ideal) g s b (View.readAt (Elt Ideal) a1.view (Rect.unit (s := S512x4096) (k0_off1 k) S8x4096.size (k0_off1_inb k)).toLoadRect (h1.unread x0))⟩] := by
  unfold tripL_k0_t1 trip_k0_t1
  rfl

/-- A trip's eight rows are rows of the block. -/
theorem trip_rows (g : FVec Ideal S1x4096 .f32) (s b : FVec Ideal S1x1x4096 .f32) (k : Fin k0_t1_loop.trips) (x : S8x4096.Idx) :
    k0_pay1 (F := Ideal) g s b (View.readAt (Elt Ideal) a1.view (Rect.unit (s := S512x4096) (k0_off1 k) S8x4096.size (k0_off1_inb k)).toLoadRect (h1.unread x0)) x
      = rows x0 g s b ((Rect.unit (s := S512x4096) (k0_off1 k) S8x4096.size (k0_off1_inb k)).emb x) := by
  have hk : (k : ℕ) < 64 := Nat.lt_of_lt_of_le k.isLt k0_t1_abs.2.1
  obtain ⟨r, j, rfl⟩ : ∃ (r : Fin 8) (j : Fin 4096), x = (ix2 r j : S8x4096.Idx) := ⟨x 0, x 1, eq_ix2 x⟩
  have e : (Rect.unit (s := S512x4096) (k0_off1 k) S8x4096.size (k0_off1_inb k)).emb (ix2 r j)
      = (ix2 ⟨8 * k + r, by omega⟩ j : S512x4096.Idx) := by
    funext a
    refine Fin.ext ?_
    show k0_off1 k a + 1 * ((ix2 r j : S8x4096.Idx) a : ℕ) = _
    rw [start]
    match a with
    | 0 => show 8 * (k : ℕ) + 1 * (r : ℕ) = 8 * k + r; omega
    | 1 => show 0 + 1 * (j : ℕ) = j; omega
  rw [e, pay1, View.readAt_eq_ld, Memref.IsWhole.read_unread]
  have hl : ∀ q : Fin 4096, View.ld (Val := Elt Ideal) (e' := .f32) (S := S512x4096) x0 (Rect.unit (s := S512x4096) (k0_off1 k) S8x4096.size (k0_off1_inb k)) (ix2 r q) = x0 (ix2 ⟨8 * k + r, by omega⟩ q) := fun q =>
    View.ld_unit_apply_of (Val := Elt Ideal) (e := .f32) (S := S512x4096) x0 (k0_off1 k) S8x4096.size (k0_off1_inb k) (ix2 r q) (ix2 ⟨8 * k + r, by omega⟩ q) (by
      intro a
      refine Eq.trans ?_ (congrArg (· + ((ix2 r q : S8x4096.Idx) a : ℕ)) (congrFun (start k) a)).symm
      match a with
      | 0 => rfl
      | 1 => exact (Nat.zero_add _).symm)
  exact congrArg (fun f => modulated f j (g (ix2 0 j)) (s (ix3 0 0 j)) (b (ix3 0 0 j))) (funext hl)

/-- Every store of the loop's first `n` trips is a block of the rows. -/
theorem loop_rows (𝒱 : Variants) (bd : Option 𝒱.V) (g : FVec Ideal S1x4096 .f32) (s b : FVec Ideal S1x1x4096 .f32) :
    ∀ n : ℕ, n ≤ k0_t1_loop.trips → ∀ p ∈ pb_k0_t1 (F := Ideal) 𝒱 c bd i a1 h1 a2 h2 a3 h3 a4 h4 a5 h5 a6 h6 g s b (h1.unread x0) n,
      ∀ x : p.1.shape.Idx, p.2 x = rows x0 g s b (p.1.emb x)
  | 0, _, p, hp, _ => absurd hp List.not_mem_nil
  | n + 1, hn, p, hp, x => by
    rw [pb_k0_t1_succ (F := Ideal) 𝒱 c bd i a1 h1 a2 h2 a3 h3 a4 h4 a5 h5 a6 h6 g s b (h1.unread x0) ⟨n, hn⟩, trip_store] at hp
    rcases List.mem_append.mp hp with hp | hp
    · obtain rfl := List.mem_singleton.mp hp
      exact trip_rows a1 h1 x0 g s b ⟨n, hn⟩ x
    · exact loop_rows 𝒱 bd g s b n (by omega) p hp x

/-- The gain, as the body loads it. -/
theorem load_gain (j : Fin 4096) : View.readAt (Elt Ideal) a2.view (Rect.unit (s := S1x4096) ![0, 0] S1x4096.size inb_S1x4096_S1x4096_0_0).toLoadRect (h2.unread x1) (ix2 0 j) = x1 (ix2 0 j) := by
  rw [View.readAt_eq_ld, Memref.IsWhole.read_unread]
  exact View.ld_unit_apply_of (Val := Elt Ideal) (e := .f32) (S := S1x4096) x1 ![0, 0] ![1, 4096] inb_S1x4096_S1x4096_0_0 (ix2 0 j) (ix2 0 j) (by intro x; fin_cases x <;> exact (Nat.zero_add _).symm)
/-- The scale, as the body loads it: row 4 of the modulation. -/
theorem load_scale (j : Fin 4096) : View.readAt (Elt Ideal) a3.view (Rect.unit (s := S1x8x4096) ![0, 4, 0] S1x1x4096.size inb_S1x8x4096_S1x1x4096_0_4_0).toLoadRect (h3.unread x2) (ix3 0 0 j) = x2 (ix3 0 4 j) := by
  rw [View.readAt_eq_ld, Memref.IsWhole.read_unread]
  exact View.ld_unit_apply_of (Val := Elt Ideal) (e := .f32) (S := S1x8x4096) x2 ![0, 4, 0] ![1, 1, 4096] inb_S1x8x4096_S1x1x4096_0_4_0 (ix3 0 0 j) (ix3 0 4 j) (by intro x; fin_cases x <;> first | rfl | exact (Nat.zero_add _).symm)
/-- The shift, as the body loads it: row 3 of the modulation. -/
theorem load_shift (j : Fin 4096) : View.readAt (Elt Ideal) a3.view (Rect.unit (s := S1x8x4096) ![0, 3, 0] S1x1x4096.size inb_S1x8x4096_S1x1x4096_0_3_0).toLoadRect (h3.unread x2) (ix3 0 0 j) = x2 (ix3 0 3 j) := by
  rw [View.readAt_eq_ld, Memref.IsWhole.read_unread]
  exact View.ld_unit_apply_of (Val := Elt Ideal) (e := .f32) (S := S1x8x4096) x2 ![0, 3, 0] ![1, 1, 4096] inb_S1x8x4096_S1x1x4096_0_3_0 (ix3 0 0 j) (ix3 0 3 j) (by intro x; fin_cases x <;> first | rfl | exact (Nat.zero_add _).symm)

/-- The stores of the first block leave the normalized rows. -/
theorem stored (y : S512x4096.Idx) : View.canon (kernelRun0_A (F := Ideal) c i a1 h1 a2 h2 a3 h3 a4 h4 a5 h5 a6 h6 x0 x1 x2 x3).1 y
    = rows x0 (View.readAt (Elt Ideal) a2.view (Rect.unit (s := S1x4096) ![0, 0] S1x4096.size inb_S1x4096_S1x4096_0_0).toLoadRect (h2.unread x1))
      (View.readAt (Elt Ideal) a3.view (Rect.unit (s := S1x8x4096) ![0, 4, 0] S1x1x4096.size inb_S1x8x4096_S1x1x4096_0_4_0).toLoadRect (h3.unread x2))
      (View.readAt (Elt Ideal) a3.view (Rect.unit (s := S1x8x4096) ![0, 3, 0] S1x1x4096.size inb_S1x8x4096_S1x1x4096_0_3_0).toLoadRect (h3.unread x2)) y := by
  refine View.canon_apply_of_pieces _ _ ?_ y (cover0_A_4 (F := Ideal) c i a1 h1 a2 h2 a3 h3 a4 h4 a5 h5 a6 h6 x0 x1 x2 x3 y)
  unfold kernelRun0_A
  dsimp only
  exact loop_rows c i a1 h1 a2 h2 a3 h3 a4 h4 a5 h5 a6 h6 x0 _ _ _ _ _ _ le_rfl

/-- The first block: the normalized rows. -/
theorem caseH (r : Fin 512) (j : Fin 4096) :
    out0_A_4 (F := Ideal) c i a1 h1 a2 h2 a3 h3 a4 h4 a5 h5 a6 h6 x0 x1 x2 x3 (ix2 r j)
      = modulated (fun k => x0 (ix2 r k)) j (x1 (ix2 0 j)) (x2 (ix3 0 4 j)) (x2 (ix3 0 3 j)) := by
  unfold out0_A_4
  rw [View.read_writes_junk_eq_canon]
  refine (stored c i a1 h1 a2 h2 a3 h3 a4 h4 a5 h5 a6 h6 x0 x1 x2 x3 (ix2 r j)).trans ?_
  unfold rows
  dsimp only
  exact (congrArg₂ (fun g s => modulated _ j g s _) (load_gain a2 h2 x1 j) (load_scale a3 h3 x2 j)).trans
    (congrArg (modulated _ j _ _) (load_shift a3 h3 x2 j))

/-- The second block: the normalized rows times the weights. -/
theorem caseQ (r : Fin 512) (s : Fin 2048) :
    out0_A_5 (F := Ideal) c i a1 h1 a2 h2 a3 h3 a4 h4 a5 h5 a6 h6 x0 x1 x2 x3 (ix2 r s)
      = ∑ k, modulated (fun k => x0 (ix2 r k)) k (x1 (ix2 0 k)) (x2 (ix3 0 4 k)) (x2 (ix3 0 3 k)) * (x3 (ix2 k s) : EReal) := by
  unfold out0_A_5
  rw [View.read_writes_junk_eq_canon]
  unfold kernelRun0_A
  dsimp only
  rw [View.canon_unit_zero (by funext a; fin_cases a <;> rfl), pay2]
  refine Finset.sum_congr rfl fun k _ => congrArg₂ (· * ·) ?_ ?_
  · rw [View.readCov_eq_canon']
    have e : (Rect.unit (s := S512x4096) ![0, 0] ![512, 4096] inb_S512x4096_S512x4096_0_0).toLoadRect.idx (ix2 r k) = (ix2 r k : S512x4096.Idx) := by
      funext a
      refine Fin.ext ?_
      match a with
      | 0 => show 0 + 1 * (r : ℕ) = r; omega
      | 1 => show 0 + 1 * (k : ℕ) = k; omega
    dsimp only
    rw [e]
    refine Eq.trans ?_ (caseH c i a1 h1 a2 h2 a3 h3 a4 h4 a5 h5 a6 h6 x0 x1 x2 x3 r k)
    unfold out0_A_4
    rw [View.read_writes_junk_eq_canon]
    unfold kernelRun0_A
    rfl
  · rw [View.readAt_eq_ld, Memref.IsWhole.read_unread]
    exact View.ld_unit_apply_of (Val := Elt Ideal) (e := .bf16) (S := S4096x2048) x3 ![0, 0] ![4096, 2048] inb_S4096x2048_S4096x2048_0_0 (ix2 k s) (ix2 k s) (by intro x; fin_cases x <;> exact (Nat.zero_add _).symm)

end Cert.NormIdeal.Hand
-- ==== Proof.NormReference.lean ====
module
public import proofs.«01_k».proof.Proof.Gen.NormReferenceIdeal.Run
public import proofs.«01_k».proof.Proof.NormPoint
public import Idealize.ShloMosaic.Lib.Pointwise
@[expose] public section
/-!
# The reference of the second normalization, row by row

The reference normalizes the context's rows and the two latent blocks separately and stacks them. It applies the gain, then one
plus the scale; a row of it is the kernel's, where the two factors are multiplied first.
-/
set_option maxRecDepth 65536
set_option maxHeartbeats 1000000
noncomputable section
namespace Cert.Norm.Hand
open Cert.NormReferenceIdeal Cert.NormReferenceIdeal.Gen Idealize.ShloMosaic Idealize.SL.Sem
open Cert.NormIdeal.Hand (modulated)

/-- The reference's context rows. -/
def rowsC (a0 : FVec Ideal S6144x4096 .f32) (a1 : FVec Ideal S4096 .f32) (a2 : FVec Ideal S3x8x4096 .f32) : FVec Ideal S4096x4096 .f32 :=
  (addf (mulf (mulf (mulf (extractStridedSlice S4096x4096 ![0, 0] a0 slices_S6144x4096_S4096x4096_0_0) (broadcastInDim S4096x4096 ![0, 1] bcast_S4096x1_S4096x4096_0_1 (Host.rsqrt (addf (Host.divf (broadcastInDim S4096x1 ![0] bcast_S4096_S4096x1_0 (Host.reduceAdd (mulf (extractStridedSlice S4096x4096 ![0, 0] a0 slices_S6144x4096_S4096x4096_0_0) (extractStridedSlice S4096x4096 ![0, 0] a0 slices_S6144x4096_S4096x4096_0_0)) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0, 1] bcast_S1x4096_S4096x4096_0_1 (broadcastInDim S1x4096 ![1] bcast_S4096_S1x4096_1 a1))) (broadcastInDim S4096x4096 ![0, 1] bcast_S1x4096_S4096x4096_0_1 (broadcastInDim S1x4096 ![1] bcast_S4096_S1x4096_1 (addf (broadcastInDim S4096 ![] bcast_S_S4096 (constant S_ .f32 0x3F800000#32)) (shapeCast _ (extractStridedSlice S1x4096 ![0, 0] (shapeCast _ (extractStridedSlice S3x1x4096 ![0, 4, 0] a2 slices_S3x8x4096_S3x1x4096_0_4_0) shapeCasts_S3x1x4096_S3x4096) slices_S3x4096_S1x4096_0_0) shapeCasts_S1x4096_S4096))))) (broadcastInDim S4096x4096 ![0, 1] bcast_S1x4096_S4096x4096_0_1 (broadcastInDim S1x4096 ![1] bcast_S4096_S1x4096_1 (shapeCast _ (extractStridedSlice S1x4096 ![0, 0] (shapeCast _ (extractStridedSlice S3x1x4096 ![0, 3, 0] a2 slices_S3x8x4096_S3x1x4096_0_3_0) shapeCasts_S3x1x4096_S3x4096) slices_S3x4096_S1x4096_0_0) shapeCasts_S1x4096_S4096))))

/-- The reference's latent rows. -/
def rowsL (a0 : FVec Ideal S6144x4096 .f32) (a1 : FVec Ideal S4096 .f32) (a2 : FVec Ideal S3x8x4096 .f32) : FVec Ideal S2048x4096 .f32 :=
  (shapeCast _ (addf (mulf (mulf (mulf (shapeCast _ (extractStridedSlice S2048x4096 ![4096, 0] a0 slices_S6144x4096_S2048x4096_4096_0) shapeCasts_S2048x4096_S2x1024x4096) (broadcastInDim S2x1024x4096 ![0, 1, 2] bcast_S2x1024x1_S2x1024x4096_0_1_2 (Host.rsqrt (addf (Host.divf (broadcastInDim S2x1024x1 ![0, 1] bcast_S2x1024_S2x1024x1_0_1 (Host.reduceAdd (mulf (shapeCast _ (extractStridedSlice S2048x4096 ![4096, 0] a0 slices_S6144x4096_S2048x4096_4096_0) shapeCasts_S2048x4096_S2x1024x4096) (shapeCast _ (extractStridedSlice S2048x4096 ![4096, 0] a0 slices_S6144x4096_S2048x4096_4096_0) shapeCasts_S2048x4096_S2x1024x4096)) (constant S_ .f32 0x00000000#32) reducesTo_S2x1024x4096_S2x1024_d2 h_S_)) (broadcastInDim S2x1024x1 ![] bcast_S_S2x1024x1 (constant S_ .f32 0x45800000#32))) (broadcastInDim S2x1024x1 ![] bcast_S_S2x1024x1 (constant S_ .f32 0x358637BD#32)))))) (broadcastInDim S2x1024x4096 ![0, 1, 2] bcast_S1x1x4096_S2x1024x4096_0_1_2 (broadcastInDim S1x1x4096 ![2] bcast_S4096_S1x1x4096_2 a1))) (broadcastInDim S2x1024x4096 ![0, 1, 2] bcast_S2x1x4096_S2x1024x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![1, 0] (shapeCast _ (extractStridedSlice S3x1x4096 ![0, 4, 0] a2 slices_S3x8x4096_S3x1x4096_0_4_0) shapeCasts_S3x1x4096_S3x4096) slices_S3x4096_S2x4096_1_0))))) (broadcastInDim S2x1024x4096 ![0, 1, 2] bcast_S2x1x4096_S2x1024x4096_0_1_2 (broadcastInDim S2x1x4096 ![0, 2] bcast_S2x4096_S2x1x4096_0_2 (extractStridedSlice S2x4096 ![1, 0] (shapeCast _ (extractStridedSlice S3x1x4096 ![0, 3, 0] a2 slices_S3x8x4096_S3x1x4096_0_3_0) shapeCasts_S3x1x4096_S3x4096) slices_S3x4096_S2x4096_1_0)))) shapeCasts_S2x1024x4096_S2048x4096)

/-- The gain and one plus the scale may be multiplied first. -/
theorem modulated_eq (x : Fin 4096 → EReal) (j : Fin 4096) (g s b : EReal) : modulated x j g s b
    = x j * Ideal.rsqrt (Ideal.div (∑ k, x k * x k) (Ideal.ofBits FTy.f32 1166016512#32) + Ideal.ofBits FTy.f32 897988541#32)
      * g * (Ideal.ofBits FTy.f32 1065353216#32 + s) + b := by
  unfold modulated
  rw [mul_assoc _ g]

/-- An element of the reference's context rows. -/
theorem at_C (a0 : FVec Ideal S6144x4096 .f32) (a1 : FVec Ideal S4096 .f32) (a2 : FVec Ideal S3x8x4096 .f32) (i j : Fin 4096) :
    rowsC a0 a1 a2 (ix2 i j) = modulated (fun k => a0 (ix2 ⟨i, by omega⟩ k)) j (a1 (ix1 j)) (a2 (ix3 0 4 j)) (a2 (ix3 0 3 j)) := by
  rw [modulated_eq]
  pointwise [rowsC]

/-- An element of the reference's latent rows: row `l` of block `b`. -/
theorem at_L (a0 : FVec Ideal S6144x4096 .f32) (a1 : FVec Ideal S4096 .f32) (a2 : FVec Ideal S3x8x4096 .f32) (b : Fin 2) (l : Fin 1024) (j : Fin 4096)
    (i : Fin 2048) (hi : i = ⟨b * 1024 + l, by omega⟩) :
    rowsL a0 a1 a2 (ix2 i j) = modulated (fun k => a0 (ix2 ⟨4096 + i, by omega⟩ k)) j (a1 (ix1 j)) (a2 (ix3 ⟨1 + b, by omega⟩ 4 j)) (a2 (ix3 ⟨1 + b, by omega⟩ 3 j)) := by
  subst hi
  rw [modulated_eq]
  pointwise [rowsL]

end Cert.Norm.Hand
-- ==== Proof.NormValue.lean ====
module
public import proofs.«01_k».proof.Proof.Gen.NormIdeal.Value
public import proofs.«01_k».proof.Proof.NormPoint
public import Idealize.ShloMosaic.Lib.Pipeline.ValueKit
public import Idealize.ShloMosaic.Lib.StableHlo.RunRead
@[expose] public section
/-!
# The second normalization and its projection to queries

The 12 row tiles of the grid together give the normalized rows, modulated by their segment, and their product with the weights.
-/
set_option maxRecDepth 65536
set_option maxHeartbeats 1000000
noncomputable section
namespace Cert.NormIdeal.Hand
open Cert.NormIdeal Cert.NormIdeal.Gen Idealize.ShloMosaic Idealize.ShloMosaic.TcCoe Idealize.SL.Sem

variable (m : (ℓ : Loc nD τ sig) → Buf (Elt Ideal) ℓ) (c : Dev nD)

/-- The rows to normalize. -/
def acts (i : Fin 6144) (k : Fin 4096) : EReal := m ((c : Thread nD τ).loc main_arg0) (ix2 i k)
/-- The gain. -/
def gain (j : Fin 4096) : EReal := m ((c : Thread nD τ).loc main_arg1) (ix1 j)
/-- A segment's shift: row 3 of its modulation. -/
def shift (g : Fin 3) (j : Fin 4096) : EReal := m ((c : Thread nD τ).loc main_arg2) (ix3 g 3 j)
/-- A segment's scale: row 4 of its modulation. -/
def scale (g : Fin 3) (j : Fin 4096) : EReal := m ((c : Thread nD τ).loc main_arg2) (ix3 g 4 j)
/-- The query weights. -/
def weights (k : Fin 4096) (j : Fin 2048) : EReal := m ((c : Thread nD τ).loc main_arg3) (ix2 k j)

/-- The segment of a row: the context's 4096 rows, then two latent blocks of 1024. -/
def segOf (i : Fin 6144) : Fin 3 := ⟨((i : ℕ) - 3072) / 1024, by omega⟩
/-- An element of the normalized, modulated rows. -/
def normed (i : Fin 6144) (j : Fin 4096) : EReal :=
  modulated (acts m c i) j (gain m c j) (scale m c (segOf i) j) (shift m c (segOf i) j)
/-- The first result: the rows. -/
def resultH : FVec Ideal S6144x4096 .bf16 := fun i => normed m c (i 0) (i 1)
/-- The second result: the rows times the weights. -/
def resultQ : FVec Ideal S6144x2048 .bf16 := fun i => ∑ k, normed m c (i 0) k * weights m c k (i 1)

/-- The row tile of a grid point. -/
def rowT (t : Fin cfg0.N) : Fin 12 := grid0.coords t 0
/-- The segment that a grid point's windows hold. -/
def seg (t : Fin cfg0.N) : Fin 3 := ⟨((rowT t : ℕ) - 6) / 2, by omega⟩
/-- The blocks that a grid point reads. -/
theorem idxI : ∀ t : Fin cfg0.N, win0_0.index t = ![(rowT t : ℕ), 0] ∧ win0_1.index t = ![0, 0]
    ∧ win0_2.index t = ![(seg t : ℕ), 0, 0] ∧ win0_3.index t = ![0, 0] := (by decide +kernel : ∀ t : Fin grid0.N, _)
/-- The blocks that a grid point writes. -/
theorem idxO : ∀ t : Fin cfg0.N, win0_4.index t = ![(rowT t : ℕ), 0] ∧ win0_5.index t = ![(rowT t : ℕ), 0] :=
  (by decide +kernel : ∀ t : Fin grid0.N, _)
/-- A tile's rows lie in the tile's segment. -/
theorem segOf_tile (t : Fin cfg0.N) (r : Fin 512) : segOf ⟨512 * rowT t + r, by omega⟩ = seg t :=
  Fin.ext (show (512 * (rowT t : ℕ) + r - 3072) / 1024 = ((rowT t : ℕ) - 6) / 2 by omega)

/-- The gain's array is the argument, as one row. -/
theorem V_v1 (j : Fin 4096) : (V m c main_v1 : FVec Ideal S1x4096 .f32) (ix2 0 j) = gain m c j := by
  have : V m c main_v1 = (shapeCast S1x4096 (m ((c : Thread nD τ).loc main_arg1) : FVec Ideal S4096 .f32)
      shapeCasts_S4096_S1x4096 : FVec Ideal S1x4096 .f32) := by
    unfold V
    after_reads_simp
    rfl
  rw [this]
  pointwise
  rfl
/-- The weights' array is the argument. -/
theorem V_v0 (k : Fin 4096) (j : Fin 2048) : (V m c main_v0 : FVec Ideal S4096x2048 .bf16) (ix2 k j) = weights m c k j := by
  have : V m c main_v0 = (truncf .bf16 (m ((c : Thread nD τ).loc main_arg3) : FVec Ideal S4096x2048 .f32)
      bitsLt_bf16_f32 : FVec Ideal S4096x2048 .bf16) := by
    unfold V
    after_reads_simp
  rw [this]
  pointwise
  rfl

/-- The rows' block. -/
theorem iblk0 (t : Fin cfg0.N) (r : Fin 512) (k : Fin 4096) :
    (iblk m c 0 t : FVec Ideal S512x4096 .f32) (ix2 r k) = acts m c ⟨512 * rowT t + r, by omega⟩ k := by
  have e : (win0_0.blk t).view.emb (ix2 r k) = (ix2 ⟨512 * rowT t + r, by omega⟩ k : S6144x4096.Idx) := by
    blk_ext [(idxI t).1]
  blk_simp [iblk]
  rw [V_main_arg0]
  exact congrArg (m ((c : Thread nD τ).loc main_arg0)) e
/-- The gain's block. -/
theorem iblk1 (t : Fin cfg0.N) (j : Fin 4096) :
    (iblk m c 1 t : FVec Ideal S1x4096 .f32) (ix2 0 j) = gain m c j := by
  have e : (win0_1.blk t).view.emb (ix2 0 j) = (ix2 0 j : S1x4096.Idx) := by
    blk_ext [(idxI t).2.1]
  exact (congrArg (V m c main_v1 : FVec Ideal S1x4096 .f32) e).trans (V_v1 m c j)
/-- The modulation's block, at the scale's row. -/
theorem iblk2s (t : Fin cfg0.N) (j : Fin 4096) :
    (iblk m c 2 t : FVec Ideal S1x8x4096 .f32) (ix3 0 4 j) = scale m c (seg t) j := by
  have e : (win0_2.blk t).view.emb (ix3 0 4 j) = (ix3 (seg t) 4 j : S3x8x4096.Idx) := by
    blk_ext [(idxI t).2.2.1]
  blk_simp [iblk]
  rw [V_main_arg2]
  exact congrArg (m ((c : Thread nD τ).loc main_arg2)) e
/-- The modulation's block, at the shift's row. -/
theorem iblk2b (t : Fin cfg0.N) (j : Fin 4096) :
    (iblk m c 2 t : FVec Ideal S1x8x4096 .f32) (ix3 0 3 j) = shift m c (seg t) j := by
  have e : (win0_2.blk t).view.emb (ix3 0 3 j) = (ix3 (seg t) 3 j : S3x8x4096.Idx) := by
    blk_ext [(idxI t).2.2.1]
  blk_simp [iblk]
  rw [V_main_arg2]
  exact congrArg (m ((c : Thread nD τ).loc main_arg2)) e
/-- The weights' block. -/
theorem iblk3 (t : Fin cfg0.N) (k : Fin 4096) (s : Fin 2048) :
    (iblk m c 3 t : FVec Ideal S4096x2048 .bf16) (ix2 k s) = weights m c k s := by
  have e : (win0_3.blk t).view.emb (ix2 k s) = (ix2 k s : S4096x2048.Idx) := by
    blk_ext [(idxI t).2.2.2]
  exact (congrArg (V m c main_v0 : FVec Ideal S4096x2048 .bf16) e).trans (V_v0 m c k s)

/-- What a grid point's body leaves, from blocks with known elements: the rows. -/
theorem bodyH (t : Fin cfg0.N) {x0 : FVec Ideal S512x4096 .f32} {x1 : FVec Ideal S1x4096 .f32} {x2 : FVec Ideal S1x8x4096 .f32}
    (e0 : ∀ r k, x0 (ix2 r k) = acts m c ⟨512 * rowT t + r, by omega⟩ k) (e1 : ∀ j, x1 (ix2 0 j) = gain m c j)
    (e2 : ∀ j, x2 (ix3 0 4 j) = scale m c (seg t) j) (e3 : ∀ j, x2 (ix3 0 3 j) = shift m c (seg t) j) (r : Fin 512) (j : Fin 4096) :
    modulated (fun k => x0 (ix2 r k)) j (x1 (ix2 0 j)) (x2 (ix3 0 4 j)) (x2 (ix3 0 3 j)) = normed m c ⟨512 * rowT t + r, by omega⟩ j := by
  unfold normed
  rw [segOf_tile, e1, e2, e3]
  exact congrArg (fun f => modulated f j _ _ _) (funext fun k => e0 r k)

/-- The rows' block, as an array. -/
def blockX (t : Fin cfg0.N) : FVec Ideal S512x4096 .f32 := iblk m c 0 t
/-- The gain's block, as an array. -/
def blockG (t : Fin cfg0.N) : FVec Ideal S1x4096 .f32 := iblk m c 1 t
/-- The modulation's block, as an array. -/
def blockM (t : Fin cfg0.N) : FVec Ideal S1x8x4096 .f32 := iblk m c 2 t
/-- The weights' block, as an array. -/
def blockW (t : Fin cfg0.N) : FVec Ideal S4096x2048 .bf16 := iblk m c 3 t
/-- What a grid point leaves in the rows' buffer. -/
def tileH (t : Fin cfg0.N) : FVec Ideal S512x4096 .bf16 :=
  out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (blockX m c t) (blockG m c t) (blockM m c t) (blockW m c t)
/-- What a grid point leaves in the product's buffer. -/
def tileQ (t : Fin cfg0.N) : FVec Ideal S512x2048 .bf16 :=
  out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (blockX m c t) (blockG m c t) (blockM m c t) (blockW m c t)

/-- A modulated element of a grid point's blocks. -/
theorem modulated_tile (t : Fin cfg0.N) (r : Fin 512) (j : Fin 4096) :
    modulated (fun k => blockX m c t (ix2 r k)) j (blockG m c t (ix2 0 j)) (blockM m c t (ix3 0 4 j)) (blockM m c t (ix3 0 3 j))
      = normed m c ⟨512 * rowT t + r, by omega⟩ j :=
  bodyH m c t (x0 := blockX m c t) (x1 := blockG m c t) (x2 := blockM m c t)
    (iblk0 m c t) (iblk1 m c t) (iblk2s m c t) (iblk2b m c t) r j

/-- A grid point leaves its tile of the rows. -/
theorem leftH (t : Fin cfg0.N) (r : Fin 512) (j : Fin 4096) :
    tileH m c t (ix2 r j) = normed m c ⟨512 * rowT t + r, by omega⟩ j := by
  unfold tileH
  rw [caseH]
  exact modulated_tile m c t r j

/-- A grid point leaves its tile of the product. -/
theorem leftQ (t : Fin cfg0.N) (r : Fin 512) (s : Fin 2048) :
    tileQ m c t (ix2 r s) = ∑ k, normed m c ⟨512 * rowT t + r, by omega⟩ k * weights m c k s := by
  unfold tileQ
  rw [caseQ]
  refine Finset.sum_congr rfl fun k _ => ?_
  rw [modulated_tile m c t r k]
  exact congrArg (fun w : EReal => normed m c ⟨512 * rowT t + r, by omega⟩ k * w) (iblk3 m c t k s)

/-- A tile of rows lies at its place. -/
theorem placeH (t : Fin cfg0.N) (y : S512x4096.Idx) :
    tileH m c t y = resultH m c ((win0_4.blk t).view.emb y) := by
  obtain ⟨r, j, rfl⟩ : ∃ (r : Fin 512) (j : Fin 4096), y = (ix2 r j : S512x4096.Idx) := ⟨y 0, y 1, eq_ix2 y⟩
  have e : (win0_4.blk t).view.emb (ix2 r j) = (ix2 ⟨512 * rowT t + r, by omega⟩ j : S6144x4096.Idx) := by
    blk_ext [(idxO t).1]
  exact (leftH m c t r j).trans (congrArg (resultH m c) e).symm

/-- A tile of the product lies at its place. -/
theorem placeQ (t : Fin cfg0.N) (y : S512x2048.Idx) :
    tileQ m c t y = resultQ m c ((win0_5.blk t).view.emb y) := by
  obtain ⟨r, s, rfl⟩ : ∃ (r : Fin 512) (s : Fin 2048), y = (ix2 r s : S512x2048.Idx) := ⟨y 0, y 1, eq_ix2 y⟩
  have e : (win0_5.blk t).view.emb (ix2 r s) = (ix2 ⟨512 * rowT t + r, by omega⟩ s : S6144x2048.Idx) := by
    blk_ext [(idxO t).2]
  exact (leftQ m c t r s).trans (congrArg (resultQ m c) e).symm

/-- A grid point writes back its tile of the rows. -/
theorem flushH (t : Fin cfg0.N) : (dats m 0 c).after 4 t = tileH m c t := by
  rw [after0_4]
  dsimp only [outsAt0, tileH, blockX, blockG, blockM, blockW]
/-- A grid point writes back its tile of the product. -/
theorem flushQ (t : Fin cfg0.N) : (dats m 0 c).after 5 t = tileQ m c t := by
  rw [after0_5]
  dsimp only [outsAt0, tileQ, blockX, blockG, blockM, blockW]

/-- After the run the first result's array is the rows. -/
theorem finalH : (dats m 0 c).arrAt 4 cfg0.N = resultH m c := by
  refine (dats m 0 c).arrAt_eq_of_covers 4 (resultH m c) (by decide +kernel) fun t hf y => ?_
  rw [flushH]
  blk_simp
  exact placeH m c t y

/-- After the run the second result's array is the product. -/
theorem finalQ : (dats m 0 c).arrAt 5 cfg0.N = resultQ m c := by
  refine (dats m 0 c).arrAt_eq_of_covers 5 (resultQ m c) (by decide +kernel) fun t hf y => ?_
  rw [flushQ]
  blk_simp
  exact placeQ m c t y

end Cert.NormIdeal.Hand
-- ==== Proof.NormResult.lean ====
module
public import proofs.«01_k».proof.Defs
public import proofs.«01_k».proof.Proof.Gen.Norm.Frame
public import proofs.«01_k».proof.Proof.Gen.NormIdeal.Frame
public import proofs.«01_k».proof.Proof.NormReference
public import proofs.«01_k».proof.Proof.NormValue
public import Idealize.ShloMosaic.Lib.Pipeline.Value
public import Idealize.ShloMosaic.Lib.Quiescent
public import Idealize.ShloMosaic.Adequacy
public import Idealize.ShloMosaic.Init
@[expose] public section
/-!
# The claims of the second normalization and its projection to queries

The reference's stacked rows are the kernel's rows, and both multiply them by the same weights.
-/
set_option maxRecDepth 65536
set_option maxHeartbeats 1000000
noncomputable section
namespace Cert.Norm.Hand
open Idealize.ShloMosaic Idealize.ShloMosaic.TcCoe Idealize.SL.Sem

section
open Cert.NormReferenceIdeal Cert.NormReferenceIdeal.Gen

/-- The reference's rows: the context's, then the latents'. -/
def rowsAll (a0 : FVec Ideal S6144x4096 .f32) (a1 : FVec Ideal S4096 .f32) (a2 : FVec Ideal S3x8x4096 .f32) : FVec Ideal S6144x4096 .f32 :=
  concatenate S6144x4096 0 [⟨S4096x4096, rowsC a0 a1 a2⟩, ⟨S2048x4096, rowsL a0 a1 a2⟩] facts.concatenates_S4096x4096_S2048x4096_S6144x4096_d0

/-- The reference's first result. -/
def refH (a0 : FVec Ideal S6144x4096 .f32) (a1 : FVec Ideal S4096 .f32) (a2 : FVec Ideal S3x8x4096 .f32) : FVec Ideal S6144x4096 .bf16 :=
  truncf .bf16 (rowsAll a0 a1 a2) facts.bitsLt_bf16_f32
/-- The reference's second result. -/
def refQ (a0 : FVec Ideal S6144x4096 .f32) (a1 : FVec Ideal S4096 .f32) (a2 : FVec Ideal S3x8x4096 .f32) (a3 : FVec Ideal S4096x2048 .f32) : FVec Ideal S6144x2048 .bf16 :=
  truncf .bf16 (Host.dotGeneral dot_S6144x4096_S4096x2048_S6144x2048_1_0_0_1_n_n none (rowsAll a0 a1 a2) a3) facts.bitsLt_bf16_f32

/-- Rows 0 to 4095 are the context's. -/
theorem all_C (a0 : FVec Ideal S6144x4096 .f32) (a1 : FVec Ideal S4096 .f32) (a2 : FVec Ideal S3x8x4096 .f32) (i : Fin 6144) (j : Fin 4096) (h : (i : ℕ) < 4096) :
    rowsAll a0 a1 a2 (ix2 i j) = rowsC a0 a1 a2 (ix2 ⟨i, h⟩ j) :=
  concatenate_pair_apply_left _ (rowsC a0 a1 a2) (rowsL a0 a1 a2) _ (ix2 i j) rfl (ix2 ⟨i, h⟩ j) fun b => by fin_cases b <;> rfl

/-- The other rows are the latents'. -/
theorem all_L (a0 : FVec Ideal S6144x4096 .f32) (a1 : FVec Ideal S4096 .f32) (a2 : FVec Ideal S3x8x4096 .f32) (i : Fin 6144) (j : Fin 4096) (i' : Fin 2048) (h : (i' : ℕ) + 4096 = i) :
    rowsAll a0 a1 a2 (ix2 i j) = rowsL a0 a1 a2 (ix2 i' j) :=
  concatenate_pair_apply_right _ (rowsC a0 a1 a2) (rowsL a0 a1 a2) _ (ix2 i j) rfl rfl (ix2 i' j)
    (fun b hb => by fin_cases b; exact absurd rfl hb; rfl) h

/-- An element of the reference's rows. -/
theorem at_all (a0 : FVec Ideal S6144x4096 .f32) (a1 : FVec Ideal S4096 .f32) (a2 : FVec Ideal S3x8x4096 .f32) (i : Fin 6144) (j : Fin 4096) :
    rowsAll a0 a1 a2 (ix2 i j) = Cert.NormIdeal.Hand.modulated (fun k => a0 (ix2 i k)) j (a1 (ix1 j))
      (a2 (ix3 (Cert.NormIdeal.Hand.segOf i) 4 j)) (a2 (ix3 (Cert.NormIdeal.Hand.segOf i) 3 j)) := by
  by_cases h : (i : ℕ) < 4096
  · have hs : Cert.NormIdeal.Hand.segOf i = 0 := Fin.ext (show ((i : ℕ) - 3072) / 1024 = 0 by omega)
    rw [hs]
    exact (all_C a0 a1 a2 i j h).trans (at_C a0 a1 a2 ⟨i, h⟩ j)
  · have hb : ((i : ℕ) - 4096) / 1024 < 2 := by omega
    have hl : ((i : ℕ) - 4096) % 1024 < 1024 := Nat.mod_lt _ (by decide)
    have hs : Cert.NormIdeal.Hand.segOf i = ⟨1 + ((i : ℕ) - 4096) / 1024, by omega⟩ :=
      Fin.ext (show ((i : ℕ) - 3072) / 1024 = 1 + ((i : ℕ) - 4096) / 1024 by omega)
    have hi : (⟨4096 + ((i : ℕ) - 4096), by omega⟩ : Fin 6144) = i := Fin.ext (show 4096 + ((i : ℕ) - 4096) = i by omega)
    rw [hs]
    refine (all_L a0 a1 a2 i j ⟨(i : ℕ) - 4096, by omega⟩ (show (i : ℕ) - 4096 + 4096 = i by omega)).trans
      ((at_L a0 a1 a2 ⟨_, hb⟩ ⟨_, hl⟩ j ⟨(i : ℕ) - 4096, by omega⟩ (Fin.ext (by
        show (i : ℕ) - 4096 = ((i : ℕ) - 4096) / 1024 * 1024 + ((i : ℕ) - 4096) % 1024
        omega))).trans ?_)
    exact congrArg (fun q : Fin 6144 => Cert.NormIdeal.Hand.modulated (fun k => a0 (ix2 q k)) j _ _ _) hi

/-- An element of the reference's second result. -/
theorem at_Q (a0 : FVec Ideal S6144x4096 .f32) (a1 : FVec Ideal S4096 .f32) (a2 : FVec Ideal S3x8x4096 .f32) (a3 : FVec Ideal S4096x2048 .f32) (i : Fin 6144) (j : Fin 2048) :
    refQ a0 a1 a2 a3 (ix2 i j) = ∑ k, (rowsAll a0 a1 a2 (ix2 i k) : EReal) * (a3 (ix2 k j) : EReal) := by
  pointwise [refQ]

end

variable (m : (ℓ : Loc Cert.NormIdeal.nD Cert.NormIdeal.τ Cert.NormIdeal.sig) → Buf (Elt Ideal) ℓ) (c : Dev Cert.NormIdeal.nD)
  {a0 : FVec Ideal Cert.NormReferenceIdeal.S6144x4096 .f32} {a1 : FVec Ideal Cert.NormReferenceIdeal.S4096 .f32}
  {a2 : FVec Ideal Cert.NormReferenceIdeal.S3x8x4096 .f32} {a3 : FVec Ideal Cert.NormReferenceIdeal.S4096x2048 .f32}
  (h0 : a0 = m ((c : Thread Cert.NormIdeal.nD Cert.NormIdeal.τ).loc Cert.NormIdeal.main_arg0))
  (h1 : a1 = m ((c : Thread Cert.NormIdeal.nD Cert.NormIdeal.τ).loc Cert.NormIdeal.main_arg1))
  (h2 : a2 = m ((c : Thread Cert.NormIdeal.nD Cert.NormIdeal.τ).loc Cert.NormIdeal.main_arg2))
  (h3 : a3 = m ((c : Thread Cert.NormIdeal.nD Cert.NormIdeal.τ).loc Cert.NormIdeal.main_arg3))

include h0 h1 h2
/-- From equal arguments the reference's rows are the kernel's. -/
theorem rows_eq (i : Fin 6144) (j : Fin 4096) : (rowsAll a0 a1 a2 (ix2 i j) : EReal) = Cert.NormIdeal.Hand.normed m c i j := by
  rw [at_all, h0, h1, h2]
  rfl

/-- From equal arguments the first results are equal. -/
theorem resultH_eq : refH a0 a1 a2 = Cert.NormIdeal.Hand.resultH m c := by
  funext y
  obtain ⟨i, j, rfl⟩ : ∃ (i : Fin 6144) (j : Fin 4096), y = (ix2 i j : Cert.NormReferenceIdeal.S6144x4096.Idx) := ⟨y 0, y 1, eq_ix2 y⟩
  exact rows_eq m c h0 h1 h2 i j

include h3
/-- From equal arguments the second results are equal. -/
theorem resultQ_eq : refQ a0 a1 a2 a3 = Cert.NormIdeal.Hand.resultQ m c := by
  funext y
  obtain ⟨i, j, rfl⟩ : ∃ (i : Fin 6144) (j : Fin 2048), y = (ix2 i j : Cert.NormReferenceIdeal.S6144x2048.Idx) := ⟨y 0, y 1, eq_ix2 y⟩
  refine (at_Q a0 a1 a2 a3 i j).trans (Finset.sum_congr rfl fun k _ => ?_)
  rw [rows_eq m c h0 h1 h2, h3]
  rfl
omit h0 h1 h2 h3

/-- The reference runs to an end, keeps its arguments and leaves every semaphore at zero. -/
theorem reference_frame : Cert.quiescent_NormReferenceIdeal := fun m g _ =>
  (θ_run _ _ _).mono (fun r h => ⟨fun c => (h c).2.2, Idealize.ShloMosaic.sem_eq_zero_of_no_sems (by decide) r.2⟩)
    (Cert.NormReferenceIdeal.Value.run (F := Ideal) m g)

/-- The kernel and the reference end with equal results. -/
theorem algebraic : Cert.algebraic_NormIdeal_NormReferenceIdeal := by
  intro m g m' g' _ hargs
  refine ⟨fun c => Cert.NormIdeal.Hand.resultH m c, fun c => Cert.NormIdeal.Hand.resultQ m c, ?_, ?_⟩
  · refine (θ_run _ _ _).mono (fun r h c => ?_) (Cert.NormIdeal.Value.run_blocks m g)
    exact ⟨(h c).1.trans (Cert.NormIdeal.Hand.finalH m c), (h c).2.1.trans (Cert.NormIdeal.Hand.finalQ m c), (h c).2.2⟩
  · refine (θ_run _ _ _).mono (fun r h c => ?_) (Cert.NormReferenceIdeal.Value.run m' g')
    obtain ⟨e0, e1, e2, e3⟩ := hargs c
    exact ⟨(h c).1.trans (resultH_eq m c e0 e1 e2), (h c).2.1.trans (resultQ_eq m c e0 e1 e2 e3), (h c).2.2⟩

end Cert.Norm.Hand
-- ==== Proof.lean ====
/- The claim's proof: the generated frames of all programs, and each kernel's results, which are the same functions of the
   arguments as its reference's: the recurrence (`Proof/KernelValue`, `Proof/RefResult`), the two projections before it
   (`Proof/QkvrResult`, `Proof/FourierResult`), the one after it (`Proof/OutResult`) and the second normalization with its
   projection (`Proof/NormResult`). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Qkvr
public import proofs.«01_k».proof.Proof.Gen.Qkvr.Frame
public import proofs.«01_k».proof.Proof.Gen.QkvrIdeal
public import proofs.«01_k».proof.Proof.Gen.QkvrIdeal.Frame
public import proofs.«01_k».proof.Proof.Gen.QkvrIdeal.Value
public import proofs.«01_k».proof.Proof.Gen.QkvrReferenceIdeal
public import proofs.«01_k».proof.Proof.Gen.QkvrReferenceIdeal.Run
public import proofs.«01_k».proof.Proof.Gen.Fourier
public import proofs.«01_k».proof.Proof.Gen.Fourier.Frame
public import proofs.«01_k».proof.Proof.Gen.FourierIdeal
public import proofs.«01_k».proof.Proof.Gen.FourierIdeal.Frame
public import proofs.«01_k».proof.Proof.Gen.FourierIdeal.Value
public import proofs.«01_k».proof.Proof.Gen.FourierReferenceIdeal
public import proofs.«01_k».proof.Proof.Gen.FourierReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.KernelValue
public import proofs.«01_k».proof.Proof.RefResult
public import proofs.«01_k».proof.Proof.Precondition
public import proofs.«01_k».proof.Proof.QkvrResult
public import proofs.«01_k».proof.Proof.FourierResult
public import proofs.«01_k».proof.Proof.OutResult
public import proofs.«01_k».proof.Proof.NormResult
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to an end on every memory, keeps its arguments and leaves every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
          r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run _ _ _).mono (fun r h => ⟨fun c => (h c).2.2.2, Idealize.ShloMosaic.sem_eq_zero_of_no_sems (by decide) r.2⟩)
    (Cert.ReferenceIdeal.Value.run (F := Ideal) m g)

/-- Under the precondition the kernel's arguments are good inputs. -/
theorem good_of_pre [Cert.Pre_gates_bounded.Facts] {m : (ℓ : Loc Cert.KernelIdeal.nD Cert.KernelIdeal.τ Cert.KernelIdeal.sig) → Buf (Elt Ideal) ℓ}
    (h : Cert.Pre_KernelIdeal_gates_bounded m) (c : Dev Cert.KernelIdeal.nD) : (Cert.KernelIdeal.Hand.inputs m c).Good :=
  Cert.Gla.pre_good (h c).1 (h c).2.1 (h c).2.2

/-- The claim for the recurrence: the kernel and the reference end with equal results. -/
theorem recurrence : Cert.algebraic_KernelIdeal_ReferenceIdeal_pre_gates_bounded
    (hPre_gates_bounded := Cert.Gla.pre_facts) := by
  intro m g m' g' hpre hargs
  haveI := Cert.Gla.pre_facts
  have hgood := fun c => good_of_pre hpre c
  have hin : ∀ c, Cert.ReferenceIdeal.Hand.inputs m' c = Cert.KernelIdeal.Hand.inputs m c := fun c => by
    obtain ⟨h0, h1, h2, h3, h4, h5, h6⟩ := hargs c
    unfold Cert.ReferenceIdeal.Hand.inputs Cert.KernelIdeal.Hand.inputs
    rw [h0, h1, h2, h3, h4, h5, h6]
  refine ⟨fun c => Cert.KernelIdeal.Hand.attnArr (Cert.KernelIdeal.Hand.inputs m c),
    fun c => Cert.KernelIdeal.Hand.statesArr (Cert.KernelIdeal.Hand.inputs m c) 0,
    fun c => Cert.KernelIdeal.Hand.statesArr (Cert.KernelIdeal.Hand.inputs m c) 1, ?_, ?_⟩
  · refine (θ_run _ _ _).mono (fun r h c => ?_) (Cert.KernelIdeal.Value.run_blocks m g)
    obtain ⟨h0, h1, h2, hk⟩ := h c
    exact ⟨h0.trans (Cert.KernelIdeal.Hand.final10 m c (hgood c)), h1.trans (Cert.KernelIdeal.Hand.final11 m c (hgood c)),
      h2.trans (Cert.KernelIdeal.Hand.final12 m c (hgood c)), hk⟩
  · refine (θ_run _ _ _).mono (fun r h c => ?_) (Cert.ReferenceIdeal.Value.run m' g')
    obtain ⟨h0, h1, h2, hk⟩ := h c
    have hg' : (Cert.ReferenceIdeal.Hand.inputs m' c).Good := by
      rw [hin c]
      exact hgood c
    refine ⟨h0.trans ((Cert.ReferenceIdeal.Hand.result_v79 m' c hg').trans ?_),
      h1.trans ((Cert.ReferenceIdeal.Hand.result_v80 m' c hg').trans ?_),
      h2.trans ((Cert.ReferenceIdeal.Hand.result_v81 m' c hg').trans ?_), hk⟩ <;> rw [hin c]

/-- The claim: every program's frame, the kernels' change of arithmetic, and the equality of each kernel's results with its
reference's: the recurrence, the two projections before it, the output projection, and the second normalization with its projection to queries. -/
theorem claim : Cert.Claim :=
  ⟨Cert.Kernel.Gen.facts, Cert.KernelIdeal.Gen.facts, Cert.ReferenceIdeal.Gen.facts,
    Cert.Qkvr.Gen.facts, Cert.QkvrIdeal.Gen.facts, Cert.QkvrReferenceIdeal.Gen.facts,
    Cert.Fourier.Gen.facts, Cert.FourierIdeal.Gen.facts, Cert.FourierReferenceIdeal.Gen.facts,
    Cert.Out.Gen.facts, Cert.OutIdeal.Gen.facts, Cert.OutReferenceIdeal.Gen.facts,
    Cert.Norm.Gen.facts, Cert.NormIdeal.Gen.facts, Cert.NormReferenceIdeal.Gen.facts, Cert.Gla.pre_facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    fun m ρ _ => Cert.Qkvr.Gen.frame m ρ, fun m ρ _ => Cert.QkvrIdeal.Gen.frame m ρ, Cert.Qkvr.Hand.reference_frame,
    fun m ρ _ => Cert.Fourier.Gen.frame m ρ, fun m ρ _ => Cert.FourierIdeal.Gen.frame m ρ, Cert.Fourier.Hand.reference_frame,
    fun m ρ _ => Cert.Out.Gen.frame m ρ, fun m ρ _ => Cert.OutIdeal.Gen.frame m ρ, Cert.Out.Hand.reference_frame,
    fun m ρ _ => Cert.Norm.Gen.frame m ρ, fun m ρ _ => Cert.NormIdeal.Gen.frame m ρ, Cert.Norm.Hand.reference_frame,
    trivial, recurrence, trivial, Cert.Qkvr.Hand.algebraic, trivial, Cert.Fourier.Hand.algebraic,
    trivial, Cert.Out.Hand.algebraic, trivial, Cert.Norm.Hand.algebraic⟩

end Cert.Proof

end
